-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)
  ∧ IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "q_scale" .f32 0x3E38AA3B#32 ((8⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)) (v2 : (c : Dev Cert.Kernel2Ideal.nD) → Buf (Elt Ideal) ((c.tc : Thread Cert.Kernel2Ideal.nD Cert.Kernel2Ideal.τ).loc Cert.Kernel2Ideal.main_v27_2)) (v3 : (c : Dev Cert.Kernel2Ideal.nD) → Buf (Elt Ideal) ((c.tc : Thread Cert.Kernel2Ideal.nD Cert.Kernel2Ideal.τ).loc Cert.Kernel2Ideal.main_v27_3)) (v4 : (c : Dev Cert.Kernel2Ideal.nD) → Buf (Elt Ideal) ((c.tc : Thread Cert.Kernel2Ideal.nD Cert.Kernel2Ideal.τ).loc Cert.Kernel2Ideal.main_v27_6)) (v5 : (c : Dev Cert.Kernel2Ideal.nD) → Buf (Elt Ideal) ((c.tc : Thread Cert.Kernel2Ideal.nD Cert.Kernel2Ideal.τ).loc Cert.Kernel2Ideal.main_v27_8)) (v6 : (c : Dev Cert.Kernel2Ideal.nD) → Buf (Elt Ideal) ((c.tc : Thread Cert.Kernel2Ideal.nD Cert.Kernel2Ideal.τ).loc Cert.Kernel2Ideal.main_v27_9)) (v7 : (c : Dev Cert.Kernel2Ideal.nD) → Buf (Elt Ideal) ((c.tc : Thread Cert.Kernel2Ideal.nD Cert.Kernel2Ideal.τ).loc Cert.Kernel2Ideal.main_v27_7)) (v8 : (c : Dev Cert.Kernel2Ideal.nD) → Buf (Elt Ideal) ((c.tc : Thread Cert.Kernel2Ideal.nD Cert.Kernel2Ideal.τ).loc Cert.Kernel2Ideal.main_v27_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_v27_2) = v2 c
          ∧ r.2.mem ((c.tc : Thread Cert.Kernel2Ideal.nD Cert.Kernel2Ideal.τ).loc Cert.Kernel2Ideal.main_v27_3) = v3 c
          ∧ r.2.mem ((c.tc : Thread Cert.Kernel2Ideal.nD Cert.Kernel2Ideal.τ).loc Cert.Kernel2Ideal.main_v27_6) = v4 c
          ∧ r.2.mem ((c.tc : Thread Cert.Kernel2Ideal.nD Cert.Kernel2Ideal.τ).loc Cert.Kernel2Ideal.main_v27_8) = v5 c
          ∧ r.2.mem ((c.tc : Thread Cert.Kernel2Ideal.nD Cert.Kernel2Ideal.τ).loc Cert.Kernel2Ideal.main_v27_9) = v6 c
          ∧ r.2.mem ((c.tc : Thread Cert.Kernel2Ideal.nD Cert.Kernel2Ideal.τ).loc Cert.Kernel2Ideal.main_v27_7) = v7 c
          ∧ r.2.mem ((c.tc : Thread Cert.Kernel2Ideal.nD Cert.Kernel2Ideal.τ).loc Cert.Kernel2Ideal.main_v27_10) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v70) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_v84) = v4 c
          ∧ r.2.mem ((c.tc : Thread Cert.Reference2Ideal.nD Cert.Reference2Ideal.τ).loc Cert.Reference2Ideal.main_v85) = v5 c
          ∧ r.2.mem ((c.tc : Thread Cert.Reference2Ideal.nD Cert.Reference2Ideal.τ).loc Cert.Reference2Ideal.main_v86) = v6 c
          ∧ r.2.mem ((c.tc : Thread Cert.Reference2Ideal.nD Cert.Reference2Ideal.τ).loc Cert.Reference2Ideal.main_v87) = v7 c
          ∧ r.2.mem ((c.tc : Thread Cert.Reference2Ideal.nD Cert.Reference2Ideal.τ).loc Cert.Reference2Ideal.main_v90) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)) (v3 : (c : Dev Cert.Kernel3Ideal.nD) → Buf (Elt Ideal) ((c.tc : Thread Cert.Kernel3Ideal.nD Cert.Kernel3Ideal.τ).loc Cert.Kernel3Ideal.main_v14_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_v45) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "q_scale" .f32 0x3E38AA3B#32 ((8⁻¹ * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v31_0)) (v1 : (c : Dev Cert.Kernel4Ideal.nD) → Buf (Elt Ideal) ((c.tc : Thread Cert.Kernel4Ideal.nD Cert.Kernel4Ideal.τ).loc Cert.Kernel4Ideal.main_v31_1)) (v2 : (c : Dev Cert.Kernel4Ideal.nD) → Buf (Elt Ideal) ((c.tc : Thread Cert.Kernel4Ideal.nD Cert.Kernel4Ideal.τ).loc Cert.Kernel4Ideal.main_v31_2)) (v3 : (c : Dev Cert.Kernel4Ideal.nD) → Buf (Elt Ideal) ((c.tc : Thread Cert.Kernel4Ideal.nD Cert.Kernel4Ideal.τ).loc Cert.Kernel4Ideal.main_v31_3)) (v4 : (c : Dev Cert.Kernel4Ideal.nD) → Buf (Elt Ideal) ((c.tc : Thread Cert.Kernel4Ideal.nD Cert.Kernel4Ideal.τ).loc Cert.Kernel4Ideal.main_v31_6)) (v5 : (c : Dev Cert.Kernel4Ideal.nD) → Buf (Elt Ideal) ((c.tc : Thread Cert.Kernel4Ideal.nD Cert.Kernel4Ideal.τ).loc Cert.Kernel4Ideal.main_v31_8)) (v6 : (c : Dev Cert.Kernel4Ideal.nD) → Buf (Elt Ideal) ((c.tc : Thread Cert.Kernel4Ideal.nD Cert.Kernel4Ideal.τ).loc Cert.Kernel4Ideal.main_v31_9)) (v7 : (c : Dev Cert.Kernel4Ideal.nD) → Buf (Elt Ideal) ((c.tc : Thread Cert.Kernel4Ideal.nD Cert.Kernel4Ideal.τ).loc Cert.Kernel4Ideal.main_v31_7)) (v8 : (c : Dev Cert.Kernel4Ideal.nD) → Buf (Elt Ideal) ((c.tc : Thread Cert.Kernel4Ideal.nD Cert.Kernel4Ideal.τ).loc Cert.Kernel4Ideal.main_v31_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31_0) = v0 c
          ∧ r.2.mem ((c.tc : Thread Cert.Kernel4Ideal.nD Cert.Kernel4Ideal.τ).loc Cert.Kernel4Ideal.main_v31_1) = v1 c
          ∧ r.2.mem ((c.tc : Thread Cert.Kernel4Ideal.nD Cert.Kernel4Ideal.τ).loc Cert.Kernel4Ideal.main_v31_2) = v2 c
          ∧ r.2.mem ((c.tc : Thread Cert.Kernel4Ideal.nD Cert.Kernel4Ideal.τ).loc Cert.Kernel4Ideal.main_v31_3) = v3 c
          ∧ r.2.mem ((c.tc : Thread Cert.Kernel4Ideal.nD Cert.Kernel4Ideal.τ).loc Cert.Kernel4Ideal.main_v31_6) = v4 c
          ∧ r.2.mem ((c.tc : Thread Cert.Kernel4Ideal.nD Cert.Kernel4Ideal.τ).loc Cert.Kernel4Ideal.main_v31_8) = v5 c
          ∧ r.2.mem ((c.tc : Thread Cert.Kernel4Ideal.nD Cert.Kernel4Ideal.τ).loc Cert.Kernel4Ideal.main_v31_9) = v6 c
          ∧ r.2.mem ((c.tc : Thread Cert.Kernel4Ideal.nD Cert.Kernel4Ideal.τ).loc Cert.Kernel4Ideal.main_v31_7) = v7 c
          ∧ r.2.mem ((c.tc : Thread Cert.Kernel4Ideal.nD Cert.Kernel4Ideal.τ).loc Cert.Kernel4Ideal.main_v31_10) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_v78) = v3 c
          ∧ r.2.mem ((c.tc : Thread Cert.Reference4Ideal.nD Cert.Reference4Ideal.τ).loc Cert.Reference4Ideal.main_v84) = v4 c
          ∧ r.2.mem ((c.tc : Thread Cert.Reference4Ideal.nD Cert.Reference4Ideal.τ).loc Cert.Reference4Ideal.main_v85) = v5 c
          ∧ r.2.mem ((c.tc : Thread Cert.Reference4Ideal.nD Cert.Reference4Ideal.τ).loc Cert.Reference4Ideal.main_v86) = v6 c
          ∧ r.2.mem ((c.tc : Thread Cert.Reference4Ideal.nD Cert.Reference4Ideal.τ).loc Cert.Reference4Ideal.main_v87) = v7 c
          ∧ r.2.mem ((c.tc : Thread Cert.Reference4Ideal.nD Cert.Reference4Ideal.τ).loc Cert.Reference4Ideal.main_v90) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x8192x8x64 : Shape := ⟨4, ![2, 8192, 8, 64]⟩
abbrev S1x8 : Shape := ⟨2, ![1, 8]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S2x8192x8x64 .f32) (main_arg1 : FVec F S2x8192x8x64 .f32) (main_arg2 : FVec F S2x8192x8x64 .f32) (main_arg3 : FVec F S1x8 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x8x64 .f32 := Host.absf main_arg1
  let main_cst_0 : FVec F S_ .f32 := constant S_ .f32 0x7F800000#32
  let main_v5 : FVec F S2x8192x8x64 .f32 := broadcastInDim S2x8192x8x64 ![] bcast_S_S2x8192x8x64 main_cst_0
  let main_v6 : IVec S2x8192x8x64 1 := cmpf .olt main_v4 main_v5
  let main_c_1 : IVec S_ 1 := constantI S_ 1 1#1
  let main_v7 : IVec S_ 1 := (fun x v => Host.reduce IntOp.andi x v reducesTo_S2x8192x8x64_S_d0_1_2_3 h_S_) main_v6 main_c_1
  let main_v8 : IVec S_ 1 := andi main_v3 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  main_v13
-- ==== Kernel.lean ====
abbrev S2x8192x8x64 : Shape := ⟨4, ![2, 8192, 8, 64]⟩
abbrev S1x8 : Shape := ⟨2, ![1, 8]⟩
abbrev S16384x512 : Shape := ⟨2, ![16384, 512]⟩
abbrev S64x256x512 : Shape := ⟨3, ![64, 256, 512]⟩
abbrev S64x512x256 : Shape := ⟨3, ![64, 512, 256]⟩
abbrev S8 : Shape := ⟨1, ![8]⟩
abbrev S256x256 : Shape := ⟨2, ![256, 256]⟩
abbrev S8192x256 : Shape := ⟨2, ![8192, 256]⟩
abbrev S32x256x256 : Shape := ⟨3, ![32, 256, 256]⟩
abbrev S4x128x256 : Shape := ⟨3, ![4, 128, 256]⟩
abbrev S256x128 : Shape := ⟨2, ![256, 128]⟩
abbrev S1 : Shape := ⟨1, ![1]⟩
abbrev S1x256 : Shape := ⟨2, ![1, 256]⟩
abbrev S1x128x256 : Shape := ⟨3, ![1, 128, 256]⟩
abbrev S128x256 : Shape := ⟨2, ![128, 256]⟩
abbrev S1x64x256 : Shape := ⟨3, ![1, 64, 256]⟩
abbrev S64x256 : Shape := ⟨2, ![64, 256]⟩

abbrev nBuf : Space → Nat
  | .hbm => 12
  | .vmem => 9
  | .smem => 1
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S1x8, .f32⟩
  | .hbm, ⟨4, _⟩ => ⟨S16384x512, .f32⟩
  | .hbm, ⟨5, _⟩ => ⟨S16384x512, .bf16⟩
  | .hbm, ⟨6, _⟩ => ⟨S64x256x512, .f32⟩
  | .hbm, ⟨7, _⟩ => ⟨S64x512x256, .f32⟩
  | .hbm, ⟨8, _⟩ => ⟨S64x512x256, .bf16⟩
  | .hbm, ⟨9, _⟩ => ⟨S8, .f32⟩
  | .hbm, ⟨10, _⟩ => ⟨S16384x512, .f32⟩
  | .hbm, ⟨11, _⟩ => ⟨S16384x512, .bf16⟩
  | .local _ .vmem, ⟨0, _⟩ => ⟨S256x256, .f32⟩
  | .local _ .vmem, ⟨1, _⟩ => ⟨S256x256, .f32⟩
  | .local _ .vmem, ⟨2, _⟩ => ⟨S8192x256, .bf16⟩
  | .local _ .vmem, ⟨3, _⟩ => ⟨S8192x256, .bf16⟩
  | .local _ .vmem, ⟨4, _⟩ => ⟨S32x256x256, .bf16⟩
  | .local _ .vmem, ⟨5, _⟩ => ⟨S32x256x256, .bf16⟩
  | .local _ .vmem, ⟨6, _⟩ => ⟨S256x256, .bf16⟩
  | .local _ .vmem, ⟨7, _⟩ => ⟨S256x256, .bf16⟩
  | .local _ .vmem, ⟨8, _⟩ => ⟨S4x128x256, .f32⟩
  | .local _ .smem, ⟨0, _⟩ => ⟨S8, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 32], ![false, false, false]⟩

def k0_off1 (i : grid0.Coords) (c0_i32_3 : BitVec 32) : Fin 1 → Nat :=
  let c4_i32 : BitVec 32 := 4#32
  let arg1 : BitVec 32 := BitVec.ofNat 32 (i 1).val
  let v22 : BitVec 32 := Scalar.muli c4_i32 arg1
  let v23 : BitVec 32 := Scalar.addi v22 c0_i32_3
  let v24 : Index := Scalar.indexCast v23
  ![v24.toNat]
def k0_mult1 (i : grid0.Coords) : BitVec 32 :=
  let arg2 : BitVec 32 := BitVec.ofNat 32 (i 2).val
  let c256_i32 : BitVec 32 := 256#32
  let v92 : BitVec 32 := Scalar.muli arg2 c256_i32
  v92
def k0_off2 (i : grid0.Coords) : Fin 2 → Nat :=
  let arg2 : BitVec 32 := BitVec.ofNat 32 (i 2).val
  let c256_i32 : BitVec 32 := 256#32
  let v92 : BitVec 32 := Scalar.muli arg2 c256_i32
  let v93 : BitVec 32 := v92
  let v94 : Index := Scalar.indexCast v93
  let c0_38 : Index := 0#32
  ![v94.toNat, 0]
def k0_off3 (i : grid0.Coords) : Fin 2 → Nat :=
  let arg2 : BitVec 32 := BitVec.ofNat 32 (i 2).val
  let c256_i32 : BitVec 32 := 256#32
  let v92 : BitVec 32 := Scalar.muli arg2 c256_i32
  let v93 : BitVec 32 := v92
  let v106 : Index := Scalar.indexCast v93
  let c128_42 : Index := 128#32
  ![v106.toNat, 128]
def k0_off4 (i : grid0.Coords) : Fin 3 → Nat :=
  let arg2 : BitVec 32 := BitVec.ofNat 32 (i 2).val
  let v208 : Index := Scalar.indexCast arg2
  let c0_77 : Index := 0#32
  let c0_78 : Index := 0#32
  ![v208.toNat, 0, 0]
def k0_off5 (i : grid0.Coords) : Fin 3 → Nat :=
  let arg2 : BitVec 32 := BitVec.ofNat 32 (i 2).val
  let v230 : Index := Scalar.indexCast arg2
  let c128_93 : Index := 128#32
  let c0_94 : Index := 0#32
  ![v230.toNat, 128, 0]
def k0_cond1 (i : grid0.Coords) : BitVec 1 :=
  let arg2 : BitVec 32 := BitVec.ofNat 32 (i 2).val
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let c1_i32_113 : BitVec 32 := 1#32
  let v268 : BitVec 1 := Scalar.cmpi .eq v267 c1_i32_113
  let v269 : BitVec 32 := Scalar.extui v268
  let c0_i32_114 : BitVec 32 := 0#32
  let v270 : BitVec 1 := Scalar.cmpi .ne v269 c0_i32_114
  v270

def k0_mult2 (i : grid0.Coords) : BitVec 32 :=
  let arg2 : BitVec 32 := BitVec.ofNat 32 (i 2).val
  let c1_i32_142 : BitVec 32 := 1#32
  let v315 : BitVec 32 := Scalar.subi arg2 c1_i32_142
  let c256_i32_143 : BitVec 32 := 256#32
  let v316 : BitVec 32 := Scalar.muli v315 c256_i32_143
  v316
def k0_off6 (i : grid0.Coords) : Fin 2 → Nat :=
  let arg2 : BitVec 32 := BitVec.ofNat 32 (i 2).val
  let c1_i32_142 : BitVec 32 := 1#32
  let v315 : BitVec 32 := Scalar.subi arg2 c1_i32_142
  let c256_i32_143 : BitVec 32 := 256#32
  let v316 : BitVec 32 := Scalar.muli v315 c256_i32_143
  let v317 : BitVec 32 := v316
  let v318 : Index := Scalar.indexCast v317
  let c0_144 : Index := 0#32
  ![v318.toNat, 0]
def k0_off7 (i : grid0.Coords) : Fin 2 → Nat :=
  let arg2 : BitVec 32 := BitVec.ofNat 32 (i 2).val
  let c1_i32_142 : BitVec 32 := 1#32
  let v315 : BitVec 32 := Scalar.subi arg2 c1_i32_142
  let c256_i32_143 : BitVec 32 := 256#32
  let v316 : BitVec 32 := Scalar.muli v315 c256_i32_143
  let v317 : BitVec 32 := v316
  let v330 : Index := Scalar.indexCast v317
  let c128_148 : Index := 128#32
  ![v330.toNat, 128]
def k0_off8 (i : grid0.Coords) : Fin 3 → Nat :=
  let arg2 : BitVec 32 := BitVec.ofNat 32 (i 2).val
  let c1_i32_142 : BitVec 32 := 1#32
  let v315 : BitVec 32 := Scalar.subi arg2 c1_i32_142
  let v416 : Index := Scalar.indexCast v315
  let c0_175 : Index := 0#32
  let c0_176 : Index := 0#32
  ![v416.toNat, 0, 0]
def k0_off9 (i : grid0.Coords) : Fin 3 → Nat :=
  let arg2 : BitVec 32 := BitVec.ofNat 32 (i 2).val
  let c1_i32_142 : BitVec 32 := 1#32
  let v315 : BitVec 32 := Scalar.subi arg2 c1_i32_142
  let v438 : Index := Scalar.indexCast v315
  let c128_193 : Index := 128#32
  let c0_194 : Index := 0#32
  ![v438.toNat, 128, 0]
@[reducible] def k0_t1_loop (i : grid0.Coords) : Scf.Loop 32 :=
  let c0_i32_123 : BitVec 32 := 0#32
  let arg2 : BitVec 32 := BitVec.ofNat 32 (i 2).val
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let c1_i32_125 : BitVec 32 := 1#32
  ⟨c0_i32_123, v296, c1_i32_125⟩
def k0_mult3 (i : grid0.Coords) (k0_t1 : Fin (k0_t1_loop i).trips) : BitVec 32 :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_142 : BitVec 32 := 2#32
  let c0_i32_123 : BitVec 32 := 0#32
  let c1_i32_125 : BitVec 32 := 1#32
  let arg9 : BitVec 32 := Scf.iv c0_i32_123 c1_i32_125 k0_t1
  let v315 : BitVec 32 := Scalar.muli c2_i32_142 arg9
  let v316 : BitVec 32 := Scalar.subi v273 v315
  let c256_i32_145 : BitVec 32 := 256#32
  let v320 : BitVec 32 := Scalar.muli v316 c256_i32_145
  v320
def k0_mult4 (i : grid0.Coords) (k0_t1 : Fin (k0_t1_loop i).trips) : BitVec 32 :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_143 : BitVec 32 := 2#32
  let c0_i32_123 : BitVec 32 := 0#32
  let c1_i32_125 : BitVec 32 := 1#32
  let arg9 : BitVec 32 := Scf.iv c0_i32_123 c1_i32_125 k0_t1
  let v317 : BitVec 32 := Scalar.muli c2_i32_143 arg9
  let v318 : BitVec 32 := Scalar.subi v273 v317
  let c1_i32_144 : BitVec 32 := 1#32
  let v319 : BitVec 32 := Scalar.subi v318 c1_i32_144
  let c256_i32_146 : BitVec 32 := 256#32
  let v322 : BitVec 32 := Scalar.muli v319 c256_i32_146
  v322
def k0_off10 (i : grid0.Coords) (k0_t1 : Fin (k0_t1_loop i).trips) : Fin 2 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_142 : BitVec 32 := 2#32
  let c0_i32_123 : BitVec 32 := 0#32
  let c1_i32_125 : BitVec 32 := 1#32
  let arg9 : BitVec 32 := Scf.iv c0_i32_123 c1_i32_125 k0_t1
  let v315 : BitVec 32 := Scalar.muli c2_i32_142 arg9
  let v316 : BitVec 32 := Scalar.subi v273 v315
  let c256_i32_145 : BitVec 32 := 256#32
  let v320 : BitVec 32 := Scalar.muli v316 c256_i32_145
  let v321 : BitVec 32 := v320
  let v324 : Index := Scalar.indexCast v321
  let c0_147 : Index := 0#32
  ![v324.toNat, 0]
def k0_off11 (i : grid0.Coords) (k0_t1 : Fin (k0_t1_loop i).trips) : Fin 2 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_142 : BitVec 32 := 2#32
  let c0_i32_123 : BitVec 32 := 0#32
  let c1_i32_125 : BitVec 32 := 1#32
  let arg9 : BitVec 32 := Scf.iv c0_i32_123 c1_i32_125 k0_t1
  let v315 : BitVec 32 := Scalar.muli c2_i32_142 arg9
  let v316 : BitVec 32 := Scalar.subi v273 v315
  let c256_i32_145 : BitVec 32 := 256#32
  let v320 : BitVec 32 := Scalar.muli v316 c256_i32_145
  let v321 : BitVec 32 := v320
  let v336 : Index := Scalar.indexCast v321
  let c128_151 : Index := 128#32
  ![v336.toNat, 128]
def k0_off12 (i : grid0.Coords) (k0_t1 : Fin (k0_t1_loop i).trips) : Fin 2 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_143 : BitVec 32 := 2#32
  let c0_i32_123 : BitVec 32 := 0#32
  let c1_i32_125 : BitVec 32 := 1#32
  let arg9 : BitVec 32 := Scf.iv c0_i32_123 c1_i32_125 k0_t1
  let v317 : BitVec 32 := Scalar.muli c2_i32_143 arg9
  let v318 : BitVec 32 := Scalar.subi v273 v317
  let c1_i32_144 : BitVec 32 := 1#32
  let v319 : BitVec 32 := Scalar.subi v318 c1_i32_144
  let c256_i32_146 : BitVec 32 := 256#32
  let v322 : BitVec 32 := Scalar.muli v319 c256_i32_146
  let v323 : BitVec 32 := v322
  let v348 : Index := Scalar.indexCast v323
  let c0_155 : Index := 0#32
  ![v348.toNat, 0]
def k0_off13 (i : grid0.Coords) (k0_t1 : Fin (k0_t1_loop i).trips) : Fin 2 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_143 : BitVec 32 := 2#32
  let c0_i32_123 : BitVec 32 := 0#32
  let c1_i32_125 : BitVec 32 := 1#32
  let arg9 : BitVec 32 := Scf.iv c0_i32_123 c1_i32_125 k0_t1
  let v317 : BitVec 32 := Scalar.muli c2_i32_143 arg9
  let v318 : BitVec 32 := Scalar.subi v273 v317
  let c1_i32_144 : BitVec 32 := 1#32
  let v319 : BitVec 32 := Scalar.subi v318 c1_i32_144
  let c256_i32_146 : BitVec 32 := 256#32
  let v322 : BitVec 32 := Scalar.muli v319 c256_i32_146
  let v323 : BitVec 32 := v322
  let v360 : Index := Scalar.indexCast v323
  let c128_159 : Index := 128#32
  ![v360.toNat, 128]
def k0_off14 (i : grid0.Coords) (k0_t1 : Fin (k0_t1_loop i).trips) : Fin 3 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_142 : BitVec 32 := 2#32
  let c0_i32_123 : BitVec 32 := 0#32
  let c1_i32_125 : BitVec 32 := 1#32
  let arg9 : BitVec 32 := Scf.iv c0_i32_123 c1_i32_125 k0_t1
  let v315 : BitVec 32 := Scalar.muli c2_i32_142 arg9
  let v316 : BitVec 32 := Scalar.subi v273 v315
  let v502 : Index := Scalar.indexCast v316
  let c0_206 : Index := 0#32
  let c0_207 : Index := 0#32
  ![v502.toNat, 0, 0]
def k0_off15 (i : grid0.Coords) (k0_t1 : Fin (k0_t1_loop i).trips) : Fin 3 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_142 : BitVec 32 := 2#32
  let c0_i32_123 : BitVec 32 := 0#32
  let c1_i32_125 : BitVec 32 := 1#32
  let arg9 : BitVec 32 := Scf.iv c0_i32_123 c1_i32_125 k0_t1
  let v315 : BitVec 32 := Scalar.muli c2_i32_142 arg9
  let v316 : BitVec 32 := Scalar.subi v273 v315
  let v524 : Index := Scalar.indexCast v316
  let c128_224 : Index := 128#32
  let c0_225 : Index := 0#32
  ![v524.toNat, 128, 0]
def k0_off16 (i : grid0.Coords) (k0_t1 : Fin (k0_t1_loop i).trips) : Fin 3 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_143 : BitVec 32 := 2#32
  let c0_i32_123 : BitVec 32 := 0#32
  let c1_i32_125 : BitVec 32 := 1#32
  let arg9 : BitVec 32 := Scf.iv c0_i32_123 c1_i32_125 k0_t1
  let v317 : BitVec 32 := Scalar.muli c2_i32_143 arg9
  let v318 : BitVec 32 := Scalar.subi v273 v317
  let c1_i32_144 : BitVec 32 := 1#32
  let v319 : BitVec 32 := Scalar.subi v318 c1_i32_144
  let v570 : Index := Scalar.indexCast v319
  let c0_242 : Index := 0#32
  let c0_243 : Index := 0#32
  ![v570.toNat, 0, 0]
def k0_off17 (i : grid0.Coords) (k0_t1 : Fin (k0_t1_loop i).trips) : Fin 3 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_143 : BitVec 32 := 2#32
  let c0_i32_123 : BitVec 32 := 0#32
  let c1_i32_125 : BitVec 32 := 1#32
  let arg9 : BitVec 32 := Scf.iv c0_i32_123 c1_i32_125 k0_t1
  let v317 : BitVec 32 := Scalar.muli c2_i32_143 arg9
  let v318 : BitVec 32 := Scalar.subi v273 v317
  let c1_i32_144 : BitVec 32 := 1#32
  let v319 : BitVec 32 := Scalar.subi v318 c1_i32_144
  let v592 : Index := Scalar.indexCast v319
  let c128_260 : Index := 128#32
  let c0_261 : Index := 0#32
  ![v592.toNat, 128, 0]
@[reducible] def k0_t2_loop (i : grid0.Coords) : Scf.Loop 32 :=
  let c0_i32_123 : BitVec 32 := 0#32
  let arg2 : BitVec 32 := BitVec.ofNat 32 (i 2).val
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let v293 : BitVec 32 := Scalar.addi c0_i32_123 v292
  let c1_i32_126 : BitVec 32 := 1#32
  ⟨v296, v293, c1_i32_126⟩
def k0_mult5 (i : grid0.Coords) (k0_t2 : Fin (k0_t2_loop i).trips) : BitVec 32 :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_142 : BitVec 32 := 2#32
  let c0_i32_123 : BitVec 32 := 0#32
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let c1_i32_126 : BitVec 32 := 1#32
  let arg9 : BitVec 32 := Scf.iv v296 c1_i32_126 k0_t2
  let v315 : BitVec 32 := Scalar.muli c2_i32_142 arg9
  let v316 : BitVec 32 := Scalar.subi v273 v315
  let c256_i32_145 : BitVec 32 := 256#32
  let v320 : BitVec 32 := Scalar.muli v316 c256_i32_145
  v320
def k0_mult6 (i : grid0.Coords) (k0_t2 : Fin (k0_t2_loop i).trips) : BitVec 32 :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_143 : BitVec 32 := 2#32
  let c0_i32_123 : BitVec 32 := 0#32
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let c1_i32_126 : BitVec 32 := 1#32
  let arg9 : BitVec 32 := Scf.iv v296 c1_i32_126 k0_t2
  let v317 : BitVec 32 := Scalar.muli c2_i32_143 arg9
  let v318 : BitVec 32 := Scalar.subi v273 v317
  let c1_i32_144 : BitVec 32 := 1#32
  let v319 : BitVec 32 := Scalar.subi v318 c1_i32_144
  let c256_i32_146 : BitVec 32 := 256#32
  let v322 : BitVec 32 := Scalar.muli v319 c256_i32_146
  v322
def k0_off18 (i : grid0.Coords) (k0_t2 : Fin (k0_t2_loop i).trips) : Fin 2 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_142 : BitVec 32 := 2#32
  let c0_i32_123 : BitVec 32 := 0#32
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let c1_i32_126 : BitVec 32 := 1#32
  let arg9 : BitVec 32 := Scf.iv v296 c1_i32_126 k0_t2
  let v315 : BitVec 32 := Scalar.muli c2_i32_142 arg9
  let v316 : BitVec 32 := Scalar.subi v273 v315
  let c256_i32_145 : BitVec 32 := 256#32
  let v320 : BitVec 32 := Scalar.muli v316 c256_i32_145
  let v321 : BitVec 32 := v320
  let v324 : Index := Scalar.indexCast v321
  let c0_147 : Index := 0#32
  ![v324.toNat, 0]
def k0_off19 (i : grid0.Coords) (k0_t2 : Fin (k0_t2_loop i).trips) : Fin 2 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_142 : BitVec 32 := 2#32
  let c0_i32_123 : BitVec 32 := 0#32
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let c1_i32_126 : BitVec 32 := 1#32
  let arg9 : BitVec 32 := Scf.iv v296 c1_i32_126 k0_t2
  let v315 : BitVec 32 := Scalar.muli c2_i32_142 arg9
  let v316 : BitVec 32 := Scalar.subi v273 v315
  let c256_i32_145 : BitVec 32 := 256#32
  let v320 : BitVec 32 := Scalar.muli v316 c256_i32_145
  let v321 : BitVec 32 := v320
  let v336 : Index := Scalar.indexCast v321
  let c128_151 : Index := 128#32
  ![v336.toNat, 128]
def k0_off20 (i : grid0.Coords) (k0_t2 : Fin (k0_t2_loop i).trips) : Fin 2 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_143 : BitVec 32 := 2#32
  let c0_i32_123 : BitVec 32 := 0#32
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let c1_i32_126 : BitVec 32 := 1#32
  let arg9 : BitVec 32 := Scf.iv v296 c1_i32_126 k0_t2
  let v317 : BitVec 32 := Scalar.muli c2_i32_143 arg9
  let v318 : BitVec 32 := Scalar.subi v273 v317
  let c1_i32_144 : BitVec 32 := 1#32
  let v319 : BitVec 32 := Scalar.subi v318 c1_i32_144
  let c256_i32_146 : BitVec 32 := 256#32
  let v322 : BitVec 32 := Scalar.muli v319 c256_i32_146
  let v323 : BitVec 32 := v322
  let v348 : Index := Scalar.indexCast v323
  let c0_155 : Index := 0#32
  ![v348.toNat, 0]
def k0_off21 (i : grid0.Coords) (k0_t2 : Fin (k0_t2_loop i).trips) : Fin 2 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_143 : BitVec 32 := 2#32
  let c0_i32_123 : BitVec 32 := 0#32
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let c1_i32_126 : BitVec 32 := 1#32
  let arg9 : BitVec 32 := Scf.iv v296 c1_i32_126 k0_t2
  let v317 : BitVec 32 := Scalar.muli c2_i32_143 arg9
  let v318 : BitVec 32 := Scalar.subi v273 v317
  let c1_i32_144 : BitVec 32 := 1#32
  let v319 : BitVec 32 := Scalar.subi v318 c1_i32_144
  let c256_i32_146 : BitVec 32 := 256#32
  let v322 : BitVec 32 := Scalar.muli v319 c256_i32_146
  let v323 : BitVec 32 := v322
  let v360 : Index := Scalar.indexCast v323
  let c128_159 : Index := 128#32
  ![v360.toNat, 128]
def k0_off22 (i : grid0.Coords) (k0_t2 : Fin (k0_t2_loop i).trips) : Fin 3 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_142 : BitVec 32 := 2#32
  let c0_i32_123 : BitVec 32 := 0#32
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let c1_i32_126 : BitVec 32 := 1#32
  let arg9 : BitVec 32 := Scf.iv v296 c1_i32_126 k0_t2
  let v315 : BitVec 32 := Scalar.muli c2_i32_142 arg9
  let v316 : BitVec 32 := Scalar.subi v273 v315
  let v502 : Index := Scalar.indexCast v316
  let c0_206 : Index := 0#32
  let c0_207 : Index := 0#32
  ![v502.toNat, 0, 0]
def k0_off23 (i : grid0.Coords) (k0_t2 : Fin (k0_t2_loop i).trips) : Fin 3 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_142 : BitVec 32 := 2#32
  let c0_i32_123 : BitVec 32 := 0#32
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let c1_i32_126 : BitVec 32 := 1#32
  let arg9 : BitVec 32 := Scf.iv v296 c1_i32_126 k0_t2
  let v315 : BitVec 32 := Scalar.muli c2_i32_142 arg9
  let v316 : BitVec 32 := Scalar.subi v273 v315
  let v524 : Index := Scalar.indexCast v316
  let c128_224 : Index := 128#32
  let c0_225 : Index := 0#32
  ![v524.toNat, 128, 0]
def k0_off24 (i : grid0.Coords) (k0_t2 : Fin (k0_t2_loop i).trips) : Fin 3 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_143 : BitVec 32 := 2#32
  let c0_i32_123 : BitVec 32 := 0#32
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let c1_i32_126 : BitVec 32 := 1#32
  let arg9 : BitVec 32 := Scf.iv v296 c1_i32_126 k0_t2
  let v317 : BitVec 32 := Scalar.muli c2_i32_143 arg9
  let v318 : BitVec 32 := Scalar.subi v273 v317
  let c1_i32_144 : BitVec 32 := 1#32
  let v319 : BitVec 32 := Scalar.subi v318 c1_i32_144
  let v570 : Index := Scalar.indexCast v319
  let c0_242 : Index := 0#32
  let c0_243 : Index := 0#32
  ![v570.toNat, 0, 0]
def k0_off25 (i : grid0.Coords) (k0_t2 : Fin (k0_t2_loop i).trips) : Fin 3 → Nat :=
  let arg2 : BitVec 32 := BitVec.ofNat 32 (i 2).val
  let c1_i32_115 : BitVec 32 := 1#32
  let v272 : BitVec 32 := Scalar.subi arg2 c1_i32_115
  let c2_i32_107 : BitVec 32 := 2#32
  let c0_i32_108 : BitVec 32 := 0#32
  let v258 : BitVec 1 := Scalar.cmpi .eq c2_i32_107 c0_i32_108
  let c1_i32_109 : BitVec 32 := 1#32
  let v259 : BitVec 32 := Scalar.select v258 c1_i32_109 c2_i32_107
  let v260 : BitVec 32 := Scalar.remsi arg2 v259
  let c0_i32_111 : BitVec 32 := 0#32
  let v262 : BitVec 1 := Scalar.cmpi .slt v260 c0_i32_111
  let c0_i32_112 : BitVec 32 := 0#32
  let v263 : BitVec 1 := Scalar.cmpi .slt v259 c0_i32_112
  let v264 : BitVec 1 := Scalar.xori v262 v263
  let c0_i32_110 : BitVec 32 := 0#32
  let v261 : BitVec 1 := Scalar.cmpi .ne v260 c0_i32_110
  let v265 : BitVec 1 := Scalar.andi v264 v261
  let v266 : BitVec 32 := Scalar.addi v260 v259
  let v267 : BitVec 32 := Scalar.select v265 v266 v260
  let v273 : BitVec 32 := Scalar.subi v272 v267
  let c2_i32_143 : BitVec 32 := 2#32
  let c0_i32_123 : BitVec 32 := 0#32
  let v274 : BitVec 32 := Scalar.subi arg2 v267
  let c0_i32_117 : BitVec 32 := 0#32
  let v276 : BitVec 1 := Scalar.cmpi .sgt v274 c0_i32_117
  let v277 : BitVec 32 := Scalar.extui v276
  let c0_i32_118 : BitVec 32 := 0#32
  let v278 : BitVec 1 := Scalar.cmpi .slt v274 c0_i32_118
  let v279 : BitVec 32 := Scalar.extui v278
  let v280 : BitVec 32 := Scalar.subi v277 v279
  let c2_i32_116 : BitVec 32 := 2#32
  let c0_i32_119 : BitVec 32 := 0#32
  let v281 : BitVec 1 := Scalar.cmpi .sgt c2_i32_116 c0_i32_119
  let v282 : BitVec 32 := Scalar.extui v281
  let c0_i32_120 : BitVec 32 := 0#32
  let v283 : BitVec 1 := Scalar.cmpi .slt c2_i32_116 c0_i32_120
  let v284 : BitVec 32 := Scalar.extui v283
  let v285 : BitVec 32 := Scalar.subi v282 v284
  let v286 : BitVec 1 := Scalar.cmpi .ne v280 v285
  let v287 : BitVec 32 := Scalar.remsi v274 c2_i32_116
  let c0_i32_121 : BitVec 32 := 0#32
  let v288 : BitVec 1 := Scalar.cmpi .ne v287 c0_i32_121
  let v289 : BitVec 1 := Scalar.andi v286 v288
  let v275 : BitVec 32 := Scalar.divsi v274 c2_i32_116
  let c1_i32_122 : BitVec 32 := 1#32
  let v290 : BitVec 32 := Scalar.subi v275 c1_i32_122
  let v291 : BitVec 32 := Scalar.select v289 v290 v275
  let v292 : BitVec 32 := Scalar.subi v291 c0_i32_123
  let c1_i32_124 : BitVec 32 := 1#32
  let v294 : BitVec 32 := Scalar.divsi v292 c1_i32_124
  let v295 : BitVec 32 := Scalar.muli v294 c1_i32_124
  let v296 : BitVec 32 := Scalar.addi c0_i32_123 v295
  let c1_i32_126 : BitVec 32 := 1#32
  let arg9 : BitVec 32 := Scf.iv v296 c1_i32_126 k0_t2
  let v317 : BitVec 32 := Scalar.muli c2_i32_143 arg9
  let v318 : BitVec 32 := Scalar.subi v273 v317
  let c1_i32_144 : BitVec 32 := 1#32
  let v319 : BitVec 32 := Scalar.subi v318 c1_i32_144
  let v592 : Index := Scalar.indexCast v319
  let c128_260 : Index := 128#32
  let c0_261 : Index := 0#32
  ![v592.toNat, 128, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | "q_scale" => some ((8⁻¹ * (Real.log 2)⁻¹ : ℝ) : EReal)
  | _ => none
-- ==== ReferenceIdeal.lean ====
abbrev S2x8192x8x64 : Shape := ⟨4, ![2, 8192, 8, 64]⟩
abbrev S1x8 : Shape := ⟨2, ![1, 8]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8 : Shape := ⟨1, ![8]⟩
abbrev S1x8x1x1 : Shape := ⟨4, ![1, 8, 1, 1]⟩
abbrev S2x8x8192x8192 : Shape := ⟨4, ![2, 8, 8192, 8192]⟩
abbrev S_ : Shape := ⟨0, ![]⟩
abbrev S2x8x64x8192 : Shape := ⟨4, ![2, 8, 64, 8192]⟩
abbrev S16384x512 : Shape := ⟨2, ![16384, 512]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S1x8, .f32⟩
  | .hbm, ⟨4, _⟩ => ⟨S8192, .i32⟩
  | .hbm, ⟨5, _⟩ => ⟨S1x8192, .i32⟩
  | .hbm, ⟨6, _⟩ => ⟨S8192x1, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8, .f32⟩
  | .hbm, ⟨11, _⟩ => ⟨S1x8x1x1, .f32⟩
  | .hbm, ⟨12, _⟩ => ⟨S2x8x8192x8192, .f32⟩
  | .hbm, ⟨13, _⟩ => ⟨S_, .f32⟩
  | .hbm, ⟨14, _⟩ => ⟨S2x8x8192x8192, .f32⟩
  | .hbm, ⟨15, _⟩ => ⟨S2x8x8192x8192, .f32⟩
  | .hbm, ⟨16, _⟩ => ⟨S2x8x8192x8192, .f32⟩
  | .hbm, ⟨17, _⟩ => ⟨S2x8x8192x8192, .f32⟩
  | .hbm, ⟨18, _⟩ => ⟨S2x8x8192x8192, .f32⟩
  | .hbm, ⟨19, _⟩ => ⟨S2x8x8192x8192, .f32⟩
  | .hbm, ⟨20, _⟩ => ⟨S_, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .i1⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S_, .f32⟩
  | .hbm, ⟨36, _⟩ => ⟨S_, .f32⟩
  | .hbm, ⟨37, _⟩ => ⟨S2x8x8192x8192, .i1⟩
  | .hbm, ⟨38, _⟩ => ⟨S2x8x8192x8192, .f32⟩
  | .hbm, ⟨39, _⟩ => ⟨S2x8x8192x8192, .f32⟩
  | .hbm, ⟨40, _⟩ => ⟨S_, .f32⟩
  | .hbm, ⟨41, _⟩ => ⟨S_, .f32⟩
  | .hbm, ⟨42, _⟩ => ⟨S2x8x8192x8192, .f32⟩
  | .hbm, ⟨43, _⟩ => ⟨S2x8x8192x8192, .f32⟩
  | .hbm, ⟨44, _⟩ => ⟨S2x8x8192x8192, .f32⟩
  | .hbm, ⟨45, _⟩ => ⟨S_, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .i1⟩
  | .hbm, ⟨51, _⟩ => ⟨S2x8x8192x8192, .f32⟩
  | .hbm, ⟨52, _⟩ => ⟨S2x8x8192x8192, .f32⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S_, .f32⟩
  | .hbm, ⟨63, _⟩ => ⟨S_, .f32⟩
  | .hbm, ⟨64, _⟩ => ⟨S2x8x8192x8192, .i1⟩
  | .hbm, ⟨65, _⟩ => ⟨S2x8x8192x8192, .f32⟩
  | .hbm, ⟨66, _⟩ => ⟨S2x8x8192x8192, .f32⟩
  | .hbm, ⟨67, _⟩ => ⟨S2x8x64x8192, .f32⟩
  | .hbm, ⟨68, _⟩ => ⟨S2x8192x8x64, .f32⟩
  | .hbm, ⟨69, _⟩ => ⟨S16384x512, .f32⟩
  | .hbm, ⟨70, _⟩ => ⟨S16384x512, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_call2_cst : Ref sig .tc := ⟨.hbm, 40, rfl⟩
abbrev main_call2_v0 : Ref sig .tc := ⟨.hbm, 41, rfl⟩
abbrev main_v16 : Ref sig .tc := ⟨.hbm, 42, rfl⟩
abbrev main_v17 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1024 : Shape := ⟨2, ![2, 1024]⟩
abbrev S1x1024 : Shape := ⟨2, ![1, 1024]⟩
abbrev S1x1024x3592 : Shape := ⟨3, ![1, 1024, 3592]⟩
abbrev S1x8 : Shape := ⟨2, ![1, 8]⟩
abbrev S1x8x64 : Shape := ⟨3, ![1, 8, 64]⟩
abbrev S512 : Shape := ⟨1, ![512]⟩
abbrev S1024x3592 : Shape := ⟨2, ![1024, 3592]⟩
abbrev S8 : Shape := ⟨1, ![8]⟩
abbrev S1024x2048 : Shape := ⟨2, ![1024, 2048]⟩
abbrev S1024x1536 : Shape := ⟨2, ![1024, 1536]⟩
abbrev S1024x3584 : Shape := ⟨2, ![1024, 3584]⟩
abbrev S1024x8 : Shape := ⟨2, ![1024, 8]⟩
abbrev S_ : Shape := ⟨0, ![]⟩
abbrev S1024x128 : Shape := ⟨2, ![1024, 128]⟩
abbrev S8x1024 : Shape := ⟨2, ![8, 1024]⟩
abbrev S128 : Shape := ⟨1, ![128]⟩
abbrev S1x128 : Shape := ⟨2, ![1, 128]⟩
abbrev S8x1 : Shape := ⟨2, ![8, 1]⟩
abbrev S512x1 : Shape := ⟨2, ![512, 1]⟩
abbrev S1x512 : Shape := ⟨2, ![1, 512]⟩
abbrev S512x512 : Shape := ⟨2, ![512, 512]⟩
abbrev S16384x1024 : Shape := ⟨2, ![16384, 1024]⟩
abbrev S2x1x1024 : Shape := ⟨3, ![2, 1, 1024]⟩
abbrev S8x64 : Shape := ⟨2, ![8, 64]⟩
abbrev S16384x512 : Shape := ⟨2, ![16384, 512]⟩
abbrev S16384x128 : Shape := ⟨2, ![16384, 128]⟩
abbrev S8x16384 : Shape := ⟨2, ![8, 16384]⟩
abbrev S64x512x256 : Shape := ⟨3, ![64, 512, 256]⟩
abbrev S512x1024 : Shape := ⟨2, ![512, 1024]⟩
abbrev S1x1x1024 : Shape := ⟨3, ![1, 1, 1024]⟩
abbrev S512x128 : Shape := ⟨2, ![512, 128]⟩
abbrev S8x512 : Shape := ⟨2, ![8, 512]⟩
abbrev S2x512x256 : Shape := ⟨3, ![2, 512, 256]⟩
abbrev S1024x512 : Shape := ⟨2, ![1024, 512]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 51
  | .vmem => 37
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1x1024, .f32⟩
  | .hbm, ⟨4, _⟩ => ⟨S1x1024x3592, .f32⟩
  | .hbm, ⟨5, _⟩ => ⟨S1x8, .f32⟩
  | .hbm, ⟨6, _⟩ => ⟨S1x8x64, .f32⟩
  | .hbm, ⟨7, _⟩ => ⟨S1x8x64, .f32⟩
  | .hbm, ⟨8, _⟩ => ⟨S512, .i32⟩
  | .hbm, ⟨9, _⟩ => ⟨S1024x3592, .f32⟩
  | .hbm, ⟨10, _⟩ => ⟨S8, .f32⟩
  | .hbm, ⟨11, _⟩ => ⟨S1024x2048, .f32⟩
  | .hbm, ⟨12, _⟩ => ⟨S1024x1536, .f32⟩
  | .hbm, ⟨13, _⟩ => ⟨S1024x3584, .f32⟩
  | .hbm, ⟨14, _⟩ => ⟨S1024x3584, .bf16⟩
  | .hbm, ⟨15, _⟩ => ⟨S1024x8, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S8x1024, .f32⟩
  | .hbm, ⟨21, _⟩ => ⟨S8x1024, .bf16⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S8x1, .f32⟩
  | .hbm, ⟨27, _⟩ => ⟨S512x1, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .bf16⟩
  | .hbm, ⟨33, _⟩ => ⟨S16384x1024, .f32⟩
  | .hbm, ⟨34, _⟩ => ⟨S2x1x1024, .f32⟩
  | .hbm, ⟨35, _⟩ => ⟨S2x1x1024, .f32⟩
  | .hbm, ⟨36, _⟩ => ⟨S8x64, .f32⟩
  | .hbm, ⟨37, _⟩ => ⟨S1x512, .f32⟩
  | .hbm, ⟨38, _⟩ => ⟨S8x64, .f32⟩
  | .hbm, ⟨39, _⟩ => ⟨S1x512, .f32⟩
  | .hbm, ⟨40, _⟩ => ⟨S16384x512, .bf16⟩
  | .hbm, ⟨41, _⟩ => ⟨S16384x512, .bf16⟩
  | .hbm, ⟨42, _⟩ => ⟨S16384x512, .bf16⟩
  | .hbm, ⟨43, _⟩ => ⟨S16384x512, .bf16⟩
  | .hbm, ⟨44, _⟩ => ⟨S16384x128, .f32⟩
  | .hbm, ⟨45, _⟩ => ⟨S8x16384, .f32⟩
  | .hbm, ⟨46, _⟩ => ⟨S16384x512, .bf16⟩
  | .hbm, ⟨47, _⟩ => ⟨S16384x512, .bf16⟩
  | .hbm, ⟨48, _⟩ => ⟨S16384x512, .f32⟩
  | .hbm, ⟨49, _⟩ => ⟨S16384x512, .f32⟩
  | .hbm, ⟨50, _⟩ => ⟨S64x512x256, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3584, .bf16⟩
  | .local _ .vmem, ⟨8, _⟩ => ⟨S1024x128, .bf16⟩
  | .local _ .vmem, ⟨9, _⟩ => ⟨S8x1024, .bf16⟩
  | .local _ .vmem, ⟨10, _⟩ => ⟨S1x128, .f32⟩
  | .local _ .vmem, ⟨11, _⟩ => ⟨S8x1, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x128, .f32⟩
  | .local _ .vmem, ⟨24, _⟩ => ⟨S512x128, .f32⟩
  | .local _ .vmem, ⟨25, _⟩ => ⟨S8x512, .f32⟩
  | .local _ .vmem, ⟨26, _⟩ => ⟨S8x512, .f32⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S2x512x256, .bf16⟩
  | .local _ .vmem, ⟨36, _⟩ => ⟨S2x512x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_v27_4 : Ref sig .tc := ⟨.hbm, 44, rfl⟩
abbrev main_v27_5 : Ref sig .tc := ⟨.hbm, 45, rfl⟩
abbrev main_v27_6 : Ref sig .tc := ⟨.hbm, 46, rfl⟩
abbrev main_v27_7 : Ref sig .tc := ⟨.hbm, 47, rfl⟩
abbrev main_v27_8 : Ref sig .tc := ⟨.hbm, 48, rfl⟩
abbrev main_v27_9 : Ref sig .tc := ⟨.hbm, 49, rfl⟩
abbrev main_v27_10 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Kernel2Ideal.lean ====
variable {F : FTy → Type} [FloatOps F] [Named F]
def κ : String → Option EReal := fun
  | "q_scale" => some ((8⁻¹ * (Real.log 2)⁻¹ : ℝ) : EReal)
  | _ => none
-- ==== Reference2Ideal.lean ====
abbrev S2x8192x1024 : Shape := ⟨3, ![2, 8192, 1024]⟩
abbrev S2x1024 : Shape := ⟨2, ![2, 1024]⟩
abbrev S1x1024 : Shape := ⟨2, ![1, 1024]⟩
abbrev S1x1024x3592 : Shape := ⟨3, ![1, 1024, 3592]⟩
abbrev S1x8 : Shape := ⟨2, ![1, 8]⟩
abbrev S1x8x64 : Shape := ⟨3, ![1, 8, 64]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S1024x3592 : Shape := ⟨2, ![1024, 3592]⟩
abbrev S2x8192x3592 : Shape := ⟨3, ![2, 8192, 3592]⟩
abbrev S2x8192x512 : Shape := ⟨3, ![2, 8192, 512]⟩
abbrev S2x8192x4 : Shape := ⟨3, ![2, 8192, 4]⟩
abbrev S2x8192x8x64 : Shape := ⟨4, ![2, 8192, 8, 64]⟩
abbrev S8x64 : Shape := ⟨2, ![8, 64]⟩
abbrev S2x8192x8 : Shape := ⟨3, ![2, 8192, 8]⟩
abbrev S2x8192x8x1 : Shape := ⟨4, ![2, 8192, 8, 1]⟩
abbrev S1x1x8x64 : Shape := ⟨4, ![1, 1, 8, 64]⟩
abbrev S16384x512 : Shape := ⟨2, ![16384, 512]⟩
abbrev S64x256x512 : Shape := ⟨3, ![64, 256, 512]⟩
abbrev S64x512x256 : Shape := ⟨3, ![64, 512, 256]⟩

abbrev nBuf : Space → Nat
  | .hbm => 114
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1x1024, .f32⟩
  | .hbm, ⟨4, _⟩ => ⟨S1x1024x3592, .f32⟩
  | .hbm, ⟨5, _⟩ => ⟨S1x8, .f32⟩
  | .hbm, ⟨6, _⟩ => ⟨S1x8x64, .f32⟩
  | .hbm, ⟨7, _⟩ => ⟨S1x8x64, .f32⟩
  | .hbm, ⟨8, _⟩ => ⟨S1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x8192x1024, .f32⟩
  | .hbm, ⟨30, _⟩ => ⟨S2x8192x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S1024x3592, .f32⟩
  | .hbm, ⟨35, _⟩ => ⟨S2x8192x3592, .f32⟩
  | .hbm, ⟨36, _⟩ => ⟨S2x8192x512, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S2x8192x4, .f32⟩
  | .hbm, ⟨41, _⟩ => ⟨S2x8192x4, .f32⟩
  | .hbm, ⟨42, _⟩ => ⟨S2x8192x512, .f32⟩
  | .hbm, ⟨43, _⟩ => ⟨S2x8192x512, .f32⟩
  | .hbm, ⟨44, _⟩ => ⟨S2x8192x512, .f32⟩
  | .hbm, ⟨45, _⟩ => ⟨S2x8192x8x64, .f32⟩
  | .hbm, ⟨46, _⟩ => ⟨S8x64, .f32⟩
  | .hbm, ⟨47, _⟩ => ⟨S2x8192x8x64, .f32⟩
  | .hbm, ⟨48, _⟩ => ⟨S_, .f32⟩
  | .hbm, ⟨49, _⟩ => ⟨S2x8192x8, .f32⟩
  | .hbm, ⟨50, _⟩ => ⟨S2x8192x8x1, .f32⟩
  | .hbm, ⟨51, _⟩ => ⟨S_, .f32⟩
  | .hbm, ⟨52, _⟩ => ⟨S2x8192x8x1, .f32⟩
  | .hbm, ⟨53, _⟩ => ⟨S2x8192x8x1, .f32⟩
  | .hbm, ⟨54, _⟩ => ⟨S_, .f32⟩
  | .hbm, ⟨55, _⟩ => ⟨S2x8192x8x1, .f32⟩
  | .hbm, ⟨56, _⟩ => ⟨S2x8192x8x1, .f32⟩
  | .hbm, ⟨57, _⟩ => ⟨S2x8192x8x1, .f32⟩
  | .hbm, ⟨58, _⟩ => ⟨S2x8192x8x64, .f32⟩
  | .hbm, ⟨59, _⟩ => ⟨S2x8192x8x64, .f32⟩
  | .hbm, ⟨60, _⟩ => ⟨S1x1x8x64, .f32⟩
  | .hbm, ⟨61, _⟩ => ⟨S2x8192x8x64, .f32⟩
  | .hbm, ⟨62, _⟩ => ⟨S2x8192x8x64, .f32⟩
  | .hbm, ⟨63, _⟩ => ⟨S2x8192x8x64, .f32⟩
  | .hbm, ⟨64, _⟩ => ⟨S8x64, .f32⟩
  | .hbm, ⟨65, _⟩ => ⟨S2x8192x8x64, .f32⟩
  | .hbm, ⟨66, _⟩ => ⟨S_, .f32⟩
  | .hbm, ⟨67, _⟩ => ⟨S2x8192x8, .f32⟩
  | .hbm, ⟨68, _⟩ => ⟨S2x8192x8x1, .f32⟩
  | .hbm, ⟨69, _⟩ => ⟨S_, .f32⟩
  | .hbm, ⟨70, _⟩ => ⟨S2x8192x8x1, .f32⟩
  | .hbm, ⟨71, _⟩ => ⟨S2x8192x8x1, .f32⟩
  | .hbm, ⟨72, _⟩ => ⟨S_, .f32⟩
  | .hbm, ⟨73, _⟩ => ⟨S2x8192x8x1, .f32⟩
  | .hbm, ⟨74, _⟩ => ⟨S2x8192x8x1, .f32⟩
  | .hbm, ⟨75, _⟩ => ⟨S2x8192x8x1, .f32⟩
  | .hbm, ⟨76, _⟩ => ⟨S2x8192x8x64, .f32⟩
  | .hbm, ⟨77, _⟩ => ⟨S2x8192x8x64, .f32⟩
  | .hbm, ⟨78, _⟩ => ⟨S1x1x8x64, .f32⟩
  | .hbm, ⟨79, _⟩ => ⟨S2x8192x8x64, .f32⟩
  | .hbm, ⟨80, _⟩ => ⟨S2x8192x8x64, .f32⟩
  | .hbm, ⟨81, _⟩ => ⟨S16384x512, .f32⟩
  | .hbm, ⟨82, _⟩ => ⟨S16384x512, .bf16⟩
  | .hbm, ⟨83, _⟩ => ⟨S_, .f32⟩
  | .hbm, ⟨84, _⟩ => ⟨S2x8192x512, .f32⟩
  | .hbm, ⟨85, _⟩ => ⟨S2x8192x512, .f32⟩
  | .hbm, ⟨86, _⟩ => ⟨S16384x512, .f32⟩
  | .hbm, ⟨87, _⟩ => ⟨S16384x512, .bf16⟩
  | .hbm, ⟨88, _⟩ => ⟨S16384x512, .f32⟩
  | .hbm, ⟨89, _⟩ => ⟨S16384x512, .bf16⟩
  | .hbm, ⟨90, _⟩ => ⟨S2x8192x512, .f32⟩
  | .hbm, ⟨91, _⟩ => ⟨S2x8192x512, .f32⟩
  | .hbm, ⟨92, _⟩ => ⟨S_, .f32⟩
  | .hbm, ⟨93, _⟩ => ⟨S2x8192x512, .f32⟩
  | .hbm, ⟨94, _⟩ => ⟨S2x8192x512, .f32⟩
  | .hbm, ⟨95, _⟩ => ⟨S_, .f32⟩
  | .hbm, ⟨96, _⟩ => ⟨S2x8192x512, .f32⟩
  | .hbm, ⟨97, _⟩ => ⟨S2x8192x512, .f32⟩
  | .hbm, ⟨98, _⟩ => ⟨S16384x512, .f32⟩
  | .hbm, ⟨99, _⟩ => ⟨S16384x512, .bf16⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S2x8192x8x64, .f32⟩
  | .hbm, ⟨105, _⟩ => ⟨S2x8192x8x64, .f32⟩
  | .hbm, ⟨106, _⟩ => ⟨S16384x512, .f32⟩
  | .hbm, ⟨107, _⟩ => ⟨S16384x512, .bf16⟩
  | .hbm, ⟨108, _⟩ => ⟨S16384x512, .f32⟩
  | .hbm, ⟨109, _⟩ => ⟨S16384x512, .f32⟩
  | .hbm, ⟨110, _⟩ => ⟨S16384x512, .bf16⟩
  | .hbm, ⟨111, _⟩ => ⟨S64x256x512, .f32⟩
  | .hbm, ⟨112, _⟩ => ⟨S64x512x256, .f32⟩
  | .hbm, ⟨113, _⟩ => ⟨S64x512x256, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_cst_13 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩

abbrev nD : Nat := 1
abbrev τ : Topo := Topo.v7x

variable {F : FTy → Type} [FloatOps F]
-- ==== Kernel3.lean ====
abbrev S2x8192x1024 : Shape := ⟨3, ![2, 8192, 1024]⟩
abbrev S16384x512 : Shape := ⟨2, ![16384, 512]⟩
abbrev S2x1024 : Shape := ⟨2, ![2, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x128x128 : Shape := ⟨3, ![1, 128, 128]⟩
abbrev S16384x1024 : Shape := ⟨2, ![16384, 1024]⟩
abbrev S2x1x1024 : Shape := ⟨3, ![2, 1, 1024]⟩
abbrev S1024x1024 : Shape := ⟨2, ![1024, 1024]⟩
abbrev S1024x2048 : Shape := ⟨2, ![1024, 2048]⟩
abbrev S128x128 : Shape := ⟨2, ![128, 128]⟩
abbrev S8x128x16384 : Shape := ⟨3, ![8, 128, 16384]⟩
abbrev S512x1024 : Shape := ⟨2, ![512, 1024]⟩
abbrev S512x512 : Shape := ⟨2, ![512, 512]⟩
abbrev S1x1x1024 : Shape := ⟨3, ![1, 1, 1024]⟩
abbrev S8x128x512 : Shape := ⟨3, ![8, 128, 512]⟩
abbrev S512 : Shape := ⟨1, ![512]⟩
abbrev S512x1 : Shape := ⟨2, ![512, 1]⟩
abbrev S1024x128 : Shape := ⟨2, ![1024, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 29
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .f32⟩
  | .hbm, ⟨2, _⟩ => ⟨S16384x512, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S1x1024, .f32⟩
  | .hbm, ⟨7, _⟩ => ⟨S1x1024x1024, .f32⟩
  | .hbm, ⟨8, _⟩ => ⟨S1x1024x2048, .f32⟩
  | .hbm, ⟨9, _⟩ => ⟨S1x128x128, .f32⟩
  | .hbm, ⟨10, _⟩ => ⟨S1x128x128, .f32⟩
  | .hbm, ⟨11, _⟩ => ⟨S16384x1024, .f32⟩
  | .hbm, ⟨12, _⟩ => ⟨S16384x512, .bf16⟩
  | .hbm, ⟨13, _⟩ => ⟨S16384x512, .bf16⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S1024x1024, .f32⟩
  | .hbm, ⟨18, _⟩ => ⟨S1024x1024, .bf16⟩
  | .hbm, ⟨19, _⟩ => ⟨S1024x2048, .f32⟩
  | .hbm, ⟨20, _⟩ => ⟨S1024x2048, .bf16⟩
  | .hbm, ⟨21, _⟩ => ⟨S128x128, .f32⟩
  | .hbm, ⟨22, _⟩ => ⟨S128x128, .bf16⟩
  | .hbm, ⟨23, _⟩ => ⟨S128x128, .f32⟩
  | .hbm, ⟨24, _⟩ => ⟨S128x128, .bf16⟩
  | .hbm, ⟨25, _⟩ => ⟨S16384x1024, .f32⟩
  | .hbm, ⟨26, _⟩ => ⟨S16384x1024, .bf16⟩
  | .hbm, ⟨27, _⟩ => ⟨S8x128x16384, .f32⟩
  | .hbm, ⟨28, _⟩ => ⟨S8x128x16384, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x2048, .bf16⟩
  | .local _ .vmem, ⟨15, _⟩ => ⟨S128x128, .bf16⟩
  | .local _ .vmem, ⟨16, _⟩ => ⟨S128x128, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S8x128x512, .f32⟩
  | .local _ .vmem, ⟨22, _⟩ => ⟨S8x128x512, .f32⟩
  | .local _ .vmem, ⟨23, _⟩ => ⟨S8x128x512, .f32⟩
  | .local _ .vmem, ⟨24, _⟩ => ⟨S8x128x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S2x8192x1024 : Shape := ⟨3, ![2, 8192, 1024]⟩
abbrev S16384x512 : Shape := ⟨2, ![16384, 512]⟩
abbrev S2x1024 : Shape := ⟨2, ![2, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x128x128 : Shape := ⟨3, ![1, 128, 128]⟩
abbrev S16384x1024 : Shape := ⟨2, ![16384, 1024]⟩
abbrev S1024x1024 : Shape := ⟨2, ![1024, 1024]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2048 : Shape := ⟨2, ![1024, 2048]⟩
abbrev S16384x2048 : Shape := ⟨2, ![16384, 2048]⟩
abbrev S16384x8x2x128 : Shape := ⟨4, ![16384, 8, 2, 128]⟩
abbrev S16384x8x1x128 : Shape := ⟨4, ![16384, 8, 1, 128]⟩
abbrev S16384x8x128 : Shape := ⟨3, ![16384, 8, 128]⟩
abbrev S128x128 : Shape := ⟨2, ![128, 128]⟩
abbrev S8x128x16384 : Shape := ⟨3, ![8, 128, 16384]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .f32⟩
  | .hbm, ⟨2, _⟩ => ⟨S16384x512, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S1x1024, .f32⟩
  | .hbm, ⟨7, _⟩ => ⟨S1x1024x1024, .f32⟩
  | .hbm, ⟨8, _⟩ => ⟨S1x1024x2048, .f32⟩
  | .hbm, ⟨9, _⟩ => ⟨S1x128x128, .f32⟩
  | .hbm, ⟨10, _⟩ => ⟨S1x128x128, .f32⟩
  | .hbm, ⟨11, _⟩ => ⟨S16384x1024, .f32⟩
  | .hbm, ⟨12, _⟩ => ⟨S2x8192x1024, .f32⟩
  | .hbm, ⟨13, _⟩ => ⟨S1024x1024, .f32⟩
  | .hbm, ⟨14, _⟩ => ⟨S2x8192x1024, .f32⟩
  | .hbm, ⟨15, _⟩ => ⟨S2x1x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S2x1x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x8192x1024, .f32⟩
  | .hbm, ⟨41, _⟩ => ⟨S2x8192x1024, .f32⟩
  | .hbm, ⟨42, _⟩ => ⟨S2x1x1024, .f32⟩
  | .hbm, ⟨43, _⟩ => ⟨S2x8192x1024, .f32⟩
  | .hbm, ⟨44, _⟩ => ⟨S2x8192x1024, .f32⟩
  | .hbm, ⟨45, _⟩ => ⟨S16384x1024, .f32⟩
  | .hbm, ⟨46, _⟩ => ⟨S1024x2048, .f32⟩
  | .hbm, ⟨47, _⟩ => ⟨S16384x2048, .f32⟩
  | .hbm, ⟨48, _⟩ => ⟨S16384x8x2x128, .f32⟩
  | .hbm, ⟨49, _⟩ => ⟨S16384x8x1x128, .f32⟩
  | .hbm, ⟨50, _⟩ => ⟨S16384x8x128, .f32⟩
  | .hbm, ⟨51, _⟩ => ⟨S128x128, .f32⟩
  | .hbm, ⟨52, _⟩ => ⟨S16384x8x128, .f32⟩
  | .hbm, ⟨53, _⟩ => ⟨S16384x8x1x128, .f32⟩
  | .hbm, ⟨54, _⟩ => ⟨S16384x8x128, .f32⟩
  | .hbm, ⟨55, _⟩ => ⟨S128x128, .f32⟩
  | .hbm, ⟨56, _⟩ => ⟨S16384x8x128, .f32⟩
  | .hbm, ⟨57, _⟩ => ⟨S16384x1024, .f32⟩
  | .hbm, ⟨58, _⟩ => ⟨S16384x1024, .bf16⟩
  | .hbm, ⟨59, _⟩ => ⟨S8x128x16384, .f32⟩
  | .hbm, ⟨60, _⟩ => ⟨S8x128x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel4.lean ====
abbrev S32x8x1024 : Shape := ⟨3, ![32, 8, 1024]⟩
abbrev S32x1024 : Shape := ⟨2, ![32, 1024]⟩
abbrev S1x1024 : Shape := ⟨2, ![1, 1024]⟩
abbrev S1x1024x3592 : Shape := ⟨3, ![1, 1024, 3592]⟩
abbrev S1x8 : Shape := ⟨2, ![1, 8]⟩
abbrev S1x8x64 : Shape := ⟨3, ![1, 8, 64]⟩
abbrev S512 : Shape := ⟨1, ![512]⟩
abbrev S1024x3592 : Shape := ⟨2, ![1024, 3592]⟩
abbrev S8 : Shape := ⟨1, ![8]⟩
abbrev S1024x2048 : Shape := ⟨2, ![1024, 2048]⟩
abbrev S1024x1536 : Shape := ⟨2, ![1024, 1536]⟩
abbrev S1024x3584 : Shape := ⟨2, ![1024, 3584]⟩
abbrev S1024x8 : Shape := ⟨2, ![1024, 8]⟩
abbrev S_ : Shape := ⟨0, ![]⟩
abbrev S1024x128 : Shape := ⟨2, ![1024, 128]⟩
abbrev S8x1024 : Shape := ⟨2, ![8, 1024]⟩
abbrev S128 : Shape := ⟨1, ![128]⟩
abbrev S1x128 : Shape := ⟨2, ![1, 128]⟩
abbrev S8x1 : Shape := ⟨2, ![8, 1]⟩
abbrev S512x1 : Shape := ⟨2, ![512, 1]⟩
abbrev S1x512 : Shape := ⟨2, ![1, 512]⟩
abbrev S512x512 : Shape := ⟨2, ![512, 512]⟩
abbrev S256x1024 : Shape := ⟨2, ![256, 1024]⟩
abbrev S1x256x1024 : Shape := ⟨3, ![1, 256, 1024]⟩
abbrev S8x64 : Shape := ⟨2, ![8, 64]⟩
abbrev S256x512 : Shape := ⟨2, ![256, 512]⟩
abbrev S256x128 : Shape := ⟨2, ![256, 128]⟩
abbrev S8x256 : Shape := ⟨2, ![8, 256]⟩
abbrev S1x512x256 : Shape := ⟨3, ![1, 512, 256]⟩
abbrev S256 : Shape := ⟨1, ![256]⟩
abbrev S256x1 : Shape := ⟨2, ![256, 1]⟩
abbrev S1024x512 : Shape := ⟨2, ![1024, 512]⟩
abbrev S128x256 : Shape := ⟨2, ![128, 256]⟩
abbrev S1x128x256 : Shape := ⟨3, ![1, 128, 256]⟩

abbrev nBuf : Space → Nat
  | .hbm => 55
  | .vmem => 23
  | .smem => 0
  | _ => 0

abbrev bufTy : (tb : Table) → Fin (tcTables nBuf tb) → BufTy
  | .hbm, ⟨0, _⟩ => ⟨S32x8x1024, .f32⟩
  | .hbm, ⟨1, _⟩ => ⟨S32x1024, .f32⟩
  | .hbm, ⟨2, _⟩ => ⟨S32x1024, .f32⟩
  | .hbm, ⟨3, _⟩ => ⟨S1x1024, .f32⟩
  | .hbm, ⟨4, _⟩ => ⟨S1x1024x3592, .f32⟩
  | .hbm, ⟨5, _⟩ => ⟨S1x8, .f32⟩
  | .hbm, ⟨6, _⟩ => ⟨S1x8x64, .f32⟩
  | .hbm, ⟨7, _⟩ => ⟨S1x8x64, .f32⟩
  | .hbm, ⟨8, _⟩ => ⟨S512, .i32⟩
  | .hbm, ⟨9, _⟩ => ⟨S1024x3592, .f32⟩
  | .hbm, ⟨10, _⟩ => ⟨S8, .f32⟩
  | .hbm, ⟨11, _⟩ => ⟨S1024x2048, .f32⟩
  | .hbm, ⟨12, _⟩ => ⟨S1024x1536, .f32⟩
  | .hbm, ⟨13, _⟩ => ⟨S1024x3584, .f32⟩
  | .hbm, ⟨14, _⟩ => ⟨S1024x3584, .bf16⟩
  | .hbm, ⟨15, _⟩ => ⟨S1024x8, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S8x1024, .f32⟩
  | .hbm, ⟨21, _⟩ => ⟨S8x1024, .bf16⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S8x1, .f32⟩
  | .hbm, ⟨27, _⟩ => ⟨S512x1, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .bf16⟩
  | .hbm, ⟨33, _⟩ => ⟨S256x1024, .f32⟩
  | .hbm, ⟨34, _⟩ => ⟨S32x8x1024, .f32⟩
  | .hbm, ⟨35, _⟩ => ⟨S256x1024, .f32⟩
  | .hbm, ⟨36, _⟩ => ⟨S1x256x1024, .f32⟩
  | .hbm, ⟨37, _⟩ => ⟨S32x8x1024, .f32⟩
  | .hbm, ⟨38, _⟩ => ⟨S256x1024, .f32⟩
  | .hbm, ⟨39, _⟩ => ⟨S1x256x1024, .f32⟩
  | .hbm, ⟨40, _⟩ => ⟨S8x64, .f32⟩
  | .hbm, ⟨41, _⟩ => ⟨S1x512, .f32⟩
  | .hbm, ⟨42, _⟩ => ⟨S8x64, .f32⟩
  | .hbm, ⟨43, _⟩ => ⟨S1x512, .f32⟩
  | .hbm, ⟨44, _⟩ => ⟨S256x512, .bf16⟩
  | .hbm, ⟨45, _⟩ => ⟨S256x512, .bf16⟩
  | .hbm, ⟨46, _⟩ => ⟨S256x512, .bf16⟩
  | .hbm, ⟨47, _⟩ => ⟨S256x512, .bf16⟩
  | .hbm, ⟨48, _⟩ => ⟨S256x128, .f32⟩
  | .hbm, ⟨49, _⟩ => ⟨S8x256, .f32⟩
  | .hbm, ⟨50, _⟩ => ⟨S256x512, .bf16⟩
  | .hbm, ⟨51, _⟩ => ⟨S256x512, .bf16⟩
  | .hbm, ⟨52, _⟩ => ⟨S256x512, .f32⟩
  | .hbm, ⟨53, _⟩ => ⟨S256x512, .f32⟩
  | .hbm, ⟨54, _⟩ => ⟨S1x512x256, .bf16⟩
  | .local _ .vmem, ⟨0, _⟩ => ⟨S256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x1024, .f32⟩
  | .local _ .vmem, ⟨4, _⟩ => ⟨S1024x3584, .bf16⟩
  | .local _ .vmem, ⟨5, _⟩ => ⟨S1024x128, .bf16⟩
  | .local _ .vmem, ⟨6, _⟩ => ⟨S8x1024, .bf16⟩
  | .local _ .vmem, ⟨7, _⟩ => ⟨S1x128, .f32⟩
  | .local _ .vmem, ⟨8, _⟩ => ⟨S8x1, .f32⟩
  | .local _ .vmem, ⟨9, _⟩ => ⟨S1x512, .f32⟩
  | .local _ .vmem, ⟨10, _⟩ => ⟨S1x512, .f32⟩
  | .local _ .vmem, ⟨11, _⟩ => ⟨S512x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x128, .f32⟩
  | .local _ .vmem, ⟨17, _⟩ => ⟨S8x256, .f32⟩
  | .local _ .vmem, ⟨18, _⟩ => ⟨S256x512, .bf16⟩
  | .local _ .vmem, ⟨19, _⟩ => ⟨S256x512, .bf16⟩
  | .local _ .vmem, ⟨20, _⟩ => ⟨S256x512, .f32⟩
  | .local _ .vmem, ⟨21, _⟩ => ⟨S256x512, .f32⟩
  | .local _ .vmem, ⟨22, _⟩ => ⟨S1x512x256, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev main_v31_3 : Ref sig .tc := ⟨.hbm, 47, rfl⟩
abbrev main_v31_4 : Ref sig .tc := ⟨.hbm, 48, rfl⟩
abbrev main_v31_5 : Ref sig .tc := ⟨.hbm, 49, rfl⟩
abbrev main_v31_6 : Ref sig .tc := ⟨.hbm, 50, rfl⟩
abbrev main_v31_7 : Ref sig .tc := ⟨.hbm, 51, rfl⟩
abbrev main_v31_8 : Ref sig .tc := ⟨.hbm, 52, rfl⟩
abbrev main_v31_9 : Ref sig .tc := ⟨.hbm, 53, rfl⟩
abbrev main_v31_10 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S256x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S256x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S256x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S1x512x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]
-- ==== Kernel4Ideal.lean ====
variable {F : FTy → Type} [FloatOps F] [Named F]
def κ : String → Option EReal := fun
  | "q_scale" => some ((8⁻¹ * (Real.log 2)⁻¹ : ℝ) : EReal)
  | _ => none
-- ==== Reference4Ideal.lean ====
abbrev S32x8x1024 : Shape := ⟨3, ![32, 8, 1024]⟩
abbrev S32x1024 : Shape := ⟨2, ![32, 1024]⟩
abbrev S1x1024 : Shape := ⟨2, ![1, 1024]⟩
abbrev S1x1024x3592 : Shape := ⟨3, ![1, 1024, 3592]⟩
abbrev S1x8 : Shape := ⟨2, ![1, 8]⟩
abbrev S1x8x64 : Shape := ⟨3, ![1, 8, 64]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x1x1024 : Shape := ⟨3, ![32, 1, 1024]⟩
abbrev S1024x3592 : Shape := ⟨2, ![1024, 3592]⟩
abbrev S32x8x3592 : Shape := ⟨3, ![32, 8, 3592]⟩
abbrev S32x8x512 : Shape := ⟨3, ![32, 8, 512]⟩
abbrev S32x8x4 : Shape := ⟨3, ![32, 8, 4]⟩
abbrev S32x8x8x64 : Shape := ⟨4, ![32, 8, 8, 64]⟩
abbrev S8x64 : Shape := ⟨2, ![8, 64]⟩
abbrev S32x8x8 : Shape := ⟨3, ![32, 8, 8]⟩
abbrev S32x8x8x1 : Shape := ⟨4, ![32, 8, 8, 1]⟩
abbrev S1x1x8x64 : Shape := ⟨4, ![1, 1, 8, 64]⟩
abbrev S256x512 : Shape := ⟨2, ![256, 512]⟩
abbrev S1x256x512 : Shape := ⟨3, ![1, 256, 512]⟩
abbrev S1x512x256 : Shape := ⟨3, ![1, 512, 256]⟩

abbrev nBuf : Space → Nat
  | .hbm => 114
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x1024, .f32⟩
  | .hbm, ⟨2, _⟩ => ⟨S32x1024, .f32⟩
  | .hbm, ⟨3, _⟩ => ⟨S1x1024, .f32⟩
  | .hbm, ⟨4, _⟩ => ⟨S1x1024x3592, .f32⟩
  | .hbm, ⟨5, _⟩ => ⟨S1x8, .f32⟩
  | .hbm, ⟨6, _⟩ => ⟨S1x8x64, .f32⟩
  | .hbm, ⟨7, _⟩ => ⟨S1x8x64, .f32⟩
  | .hbm, ⟨8, _⟩ => ⟨S1024, .f32⟩
  | .hbm, ⟨9, _⟩ => ⟨S32x8x1024, .f32⟩
  | .hbm, ⟨10, _⟩ => ⟨S_, .f32⟩
  | .hbm, ⟨11, _⟩ => ⟨S32x8, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S_, .f32⟩
  | .hbm, ⟨17, _⟩ => ⟨S32x8x1, .f32⟩
  | .hbm, ⟨18, _⟩ => ⟨S32x8x1, .f32⟩
  | .hbm, ⟨19, _⟩ => ⟨S32x8x1, .f32⟩
  | .hbm, ⟨20, _⟩ => ⟨S32x8x1024, .f32⟩
  | .hbm, ⟨21, _⟩ => ⟨S32x8x1024, .f32⟩
  | .hbm, ⟨22, _⟩ => ⟨S1x1x1024, .f32⟩
  | .hbm, ⟨23, _⟩ => ⟨S32x8x1024, .f32⟩
  | .hbm, ⟨24, _⟩ => ⟨S32x8x1024, .f32⟩
  | .hbm, ⟨25, _⟩ => ⟨S32x1x1024, .f32⟩
  | .hbm, ⟨26, _⟩ => ⟨S_, .f32⟩
  | .hbm, ⟨27, _⟩ => ⟨S32x1x1024, .f32⟩
  | .hbm, ⟨28, _⟩ => ⟨S32x1x1024, .f32⟩
  | .hbm, ⟨29, _⟩ => ⟨S32x8x1024, .f32⟩
  | .hbm, ⟨30, _⟩ => ⟨S32x8x1024, .f32⟩
  | .hbm, ⟨31, _⟩ => ⟨S32x1x1024, .f32⟩
  | .hbm, ⟨32, _⟩ => ⟨S32x8x1024, .f32⟩
  | .hbm, ⟨33, _⟩ => ⟨S32x8x1024, .f32⟩
  | .hbm, ⟨34, _⟩ => ⟨S1024x3592, .f32⟩
  | .hbm, ⟨35, _⟩ => ⟨S32x8x3592, .f32⟩
  | .hbm, ⟨36, _⟩ => ⟨S32x8x512, .f32⟩
  | .hbm, ⟨37, _⟩ => ⟨S32x8x512, .f32⟩
  | .hbm, ⟨38, _⟩ => ⟨S32x8x512, .f32⟩
  | .hbm, ⟨39, _⟩ => ⟨S32x8x512, .f32⟩
  | .hbm, ⟨40, _⟩ => ⟨S32x8x4, .f32⟩
  | .hbm, ⟨41, _⟩ => ⟨S32x8x4, .f32⟩
  | .hbm, ⟨42, _⟩ => ⟨S32x8x512, .f32⟩
  | .hbm, ⟨43, _⟩ => ⟨S32x8x512, .f32⟩
  | .hbm, ⟨44, _⟩ => ⟨S32x8x512, .f32⟩
  | .hbm, ⟨45, _⟩ => ⟨S32x8x8x64, .f32⟩
  | .hbm, ⟨46, _⟩ => ⟨S8x64, .f32⟩
  | .hbm, ⟨47, _⟩ => ⟨S32x8x8x64, .f32⟩
  | .hbm, ⟨48, _⟩ => ⟨S_, .f32⟩
  | .hbm, ⟨49, _⟩ => ⟨S32x8x8, .f32⟩
  | .hbm, ⟨50, _⟩ => ⟨S32x8x8x1, .f32⟩
  | .hbm, ⟨51, _⟩ => ⟨S_, .f32⟩
  | .hbm, ⟨52, _⟩ => ⟨S32x8x8x1, .f32⟩
  | .hbm, ⟨53, _⟩ => ⟨S32x8x8x1, .f32⟩
  | .hbm, ⟨54, _⟩ => ⟨S_, .f32⟩
  | .hbm, ⟨55, _⟩ => ⟨S32x8x8x1, .f32⟩
  | .hbm, ⟨56, _⟩ => ⟨S32x8x8x1, .f32⟩
  | .hbm, ⟨57, _⟩ => ⟨S32x8x8x1, .f32⟩
  | .hbm, ⟨58, _⟩ => ⟨S32x8x8x64, .f32⟩
  | .hbm, ⟨59, _⟩ => ⟨S32x8x8x64, .f32⟩
  | .hbm, ⟨60, _⟩ => ⟨S1x1x8x64, .f32⟩
  | .hbm, ⟨61, _⟩ => ⟨S32x8x8x64, .f32⟩
  | .hbm, ⟨62, _⟩ => ⟨S32x8x8x64, .f32⟩
  | .hbm, ⟨63, _⟩ => ⟨S32x8x8x64, .f32⟩
  | .hbm, ⟨64, _⟩ => ⟨S8x64, .f32⟩
  | .hbm, ⟨65, _⟩ => ⟨S32x8x8x64, .f32⟩
  | .hbm, ⟨66, _⟩ => ⟨S_, .f32⟩
  | .hbm, ⟨67, _⟩ => ⟨S32x8x8, .f32⟩
  | .hbm, ⟨68, _⟩ => ⟨S32x8x8x1, .f32⟩
  | .hbm, ⟨69, _⟩ => ⟨S_, .f32⟩
  | .hbm, ⟨70, _⟩ => ⟨S32x8x8x1, .f32⟩
  | .hbm, ⟨71, _⟩ => ⟨S32x8x8x1, .f32⟩
  | .hbm, ⟨72, _⟩ => ⟨S_, .f32⟩
  | .hbm, ⟨73, _⟩ => ⟨S32x8x8x1, .f32⟩
  | .hbm, ⟨74, _⟩ => ⟨S32x8x8x1, .f32⟩
  | .hbm, ⟨75, _⟩ => ⟨S32x8x8x1, .f32⟩
  | .hbm, ⟨76, _⟩ => ⟨S32x8x8x64, .f32⟩
  | .hbm, ⟨77, _⟩ => ⟨S32x8x8x64, .f32⟩
  | .hbm, ⟨78, _⟩ => ⟨S1x1x8x64, .f32⟩
  | .hbm, ⟨79, _⟩ => ⟨S32x8x8x64, .f32⟩
  | .hbm, ⟨80, _⟩ => ⟨S32x8x8x64, .f32⟩
  | .hbm, ⟨81, _⟩ => ⟨S256x512, .f32⟩
  | .hbm, ⟨82, _⟩ => ⟨S256x512, .bf16⟩
  | .hbm, ⟨83, _⟩ => ⟨S_, .f32⟩
  | .hbm, ⟨84, _⟩ => ⟨S32x8x512, .f32⟩
  | .hbm, ⟨85, _⟩ => ⟨S32x8x512, .f32⟩
  | .hbm, ⟨86, _⟩ => ⟨S256x512, .f32⟩
  | .hbm, ⟨87, _⟩ => ⟨S256x512, .bf16⟩
  | .hbm, ⟨88, _⟩ => ⟨S256x512, .f32⟩
  | .hbm, ⟨89, _⟩ => ⟨S256x512, .bf16⟩
  | .hbm, ⟨90, _⟩ => ⟨S32x8x512, .f32⟩
  | .hbm, ⟨91, _⟩ => ⟨S32x8x512, .f32⟩
  | .hbm, ⟨92, _⟩ => ⟨S_, .f32⟩
  | .hbm, ⟨93, _⟩ => ⟨S32x8x512, .f32⟩
  | .hbm, ⟨94, _⟩ => ⟨S32x8x512, .f32⟩
  | .hbm, ⟨95, _⟩ => ⟨S_, .f32⟩
  | .hbm, ⟨96, _⟩ => ⟨S32x8x512, .f32⟩
  | .hbm, ⟨97, _⟩ => ⟨S32x8x512, .f32⟩
  | .hbm, ⟨98, _⟩ => ⟨S256x512, .f32⟩
  | .hbm, ⟨99, _⟩ => ⟨S256x512, .bf16⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S32x8x8x64, .f32⟩
  | .hbm, ⟨105, _⟩ => ⟨S32x8x8x64, .f32⟩
  | .hbm, ⟨106, _⟩ => ⟨S256x512, .f32⟩
  | .hbm, ⟨107, _⟩ => ⟨S256x512, .bf16⟩
  | .hbm, ⟨108, _⟩ => ⟨S256x512, .f32⟩
  | .hbm, ⟨109, _⟩ => ⟨S256x512, .f32⟩
  | .hbm, ⟨110, _⟩ => ⟨S256x512, .bf16⟩
  | .hbm, ⟨111, _⟩ => ⟨S1x256x512, .f32⟩
  | .hbm, ⟨112, _⟩ => ⟨S1x512x256, .f32⟩
  | .hbm, ⟨113, _⟩ => ⟨S1x512x256, .bf16⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_cst_13 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩

abbrev nD : Nat := 1
abbrev τ : Topo := Topo.v7x

variable {F : FTy → Type} [FloatOps F]
-- ==== Proof.Spec.lean ====
/- What the stick-breaking kernel's body computes, as functions of vectors over any interpretation of the floats:
   one head's scores against one key block, the two running values a head carries from block to block (the row of
   remaining log-mass and the accumulated output), and the walk over the blocks below the diagonal. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Cert.KernelIdeal.Gen

variable {F : FTy → Type} [FloatOps F] [Named F]

/-- Rows `256 j … 256 j + 255` and columns `128 g … 128 g + 127` lie in the keys' window. -/
theorem inb_key (j : Fin 32) (g : Fin 2) :
    ∀ a, (![256 * j.val, 128 * g.val] : Fin 2 → ℕ) a + S256x128.size a ≤ S8192x256.size a := by
  intro a; fin_cases a
  · show 256 * j.val + 256 ≤ 8192
    omega
  · show 128 * g.val + 128 ≤ 256
    omega

/-- Block `j`'s rows `128 g … 128 g + 127` lie in the values' window. -/
theorem inb_val (j : Fin 32) (g : Fin 2) :
    ∀ a, (![j.val, 128 * g.val, 0] : Fin 3 → ℕ) a + S1x128x256.size a ≤ S32x256x256.size a := by
  intro a; fin_cases a
  · show j.val + 1 ≤ 32
    omega
  · show 128 * g.val + 128 ≤ 256
    omega
  · show 0 + 256 ≤ 256
    omega

/-- The keys of block `j` for the pair of heads `g`. -/
def ktile (K : Vec F S8192x256 .bf16) (g : Fin 2) (j : Fin 32) : Vec F S256x128 .bf16 :=
  View.ld K (Rect.unit (s := S8192x256) ![256 * j.val, 128 * g.val] S256x128.size (inb_key j g))

/-- The values of block `j` for the pair of heads `g`, transposed: a row per lane. -/
def vtile (V : Vec F S32x256x256 .bf16) (g : Fin 2) (j : Fin 32) : Vec F S1x128x256 .bf16 :=
  View.ld V (Rect.unit (s := S32x256x256) ![j.val, 128 * g.val, 0] S1x128x256.size (inb_val j g))

/-- The negated scores, in base two: keys against negated queries, plus the negated bias. -/
def zOf (q : FVec F S256x128 .bf16) (b : F .f32) (kb : Vec F S256x128 .bf16) : FVec F S256x256 .f32 :=
  addf (matmul dot_S256x128_S256x128_S256x256_1_1_0_0_n_n none
    (shapeCast S256x128 kb shapeCasts_S256x128_S256x128) q (constant S256x256 .f32 0x00000000#32)) (broadcast S256x256 b)

/-- The log of one minus the attention weight, in base two, from a negated score. -/
def lmOf (z : FVec F S256x256 .f32) : FVec F S256x256 .f32 :=
  subf (minimumf z (broadcast S256x256 (Scalar.ofBits .f32 0x00000000#32)))
    (mulf (log (addf (broadcast S256x256 (Scalar.ofBits .f32 0x3F800000#32))
      (exp2 (subf (broadcast S256x256 (Scalar.ofBits .f32 0x00000000#32)) (absf z)))))
      (broadcast S256x256 (Named.named κ "log2e" 0x3FB8AA3B#32)))

/-- The sums of `l` down the block, by the matrix product with `u`. -/
def pOf (u : FVec F S256x256 .bf16) (l : FVec F S256x256 .f32) : FVec F S256x256 .f32 :=
  matmul dot_S256x256_S256x256_S256x256_1_0_0_1_n_n none u (truncf .bf16 l bitsLt_bf16_f32) (constant S256x256 .f32 0x00000000#32)

/-- The attention weights of a block: what remains (`r`), the block's own sums (`p`), the negated score (`z`). -/
def aOf (r : FVec F S1x256 .f32) (p z : FVec F S256x256 .f32) : FVec F S256x256 .f32 :=
  exp2 (subf (addf (broadcastTo S256x256 r broadcasts_S1x256_S256x256) p) z)

/-- The output accumulated so far plus a block's values weighted by `a`. -/
def accOf (a : FVec F S256x256 .f32) (o : Vec F S1x128x256 .f32) (vt : Vec F S1x128x256 .bf16) : Vec F S1x128x256 .f32 :=
  shapeCast S1x128x256 (addf (shapeCast S128x256 o shapeCasts_S1x128x256_S128x256)
    (matmul dot_S128x256_S256x256_S128x256_1_0_0_1_n_n none (shapeCast S128x256 vt shapeCasts_S1x128x256_S128x256)
      (truncf .bf16 a bitsLt_bf16_f32) (constant S128x256 .f32 0x00000000#32))) shapeCasts_S128x256_S1x128x256

/-- What remains after a block: its whole sum, which the first row holds, added. -/
def runOf (r : FVec F S1x256 .f32) (p : FVec F S256x256 .f32) : FVec F S1x256 .f32 :=
  addf r (extractStridedSlice S1x256 ![0, 0] p slices_S256x256_o0_0_S1x256)

/-! The same, read from the operations to the names. -/

/-- The negated scores of a key block, as the body computes them. -/
theorem z_eq (q : FVec F S256x128 .bf16) (b : F .f32) (kb : Vec F S256x128 .bf16) :
    addf (matmul dot_S256x128_S256x128_S256x256_1_1_0_0_n_n none
      (shapeCast S256x128 kb shapeCasts_S256x128_S256x128) q (constant S256x256 .f32 0x00000000#32)) (broadcast S256x256 b)
      = zOf q b kb := rfl

/-- The logarithms of the shares that a block's keys leave, as the body computes them. -/
theorem lm_eq (z : FVec F S256x256 .f32) :
    subf (minimumf z (broadcast S256x256 (FloatOps.ofBits .f32 0x00000000#32)))
      (mulf (log (addf (broadcast S256x256 (FloatOps.ofBits .f32 0x3F800000#32))
        (exp2 (subf (broadcast S256x256 (FloatOps.ofBits .f32 0x00000000#32)) (absf z)))))
        (broadcast S256x256 (Named.named κ "log2e" 0x3FB8AA3B#32))) = lmOf z := rfl

/-- Their sums from each row on. -/
theorem p_eq (u : FVec F S256x256 .bf16) (l : FVec F S256x256 .f32) :
    matmul dot_S256x256_S256x256_S256x256_1_0_0_1_n_n none u (truncf .bf16 l bitsLt_bf16_f32)
      (constant S256x256 .f32 0x00000000#32) = pOf u l := rfl

/-- The weights of a block's keys. -/
theorem a_eq (r : FVec F S1x256 .f32) (p z : FVec F S256x256 .f32) :
    exp2 (subf (addf (broadcastTo S256x256 r broadcasts_S1x256_S256x256) p) z) = aOf r p z := rfl

/-- The accumulator after a block. -/
theorem acc_eq (a : FVec F S256x256 .f32) (o : Vec F S1x128x256 .f32) (vt : Vec F S1x128x256 .bf16) :
    shapeCast S1x128x256 (addf (shapeCast S128x256 o shapeCasts_S1x128x256_S128x256)
      (matmul dot_S128x256_S256x256_S128x256_1_0_0_1_n_n none (shapeCast S128x256 vt shapeCasts_S1x128x256_S128x256)
        (truncf .bf16 a bitsLt_bf16_f32) (constant S128x256 .f32 0x00000000#32))) shapeCasts_S128x256_S1x128x256
      = accOf a o vt := rfl

/-- The carried row after a block. -/
theorem run_eq (r : FVec F S1x256 .f32) (p : FVec F S256x256 .f32) :
    addf r (extractStridedSlice S1x256 ![0, 0] p slices_S256x256_o0_0_S1x256) = runOf r p := rfl

/-- What a head carries from block to block: the row of what remains and the accumulated output. -/
abbrev Carry (F : FTy → Type) : Type := FVec F S1x256 .f32 × Vec F S1x128x256 .f32

/-- One block below the diagonal. -/
def blkStep (u : FVec F S256x256 .bf16) (q : FVec F S256x128 .bf16) (b : F .f32) (kb : Vec F S256x128 .bf16)
    (vt : Vec F S1x128x256 .bf16) (s : Carry F) : Carry F :=
  (runOf s.1 (pOf u (lmOf (zOf q b kb))), accOf (aOf s.1 (pOf u (lmOf (zOf q b kb))) (zOf q b kb)) s.2 vt)

/-- The block on the diagonal: only the keys before the query count. -/
def diagStep (u : FVec F S256x256 .bf16) (w : IVec S256x256 1) (q : FVec F S256x128 .bf16) (b : F .f32)
    (kb : Vec F S256x128 .bf16) (vt : Vec F S1x128x256 .bf16) (s : Carry F) : Carry F :=
  (runOf s.1 (pOf u (select w (lmOf (zOf q b kb)) (broadcast S256x256 (Scalar.ofBits .f32 0x00000000#32)))),
   accOf (select w (aOf s.1 (pOf u (select w (lmOf (zOf q b kb)) (broadcast S256x256 (Scalar.ofBits .f32 0x00000000#32))))
     (zOf q b kb)) (broadcast S256x256 (Scalar.ofBits .f32 0x00000000#32))) s.2 vt)

/-- The loop's trips, two blocks each: trip `k` takes blocks `e - 1 - 2 k` and `e - 2 - 2 k`. -/
def pairs (u : FVec F S256x256 .bf16) (q : FVec F S256x128 .bf16) (b : F .f32) (kt : Fin 32 → Vec F S256x128 .bf16)
    (vt : Fin 32 → Vec F S1x128x256 .bf16) (e : ℕ) (s : Carry F) : ℕ → Carry F
  | 0 => s
  | k + 1 => blkStep u q b (kt (Fin.ofNat 32 (e - 2 - 2 * k))) (vt (Fin.ofNat 32 (e - 2 - 2 * k)))
      (blkStep u q b (kt (Fin.ofNat 32 (e - 1 - 2 * k))) (vt (Fin.ofNat 32 (e - 1 - 2 * k))) (pairs u q b kt vt e s k))

/-- The first block the loop does not take: the query block less one where its number is odd. -/
def evenEnd (i : grid0.Coords) : ℕ := (i 2).val - (i 2).val % 2

/-- A head's negated queries, scaled and cast: the lanes from `lo` up to `hi` of its pair's, zero on the others. -/
def qOf (lo hi : BitVec 32) (x : Vec F S256x128 .f32) : FVec F S256x128 .bf16 :=
  select (andi (cmpi .sge (iota .tc S256x128 32 [1] iota_S256x128_d1_w32) (broadcast S256x128 lo))
      (cmpi .slt (iota .tc S256x128 32 [1] iota_S256x128_d1_w32) (broadcast S256x128 hi)))
    (subf (broadcast S256x128 (Scalar.ofBits .bf16 0x0000#16))
      (truncf .bf16 (mulf (shapeCast S256x128 x shapeCasts_S256x128_S256x128)
        (broadcast S256x128 (Named.named κ "q_scale" 0x3E38AA3B#32))) bitsLt_bf16_f32))
    (broadcast S256x128 (Scalar.ofBits .bf16 0x0000#16))

/-- The first head's queries, scaled, negated and masked to their lanes. -/
theorem q0_eq (x : Vec F S256x128 .f32) : k0_pay121 x = qOf 0#32 64#32 x := rfl
/-- The second head's. -/
theorem q1_eq (x : Vec F S256x128 .f32) : k0_pay126 k0_pay123 (k0_pay124 x) k0_pay125 = qOf 64#32 128#32 x := rfl
/-- The third head's. -/
theorem q2_eq (x : Vec F S256x128 .f32) :
    k0_pay128 (iota .tc S256x128 32 [1] iota_S256x128_d1_w32) x = qOf 0#32 64#32 x := rfl
/-- The fourth head's. -/
theorem q3_eq (x : Vec F S256x128 .f32) :
    k0_pay130 (iota .tc S256x128 32 [1] iota_S256x128_d1_w32) x = qOf 64#32 128#32 x := rfl

/-- A head's negated bias, in base two. -/
def bOf (x : F .f32) : F .f32 := Scalar.mulf (Named.named κ "neg_log2e" 0xBFB8AA3B#32) x

/-- The four heads' biases at a grid point: four after four along the bias array. -/
def bias (B : Vec F S8 .f32) (i : grid0.Coords) (h : Fin 4) : F .f32 :=
  B fun d => ⟨4 * (i 1).val + h.val, by
    have h2 : (i 1).val < 2 := (i 1).isLt
    fin_cases d
    show 4 * (i 1).val + h.val < 8
    omega⟩

/-- What a head carries at first: nothing remains taken, nothing accumulated. -/
def carryZero : Carry F :=
  (broadcast S1x256 (Scalar.ofBits .f32 0x00000000#32), broadcast S1x128x256 (Scalar.ofBits .f32 0x00000000#32))

/-- What a head carries after the diagonal block and, where the query block's number is odd, the one before it. -/
def entry (q : FVec F S256x128 .bf16) (b : F .f32) (kt : Fin 32 → Vec F S256x128 .bf16)
    (vt : Fin 32 → Vec F S1x128x256 .bf16) (n : Fin 32) : Carry F :=
  let s := diagStep k0_pay119 k0_pay120 q b (kt n) (vt n) carryZero
  if n.val % 2 = 1 then blkStep k0_pay119 q b (kt (Fin.ofNat 32 (n.val - 1))) (vt (Fin.ofNat 32 (n.val - 1))) s else s

/-- What a head carries when every block up to the diagonal is taken, from the diagonal down. -/
def walk (q : FVec F S256x128 .bf16) (b : F .f32) (kt : Fin 32 → Vec F S256x128 .bf16)
    (vt : Fin 32 → Vec F S1x128x256 .bf16) (n : Fin 32) : Carry F :=
  pairs k0_pay119 q b kt vt (n.val - n.val % 2) (entry q b kt vt n) (n.val / 2)

/-- Columns `128 g … 128 g + 127` lie in the queries' window. -/
theorem inb_q (g : Fin 2) : ∀ a, (![0, 128 * g.val] : Fin 2 → ℕ) a + S256x128.size a ≤ S256x256.size a := by
  intro a; fin_cases a
  · show 0 + 256 ≤ 256
    omega
  · show 128 * g.val + 128 ≤ 256
    omega

/-- The queries of the pair of heads `g`. -/
def qtile (Q : Vec F S256x256 .f32) (g : Fin 2) : Vec F S256x128 .f32 :=
  View.ld Q (Rect.unit (s := S256x256) ![0, 128 * g.val] S256x128.size (inb_q g))

/-- Head `h`'s accumulated output when every block is taken, from the windows' contents: the four heads' biases `b`,
    the queries `Q`, the keys `K` and the values `V`. -/
def headOut (b : Fin 4 → F .f32) (Q : Vec F S256x256 .f32) (K : Vec F S8192x256 .bf16) (V : Vec F S32x256x256 .bf16)
    (n : Fin 32) (h : Fin 4) : Vec F S1x128x256 .f32 :=
  (walk (qOf (![0#32, 64#32, 0#32, 64#32] h) (![64#32, 128#32, 64#32, 128#32] h) (qtile Q (![0, 0, 1, 1] h))) (bOf (b h))
    (ktile K (![0, 0, 1, 1] h)) (vtile V (![0, 0, 1, 1] h)) n).2

/-- Rows `64 e … 64 e + 63` lie in a head's accumulator. -/
theorem inb_half (e : Fin 2) : ∀ a, (![0, 64 * e.val, 0] : Fin 3 → ℕ) a + S1x64x256.size a ≤ S1x128x256.size a := by
  intro a; fin_cases a
  · show 0 + 1 ≤ 1
    omega
  · show 64 * e.val + 64 ≤ 128
    omega
  · show 0 + 256 ≤ 256
    omega

/-- The half of a pair's lanes that one of its heads owns. -/
def half (o : Vec F S1x128x256 .f32) (e : Fin 2) : Vec F S1x64x256 .f32 :=
  View.ld o (Rect.unit (s := S1x128x256) ![0, 64 * e.val, 0] S1x64x256.size (inb_half e))

/-- The kernel's output block: a pair of heads per half of the columns. -/
def outVal (b : Fin 4 → F .f32) (Q : Vec F S256x256 .f32) (K : Vec F S8192x256 .bf16) (V : Vec F S32x256x256 .bf16)
    (n : Fin 32) : Vec F S256x256 .bf16 :=
  View.canon (Val := Elt F) [
    ⟨Rect.unit (s := S256x256) ![0, 128] S256x128.size inb_S256x256_S256x128_0_128,
      k0_pay180 (half (headOut b Q K V n 2) 0) (half (headOut b Q K V n 3) 1)⟩,
    ⟨Rect.unit (s := S256x256) ![0, 0] S256x128.size inb_S256x256_S256x128_0_0,
      k0_pay179 (half (headOut b Q K V n 0) 0) (half (headOut b Q K V n 1) 1)⟩]

/-- The two halves of the columns make up the output block. -/
theorem cover_out (w1 w0 : Vec F S256x128 .bf16) (y : S256x256.Idx) :
    ∃ p ∈ ([⟨Rect.unit (s := S256x256) ![0, 128] S256x128.size inb_S256x256_S256x128_0_128, w1⟩,
      ⟨Rect.unit (s := S256x256) ![0, 0] S256x128.size inb_S256x256_S256x128_0_0, w0⟩] :
      List (View.Piece (Elt F) S256x256 .bf16)), y ∈ p.1.set := by
  have h0 : (y 0).val < 256 := (y 0).isLt
  have h1 : (y 1).val < 256 := (y 1).isLt
  by_cases h : (y 1).val < 128
  · refine ⟨_, List.mem_cons_of_mem _ (List.mem_cons_self ..),
      (Rect.mem_set_unit (inb := inb_S256x256_S256x128_0_0)).mpr fun a => ?_⟩
    fin_cases a
    · exact ⟨Nat.zero_le _, by show (y 0).val < 0 + 256; omega⟩
    · exact ⟨Nat.zero_le _, by show (y 1).val < 0 + 128; omega⟩
  · refine ⟨_, List.mem_cons_self ..,
      (Rect.mem_set_unit (inb := inb_S256x256_S256x128_0_128)).mpr fun a => ?_⟩
    fin_cases a
    · exact ⟨Nat.zero_le _, by show (y 0).val < 0 + 256; omega⟩
    · exact ⟨by show 128 ≤ (y 1).val; omega, by show (y 1).val < 128 + 128; omega⟩

end Cert.KernelIdeal.Hand
-- ==== Proof.Loop.lean ====
/- The kernel's loop over the blocks below the diagonal: what the scratch holds and what is carried before each trip,
   and that a trip, which takes two blocks, keeps it so. -/
module

public import proofs.«01_k».proof.Proof.Spec
public import Idealize.ShloMosaic.Lib.Exec
public import Idealize.ShloMosaic.Lib.Tactic
public import Idealize.ShloMosaic.Lib.WritesUnit

@[expose] public section

set_option maxRecDepth 16384

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Where a trip reads -/

/-- Reading keys at the offsets of block `j`, pair `g`, reads that tile. -/
theorem read_key (v : View sig .tc .vmem S8192x256 .bf16) (X : v.ty.Contents (Elt F)) (g : Fin 2) (j : Fin 32)
    {off : Fin 2 → ℕ} (inb) (h : off = ![256 * j.val, 128 * g.val]) :
    v.readAt (Elt F) (Rect.unit (s := S8192x256) off S256x128.size inb).toLoadRect X = ktile (v.read (Elt F) X) g j := by
  subst h; rfl

/-- Reading values at the offsets of block `j`, pair `g`, reads that tile. -/
theorem read_val (v : View sig .tc .vmem S32x256x256 .bf16) (X : v.ty.Contents (Elt F)) (g : Fin 2) (j : Fin 32)
    {off : Fin 3 → ℕ} (inb) (h : off = ![j.val, 128 * g.val, 0]) :
    v.readAt (Elt F) (Rect.unit (s := S32x256x256) off S1x128x256.size inb).toLoadRect X = vtile (v.read (Elt F) X) g j := by
  subst h; rfl

/-- Reading queries at pair `g`'s columns reads that tile. -/
theorem read_q (v : View sig .tc .vmem S256x256 .f32) (X : v.ty.Contents (Elt F)) (g : Fin 2)
    {off : Fin 2 → ℕ} (inb) (h : off = ![0, 128 * g.val]) :
    v.readAt (Elt F) (Rect.unit (s := S256x256) off S256x128.size inb).toLoadRect X = qtile (v.read (Elt F) X) g := by
  subst h; rfl

/-- Reading a bias at head `h`'s place reads that head's. -/
theorem read_bias (v : View sig .tc .smem S8 .f32) (X : v.ty.Contents (Elt F)) (i : grid0.Coords) (h : Fin 4)
    {off : Fin 1 → ℕ} (inb) (ho : off = ![4 * (i 1).val + h.val]) (x : S1.Idx) :
    v.readAt (Elt F) (Rect.unit (s := S8) off S1.size inb).toLoadRect X x = bias (v.read (Elt F) X) i h := by
  subst ho
  refine congrArg (v.read (Elt F) X) (funext fun d => Fin.ext ?_)
  fin_cases d
  have h0 : (x 0).val = 0 := Nat.lt_one_iff.mp (x 0).isLt
  show 4 * (i 1).val + h.val + 1 * (x 0).val = 4 * (i 1).val + h.val
  omega

/-- Where the first head's bias is read. -/
theorem off1_0 : ∀ i : grid0.Coords, k0_off1 i 0#32 = ![4 * (i 1).val + (0 : Fin 4).val] := by decide +kernel
/-- Where the second head's is read. -/
theorem off1_1 : ∀ i : grid0.Coords, k0_off1 i 1#32 = ![4 * (i 1).val + (1 : Fin 4).val] := by decide +kernel
/-- Where the third head's is read. -/
theorem off1_2 : ∀ i : grid0.Coords, k0_off1 i 2#32 = ![4 * (i 1).val + (2 : Fin 4).val] := by decide +kernel
/-- Where the fourth head's is read. -/
theorem off1_3 : ∀ i : grid0.Coords, k0_off1 i 3#32 = ![4 * (i 1).val + (3 : Fin 4).val] := by decide +kernel
/-- The diagonal key block, first pair of heads. -/
theorem off2 : ∀ i : grid0.Coords, k0_off2 i = ![256 * (i 2 : Fin 32).val, 128 * (0 : Fin 2).val] := by decide +kernel
/-- The diagonal key block, second pair of heads. -/
theorem off3 : ∀ i : grid0.Coords, k0_off3 i = ![256 * (i 2 : Fin 32).val, 128 * (1 : Fin 2).val] := by decide +kernel
/-- The diagonal value block, first pair of heads. -/
theorem off4 : ∀ i : grid0.Coords, k0_off4 i = ![(i 2 : Fin 32).val, 128 * (0 : Fin 2).val, 0] := by decide +kernel
/-- The diagonal value block, second pair of heads. -/
theorem off5 : ∀ i : grid0.Coords, k0_off5 i = ![(i 2 : Fin 32).val, 128 * (1 : Fin 2).val, 0] := by decide +kernel
/-- The block before the diagonal's. -/
abbrev jP (i : grid0.Coords) : Fin 32 := Fin.ofNat 32 ((i 2 : Fin 32).val - 1)
/-- The key block that the conditional takes, first pair of heads. -/
theorem off6 : ∀ i : grid0.Coords, k0_cond1 i = 1#1 → k0_off6 i = ![256 * (jP i).val, 128 * (0 : Fin 2).val] := by decide +kernel
/-- The same, second pair of heads. -/
theorem off7 : ∀ i : grid0.Coords, k0_cond1 i = 1#1 → k0_off7 i = ![256 * (jP i).val, 128 * (1 : Fin 2).val] := by decide +kernel
/-- The value block that the conditional takes, first pair of heads. -/
theorem off8 : ∀ i : grid0.Coords, k0_cond1 i = 1#1 → k0_off8 i = ![(jP i).val, 128 * (0 : Fin 2).val, 0] := by decide +kernel
/-- The same, second pair of heads. -/
theorem off9 : ∀ i : grid0.Coords, k0_cond1 i = 1#1 → k0_off9 i = ![(jP i).val, 128 * (1 : Fin 2).val, 0] := by decide +kernel
/-- The kernel's branch is taken where the query block's number is odd. -/
theorem cond_odd : ∀ i : grid0.Coords, k0_cond1 i = 1#1 ↔ (i 2 : Fin 32).val % 2 = 1 := by decide +kernel

/-- A trip's first key block, first pair of heads. -/
theorem off10 : ∀ (i : grid0.Coords) (k : Fin (k0_t1_loop i).trips),
    k0_off10 i k = ![256 * (Fin.ofNat 32 (evenEnd i - 1 - 2 * k.val)).val, 128 * (0 : Fin 2).val] := by decide +kernel
/-- A trip's first key block, second pair of heads. -/
theorem off11 : ∀ (i : grid0.Coords) (k : Fin (k0_t1_loop i).trips),
    k0_off11 i k = ![256 * (Fin.ofNat 32 (evenEnd i - 1 - 2 * k.val)).val, 128 * (1 : Fin 2).val] := by decide +kernel
/-- A trip's second key block, first pair of heads. -/
theorem off12 : ∀ (i : grid0.Coords) (k : Fin (k0_t1_loop i).trips),
    k0_off12 i k = ![256 * (Fin.ofNat 32 (evenEnd i - 2 - 2 * k.val)).val, 128 * (0 : Fin 2).val] := by decide +kernel
/-- A trip's second key block, second pair of heads. -/
theorem off13 : ∀ (i : grid0.Coords) (k : Fin (k0_t1_loop i).trips),
    k0_off13 i k = ![256 * (Fin.ofNat 32 (evenEnd i - 2 - 2 * k.val)).val, 128 * (1 : Fin 2).val] := by decide +kernel
/-- A trip's first value block, first pair of heads. -/
theorem off14 : ∀ (i : grid0.Coords) (k : Fin (k0_t1_loop i).trips),
    k0_off14 i k = ![(Fin.ofNat 32 (evenEnd i - 1 - 2 * k.val)).val, 128 * (0 : Fin 2).val, 0] := by decide +kernel
/-- A trip's first value block, second pair of heads. -/
theorem off15 : ∀ (i : grid0.Coords) (k : Fin (k0_t1_loop i).trips),
    k0_off15 i k = ![(Fin.ofNat 32 (evenEnd i - 1 - 2 * k.val)).val, 128 * (1 : Fin 2).val, 0] := by decide +kernel
/-- A trip's second value block, first pair of heads. -/
theorem off16 : ∀ (i : grid0.Coords) (k : Fin (k0_t1_loop i).trips),
    k0_off16 i k = ![(Fin.ofNat 32 (evenEnd i - 2 - 2 * k.val)).val, 128 * (0 : Fin 2).val, 0] := by decide +kernel
/-- A trip's second value block, second pair of heads. -/
theorem off17 : ∀ (i : grid0.Coords) (k : Fin (k0_t1_loop i).trips),
    k0_off17 i k = ![(Fin.ofNat 32 (evenEnd i - 2 - 2 * k.val)).val, 128 * (1 : Fin 2).val, 0] := by decide +kernel
/-- The loop stops when every pair of blocks below the diagonal is taken. -/
theorem trips_t1 : ∀ i : grid0.Coords, (k0_t1_loop i).trips = (i 2).val / 2 := by decide +kernel
/-- The compiled program's second loop, over what the first leaves, makes no trip. -/
theorem trips_t2 : ∀ i : grid0.Coords, (k0_t2_loop i).trips = 0 := by decide +kernel

/-! ## What the scratch holds -/

/-- The rectangle of head `h` in the scratch. -/
theorem inb_head (h : Fin 4) : ∀ a, (![h.val, 0, 0] : Fin 3 → ℕ) a + S1x128x256.size a ≤ S4x128x256.size a := by
  intro a; fin_cases a
  · show h.val + 1 ≤ 4
    omega
  · show 0 + 128 ≤ 128
    omega
  · show 0 + 256 ≤ 256
    omega

/-- A store of head `h`'s accumulator. -/
abbrev headPiece (h : Fin 4) (w : Vec F S1x128x256 .f32) : View.Piece (Elt F) S4x128x256 .f32 :=
  ⟨Rect.unit (s := S4x128x256) ![h.val, 0, 0] S1x128x256.size (inb_head h), w⟩

/-- A reading of head `h`'s accumulator. -/
abbrev headRead (v : View sig .tc .vmem S4x128x256 .f32) (f : v.ty.Contents (Elt F)) (h : Fin 4) : Vec F S1x128x256 .f32 :=
  v.readAt (Elt F) (Rect.unit (s := S4x128x256) ![h.val, 0, 0] S1x128x256.size (inb_head h)).toLoadRect f

/-- A head's accumulator reads as its last store. -/
theorem headRead_hit (v : View sig .tc .vmem S4x128x256 .f32) (f : v.ty.Contents (Elt F)) (h : Fin 4)
    (w : Vec F S1x128x256 .f32) (L : List (View.Piece (Elt F) S4x128x256 .f32)) :
    headRead v (v.writes (Elt F) f (headPiece h w :: L)) h = w :=
  by
  funext x
  exact View.read_writes_cons_unit_of_mem v f (inb_head h) w L _ x rfl fun a => by
    show _ + 1 * _ = _
    rw [Nat.one_mul]
    rfl

/-- A store of another head's accumulator leaves a head's reading. -/
theorem headRead_skip (v : View sig .tc .vmem S4x128x256 .f32) (f : v.ty.Contents (Elt F)) (h h' : Fin 4) (hne : h ≠ h')
    (w : Vec F S1x128x256 .f32) (L : List (View.Piece (Elt F) S4x128x256 .f32)) :
    headRead v (v.writes (Elt F) f (headPiece h' w :: L)) h = headRead v (v.writes (Elt F) f L) h := by
  funext x
  refine View.read_writes_cons_unit_of_not_mem v f (inb_head h') w L _ rfl 0 ?_
  have h0 : (x 0).val = 0 := by have := (x 0).isLt; simpa using Nat.lt_one_iff.mp this
  have hne' : h.val ≠ h'.val := fun e => hne (Fin.ext e)
  show h.val + 1 * (x 0).val < h'.val ∨ h'.val + 1 ≤ h.val + 1 * (x 0).val
  omega

/-- The same two readings of stores that cover what is read, at the offsets as numerals. -/
theorem readCov_hit (v : View sig .tc .vmem S4x128x256 .f32) {a : ℕ} (inb inb')
    (w : Vec F S1x128x256 .f32) (L : List (View.Piece (Elt F) S4x128x256 .f32)) :
    v.readCov ((⟨Rect.unit (s := S4x128x256) ![a, 0, 0] S1x128x256.size inb, w⟩ : View.Piece (Elt F) S4x128x256 .f32) :: L)
      (Rect.unit (s := S4x128x256) ![a, 0, 0] S1x128x256.size inb').toLoadRect = w := by
  funext x
  exact View.read_writes_cons_unit_of_mem v _ inb w L _ x rfl fun a => by
    show _ + 1 * _ = _
    rw [Nat.one_mul]
    rfl

/-- A read of one head's accumulator passes over a store to another's. -/
theorem readCov_skip (v : View sig .tc .vmem S4x128x256 .f32) {a a' : ℕ} (ha : a ≠ a') (inb inb')
    (w : Vec F S1x128x256 .f32) (L : List (View.Piece (Elt F) S4x128x256 .f32)) :
    v.readCov ((⟨Rect.unit (s := S4x128x256) ![a', 0, 0] S1x128x256.size inb', w⟩ : View.Piece (Elt F) S4x128x256 .f32) :: L)
      (Rect.unit (s := S4x128x256) ![a, 0, 0] S1x128x256.size inb).toLoadRect
      = v.readCov L (Rect.unit (s := S4x128x256) ![a, 0, 0] S1x128x256.size inb).toLoadRect := by
  funext x
  refine View.read_writes_cons_unit_of_not_mem v _ inb' w L _ rfl 0 ?_
  have h0 : (x 0).val = 0 := by have := (x 0).isLt; simpa using Nat.lt_one_iff.mp this
  show a + 1 * (x 0).val < a' ∨ a' + 1 ≤ a + 1 * (x 0).val
  omega

/-- A head's accumulator read from the scratch filled with one value. -/
theorem readCov_fill (v : View sig .tc .vmem S4x128x256 .f32) {a : ℕ} (inb inb') (w : Vec F S4x128x256 .f32) (z : F .f32)
    (hz : ∀ y, w y = z) :
    v.readCov [(⟨Rect.unit (s := S4x128x256) ![0, 0, 0] S4x128x256.size inb, w⟩ : View.Piece (Elt F) S4x128x256 .f32)]
      (Rect.unit (s := S4x128x256) ![a, 0, 0] S1x128x256.size inb').toLoadRect = broadcast S1x128x256 z := by
  funext x
  refine (View.read_writes_cons_unit_of_mem v v.junk inb w []
    ((Rect.unit (s := S4x128x256) ![a, 0, 0] S1x128x256.size inb').toLoadRect.idx x)
    ((Rect.unit (s := S4x128x256) ![a, 0, 0] S1x128x256.size inb').toLoadRect.idx x) rfl ?_).trans (hz _)
  have h0 : ∀ d : Fin 3, (![0, 0, 0] : Fin 3 → ℕ) d = 0 := by decide
  intro d
  rw [h0 d, Nat.zero_add]

/-- The kernel first fills the scratch with zeros. -/
theorem fill_zero (y : S4x128x256.Idx) : (k0_pay132 : FVec F S4x128x256 .f32) y = FloatOps.ofBits .f32 0x00000000#32 := rfl

/-- Half of a head's accumulator read directly. -/
theorem readAt_half (v : View sig .tc .vmem S4x128x256 .f32) (f : v.ty.Contents (Elt F)) (h : Fin 4) (e : Fin 2)
    {off : Fin 3 → ℕ} (inb) (ho : off = ![h.val, 64 * e.val, 0]) :
    v.readAt (Elt F) (Rect.unit (s := S4x128x256) off S1x64x256.size inb).toLoadRect f = half (headRead v f h) e := by
  subst ho
  funext x
  refine congrArg (v.read (Elt F) f) (funext fun d => Fin.ext ?_)
  fin_cases d
  · show h.val + 1 * (x 0).val = h.val + 1 * (0 + 1 * (x 0).val)
    omega
  · show 64 * e.val + 1 * (x 1).val = 0 + 1 * (64 * e.val + 1 * (x 1).val)
    omega
  · show 0 + 1 * (x 2).val = 0 + 1 * (0 + 1 * (x 2).val)
    omega

/-- The two blocks of trip `k`: the first, nearer the diagonal, and the second. -/
abbrev jA (i : grid0.Coords) (k : ℕ) : Fin 32 := Fin.ofNat 32 (evenEnd i - 1 - 2 * k)
/-- The second block of a trip. -/
abbrev jB (i : grid0.Coords) (k : ℕ) : Fin 32 := Fin.ofNat 32 (evenEnd i - 2 - 2 * k)

/-- The scratch after `k` trips: per trip and block, each head's accumulator stored. The four heads' carried values
    before the loop are `s`. -/
def scratchAt (v : View sig .tc .vmem S4x128x256 .f32) (f : v.ty.Contents (Elt F)) (u : FVec F S256x256 .bf16)
    (q : Fin 4 → FVec F S256x128 .bf16) (b : Fin 4 → F .f32) (kt : Fin 2 → Fin 32 → Vec F S256x128 .bf16)
    (vt : Fin 2 → Fin 32 → Vec F S1x128x256 .bf16) (i : grid0.Coords) (s : Fin 4 → Carry F) : ℕ → v.ty.Contents (Elt F)
  | 0 => f
  | k + 1 =>
    let A := fun (h : Fin 4) (g : Fin 2) => blkStep u (q h) (b h) (kt g (jA i k)) (vt g (jA i k))
      (pairs u (q h) (b h) (kt g) (vt g) (evenEnd i) (s h) k)
    let B := fun (h : Fin 4) (g : Fin 2) => blkStep u (q h) (b h) (kt g (jB i k)) (vt g (jB i k)) (A h g)
    v.writes (Elt F) (scratchAt v f u q b kt vt i s k)
      [headPiece 3 (B 3 1).2, headPiece 2 (B 2 1).2, headPiece 1 (B 1 0).2, headPiece 0 (B 0 0).2,
       headPiece 3 (A 3 1).2, headPiece 2 (A 2 1).2, headPiece 1 (A 1 0).2, headPiece 0 (A 0 0).2]

/-- The pair a head belongs to. -/
abbrev pairIx (h : Fin 4) : Fin 2 := ![0, 0, 1, 1] h

/-- After `k` trips each head's accumulator reads as its `k` pairs of blocks leave it. -/
theorem headRead_scratchAt (v : View sig .tc .vmem S4x128x256 .f32) (f : v.ty.Contents (Elt F)) (u : FVec F S256x256 .bf16)
    (q : Fin 4 → FVec F S256x128 .bf16) (b : Fin 4 → F .f32) (kt : Fin 2 → Fin 32 → Vec F S256x128 .bf16)
    (vt : Fin 2 → Fin 32 → Vec F S1x128x256 .bf16) (i : grid0.Coords) (s : Fin 4 → Carry F)
    (hs : ∀ h, headRead v f h = (s h).2) (k : ℕ) (h : Fin 4) :
    headRead v (scratchAt v f u q b kt vt i s k) h
      = (pairs u (q h) (b h) (kt (pairIx h)) (vt (pairIx h)) (evenEnd i) (s h) k).2 := by
  cases k with
  | zero => exact hs h
  | succ k =>
    fin_cases h
    · refine (headRead_skip v _ 0 3 (by decide) _ _).trans ?_
      refine (headRead_skip v _ 0 2 (by decide) _ _).trans ?_
      refine (headRead_skip v _ 0 1 (by decide) _ _).trans ?_
      exact headRead_hit v _ 0 _ _
    · refine (headRead_skip v _ 1 3 (by decide) _ _).trans ?_
      refine (headRead_skip v _ 1 2 (by decide) _ _).trans ?_
      exact headRead_hit v _ 1 _ _
    · refine (headRead_skip v _ 2 3 (by decide) _ _).trans ?_
      exact headRead_hit v _ 2 _ _
    · exact headRead_hit v _ 3 _ _

/-- What each head carries into the loop: its row, and its accumulator as the scratch holds it. -/
def carry0 (v : View sig .tc .vmem S4x128x256 .f32) (f : v.ty.Contents (Elt F))
    (r : FVec F S1x256 .f32 × FVec F S1x256 .f32 × FVec F S1x256 .f32 × FVec F S1x256 .f32) (h : Fin 4) : Carry F :=
  (![r.1, r.2.1, r.2.2.1, r.2.2.2] h, headRead v f h)

/-- What each head carries when the scratch's last four stores are the heads' accumulators. -/
theorem carry0_writes (v : View sig .tc .vmem S4x128x256 .f32) (f : v.ty.Contents (Elt F))
    (L : List (View.Piece (Elt F) S4x128x256 .f32)) (o0 o1 o2 o3 : Vec F S1x128x256 .f32) (r0 r1 r2 r3 : FVec F S1x256 .f32)
    (h : Fin 4) :
    carry0 v (v.writes (Elt F) f (headPiece 3 o3 :: headPiece 2 o2 :: headPiece 1 o1 :: headPiece 0 o0 :: L)) (r0, r1, r2, r3) h
      = (![(r0, o0), (r1, o1), (r2, o2), (r3, o3)] : Fin 4 → Carry F) h := by
  fin_cases h
  · refine Prod.ext rfl ?_
    refine (headRead_skip v _ 0 3 (by decide) _ _).trans ?_
    refine (headRead_skip v _ 0 2 (by decide) _ _).trans ?_
    refine (headRead_skip v _ 0 1 (by decide) _ _).trans ?_
    exact headRead_hit v _ 0 _ _
  · refine Prod.ext rfl ?_
    refine (headRead_skip v _ 1 3 (by decide) _ _).trans ?_
    refine (headRead_skip v _ 1 2 (by decide) _ _).trans ?_
    exact headRead_hit v _ 1 _ _
  · refine Prod.ext rfl ?_
    refine (headRead_skip v _ 2 3 (by decide) _ _).trans ?_
    exact headRead_hit v _ 2 _ _
  · exact Prod.ext rfl (headRead_hit v _ 3 _ _)

/-- The four carried rows after `k` trips. -/
def rowsAt (u : FVec F S256x256 .bf16)
    (q : Fin 4 → FVec F S256x128 .bf16) (b : Fin 4 → F .f32) (kt : Fin 2 → Fin 32 → Vec F S256x128 .bf16)
    (vt : Fin 2 → Fin 32 → Vec F S1x128x256 .bf16) (i : grid0.Coords) (s : Fin 4 → Carry F) (k : ℕ) :
    FVec F S1x256 .f32 × FVec F S1x256 .f32 × FVec F S1x256 .f32 × FVec F S1x256 .f32 :=
  let P := fun h => (pairs u (q h) (b h) (kt (pairIx h)) (vt (pairIx h)) (evenEnd i) (s h) k).1
  (P 0, P 1, P 2, P 3)

/-- Pairs of blocks from equal parts. -/
theorem pairs_congr (u : FVec F S256x256 .bf16) (kt : Fin 32 → Vec F S256x128 .bf16) (vt : Fin 32 → Vec F S1x128x256 .bf16)
    (e : ℕ) {q q' : FVec F S256x128 .bf16} {b b' : F .f32} {s s' : Carry F} {k k' : ℕ} (hq : q = q') (hb : b = b')
    (hs : s = s') (hk : k = k') : pairs u q b kt vt e s k = pairs u q' b' kt vt e s' k' := by
  subst hq hb hs hk; rfl

/-- What the kernel stores last, read from the scratch as the loop leaves it, is the output block. -/
theorem out_eq (v : View sig .tc .vmem S4x128x256 .f32) (f0 : v.ty.Contents (Elt F)) (i : grid0.Coords)
    (q : Fin 4 → FVec F S256x128 .bf16) (b : Fin 4 → F .f32) (B : Fin 4 → F .f32) (Q : Vec F S256x256 .f32)
    (K : Vec F S8192x256 .bf16) (V : Vec F S32x256x256 .bf16)
    (r : FVec F S1x256 .f32 × FVec F S1x256 .f32 × FVec F S1x256 .f32 × FVec F S1x256 .f32) (k : ℕ)
    (i0 i1 i2 i3)
    (hq : ∀ h, q h = qOf (![0#32, 64#32, 0#32, 64#32] h) (![64#32, 128#32, 64#32, 128#32] h) (qtile Q (pairIx h)))
    (hb : ∀ h, b h = bOf (B h))
    (hs : ∀ h, carry0 v f0 r h = entry (qOf (![0#32, 64#32, 0#32, 64#32] h) (![64#32, 128#32, 64#32, 128#32] h)
      (qtile Q (pairIx h))) (bOf (B h)) (ktile K (pairIx h)) (vtile V (pairIx h)) (i 2))
    (hk : k = (i 2 : Fin 32).val / 2) :
    View.canon (Val := Elt F) (e := .bf16) [
      ⟨Rect.unit (s := S256x256) ![0, 128] S256x128.size inb_S256x256_S256x128_0_128,
        k0_pay180
          (v.readAt (Elt F) (Rect.unit (s := S4x128x256) ![2, 0, 0] S1x64x256.size i2).toLoadRect
            (scratchAt v f0 k0_pay119 q b (ktile K) (vtile V) i (carry0 v f0 r) k))
          (v.readAt (Elt F) (Rect.unit (s := S4x128x256) ![3, 64, 0] S1x64x256.size i3).toLoadRect
            (scratchAt v f0 k0_pay119 q b (ktile K) (vtile V) i (carry0 v f0 r) k))⟩,
      ⟨Rect.unit (s := S256x256) ![0, 0] S256x128.size inb_S256x256_S256x128_0_0,
        k0_pay179
          (v.readAt (Elt F) (Rect.unit (s := S4x128x256) ![0, 0, 0] S1x64x256.size i0).toLoadRect
            (scratchAt v f0 k0_pay119 q b (ktile K) (vtile V) i (carry0 v f0 r) k))
          (v.readAt (Elt F) (Rect.unit (s := S4x128x256) ![1, 64, 0] S1x64x256.size i1).toLoadRect
            (scratchAt v f0 k0_pay119 q b (ktile K) (vtile V) i (carry0 v f0 r) k))⟩]
      = outVal B Q K V (i 2) := by
  have key : ∀ h, headRead v (scratchAt v f0 k0_pay119 q b (ktile K) (vtile V) i (carry0 v f0 r) k) h
      = headOut B Q K V (i 2) h := fun h =>
    (headRead_scratchAt v f0 k0_pay119 q b (ktile K) (vtile V) i (carry0 v f0 r) (fun _ => rfl) k h).trans
      (congrArg Prod.snd (pairs_congr _ _ _ _ (hq h) (hb h) (hs h) hk))
  rw [readAt_half v _ 2 0 i2 rfl, readAt_half v _ 3 1 i3 rfl, readAt_half v _ 0 0 i0 rfl, readAt_half v _ 1 1 i1 rfl,
    key 0, key 1, key 2, key 3]
  rfl

/-! ## One trip -/

/-- One trip from any scratch whose four accumulators read `o`: the carried rows and the accumulators step by two
    blocks. -/
theorem trip (𝒱 : Variants) (c : Dev nD) (bd : Option 𝒱.V) (E : Set ℕ) (i : grid0.Coords) (arg3 : Memref sig .tc .smem S8 .f32) (harg3 : arg3.IsWhole)
    (arg4 : Memref sig .tc .vmem S256x256 .f32) (harg4 : arg4.IsWhole)
    (arg5 : Memref sig .tc .vmem S8192x256 .bf16) (harg5 : arg5.IsWhole)
    (arg6 : Memref sig .tc .vmem S32x256x256 .bf16) (harg6 : arg6.IsWhole)
    (arg7 : Memref sig .tc .vmem S256x256 .bf16) (harg7 : arg7.IsWhole)
    (arg8 : Memref sig .tc .vmem S4x128x256 .f32) (harg8 : arg8.IsWhole)
    (v6 : FVec F S256x256 .bf16) (v21 : FVec F S256x128 .bf16) (v26 : F .f32) (v40 : FVec F S256x128 .bf16) (v45 : F .f32)
    (v59 : FVec F S256x128 .bf16) (v64 : F .f32) (v78 : FVec F S256x128 .bf16) (v83 : F .f32)
    (v271_0 v271_1 v271_2 v271_3 : FVec F S1x256 .f32) (v273 v274 c2_i32_116 v275 v277 : BitVec 32) (v278 : BitVec 1)
    (X5 : BufTy.Contents (Elt F) arg5.view.ty) (X6 : BufTy.Contents (Elt F) arg6.view.ty)
    (f : BufTy.Contents (Elt F) arg8.view.ty) (k : Fin (k0_t1_loop i).trips)
    (acc : FVec F S1x256 .f32 × FVec F S1x256 .f32 × FVec F S1x256 .f32 × FVec F S1x256 .f32) :
    (iprop((arg5.view.loc (c : Thread nD τ) ↦[arg5.view.set]{fullShare} X5)
        ∗ (arg6.view.loc (c : Thread nD τ) ↦[arg6.view.set]{fullShare} X6)
        ∗ (arg8.view.loc (c : Thread nD τ) ↦[arg8.view.set]{fullShare} f)) : sProp 𝕄) ⊢
    wp frame (wpE (defs₀ (F := F)) 𝒱 (c : Thread nD τ) bd) E
      (k0_t1_body (F := F) i arg3 harg3 arg4 harg4 arg5 harg5 arg6 harg6 arg7 harg7 arg8 harg8 v6 v21 v26 v40 v45 v59 v64 v78 v83
      v271_0 v271_1 v271_2 v271_3 v273 v274 c2_i32_116 v275 v277 v278 k acc)
      (fun yld => iprop(∃ f', (arg5.view.loc (c : Thread nD τ) ↦[arg5.view.set]{fullShare} X5)
        ∗ (arg6.view.loc (c : Thread nD τ) ↦[arg6.view.set]{fullShare} X6)
        ∗ (arg8.view.loc (c : Thread nD τ) ↦[arg8.view.set]{fullShare} f')
        ∗ ⌜let K := fun g x => ktile (arg5.view.read (Elt F) X5) g x
            let V := fun g x => vtile (arg6.view.read (Elt F) X6) g x
            let A0 := blkStep v6 v21 v26 (K 0 (jA i k)) (V 0 (jA i k)) (acc.1, headRead arg8.view f 0)
            let A1 := blkStep v6 v40 v45 (K 0 (jA i k)) (V 0 (jA i k)) (acc.2.1, headRead arg8.view f 1)
            let A2 := blkStep v6 v59 v64 (K 1 (jA i k)) (V 1 (jA i k)) (acc.2.2.1, headRead arg8.view f 2)
            let A3 := blkStep v6 v78 v83 (K 1 (jA i k)) (V 1 (jA i k)) (acc.2.2.2, headRead arg8.view f 3)
            let B0 := blkStep v6 v21 v26 (K 0 (jB i k)) (V 0 (jB i k)) A0
            let B1 := blkStep v6 v40 v45 (K 0 (jB i k)) (V 0 (jB i k)) A1
            let B2 := blkStep v6 v59 v64 (K 1 (jB i k)) (V 1 (jB i k)) A2
            let B3 := blkStep v6 v78 v83 (K 1 (jB i k)) (V 1 (jB i k)) A3
            yld = (B0.1, B1.1, B2.1, B3.1) ∧
            f' = arg8.view.writes (Elt F) f [headPiece 3 B3.2, headPiece 2 B2.2, headPiece 1 B1.2, headPiece 0 B0.2,
              headPiece 3 A3.2, headPiece 2 A2.2, headPiece 1 A1.2, headPiece 0 A0.2]⌝)) := by
  unfold k0_t1_body
  iintro ⟨H5, H6, H8⟩
  sl_exec
  sl_step
  iexists _
  isplitl [H5]; · iexact H5
  isplitl [H6]; · iexact H6
  isplitl [H8]; · iexact H8
  ipureintro
  sl_unfold_run_names
  simp only [read_key arg5.view X5 0 (jA i k) _ (off10 i k), read_key arg5.view X5 1 (jA i k) _ (off11 i k),
    read_key arg5.view X5 0 (jB i k) _ (off12 i k), read_key arg5.view X5 1 (jB i k) _ (off13 i k),
    read_val arg6.view X6 0 (jA i k) _ (off14 i k), read_val arg6.view X6 1 (jA i k) _ (off15 i k),
    read_val arg6.view X6 0 (jB i k) _ (off16 i k), read_val arg6.view X6 1 (jB i k) _ (off17 i k)]
  simp only [k0_pay19, k0_pay20, k0_pay21, k0_pay22, k0_pay23, k0_pay24, k0_pay25, k0_pay26, k0_pay27, k0_pay28, k0_pay29,
    k0_pay30, k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61, k0_pay169,
    k0_pay170, k0_pay171, k0_pay172, k0_pay173,
    Scalar.ofBits, z_eq, lm_eq, p_eq, a_eq, acc_eq, run_eq]
  simp only [readCov_skip _ (show (0 : ℕ) ≠ 1 by decide), readCov_skip _ (show (0 : ℕ) ≠ 2 by decide),
    readCov_skip _ (show (0 : ℕ) ≠ 3 by decide), readCov_skip _ (show (1 : ℕ) ≠ 2 by decide),
    readCov_skip _ (show (1 : ℕ) ≠ 3 by decide), readCov_skip _ (show (2 : ℕ) ≠ 3 by decide),
    readCov_skip _ (show (1 : ℕ) ≠ 0 by decide), readCov_skip _ (show (2 : ℕ) ≠ 0 by decide),
    readCov_skip _ (show (3 : ℕ) ≠ 0 by decide), readCov_skip _ (show (2 : ℕ) ≠ 1 by decide),
    readCov_skip _ (show (3 : ℕ) ≠ 1 by decide), readCov_skip _ (show (3 : ℕ) ≠ 2 by decide)]
  rw [readCov_hit arg8.view (a := 0), readCov_hit arg8.view (a := 1), readCov_hit arg8.view (a := 2),
    readCov_hit arg8.view (a := 3)]
  exact ⟨rfl, rfl⟩

/-- The loop's invariant: the keys and values as they came, the scratch and the carried rows as `k` trips leave them. -/
@[sl_loop, instance_reducible] def loopInv (𝒱 : Variants) (c : Dev nD) (bd : Option 𝒱.V) (E : Set ℕ) (i : grid0.Coords) (arg3 : Memref sig .tc .smem S8 .f32) (harg3 : arg3.IsWhole)
    (arg4 : Memref sig .tc .vmem S256x256 .f32) (harg4 : arg4.IsWhole)
    (arg5 : Memref sig .tc .vmem S8192x256 .bf16) (harg5 : arg5.IsWhole)
    (arg6 : Memref sig .tc .vmem S32x256x256 .bf16) (harg6 : arg6.IsWhole)
    (arg7 : Memref sig .tc .vmem S256x256 .bf16) (harg7 : arg7.IsWhole)
    (arg8 : Memref sig .tc .vmem S4x128x256 .f32) (harg8 : arg8.IsWhole)
    (v6 : FVec F S256x256 .bf16) (v21 : FVec F S256x128 .bf16) (v26 : F .f32) (v40 : FVec F S256x128 .bf16) (v45 : F .f32)
    (v59 : FVec F S256x128 .bf16) (v64 : F .f32) (v78 : FVec F S256x128 .bf16) (v83 : F .f32)
    (v271_0 v271_1 v271_2 v271_3 : FVec F S1x256 .f32) (v273 v274 c2_i32_116 v275 v277 : BitVec 32) (v278 : BitVec 1)
    (X5 : BufTy.Contents (Elt F) arg5.view.ty) (X6 : BufTy.Contents (Elt F) arg6.view.ty)
    (f0 : BufTy.Contents (Elt F) arg8.view.ty)
    (init : FVec F S1x256 .f32 × FVec F S1x256 .f32 × FVec F S1x256 .f32 × FVec F S1x256 .f32) :
    Idealize.ShloMosaic.LoopInv (M := 𝕄) Idealize.ShloMosaic.frame (wpE (defs₀ (F := F)) 𝒱 (c : Thread nD τ) bd) E
      (k0_t1_loop i).lb (k0_t1_loop i).ub (k0_t1_loop i).st (k0_t1_ok i) init
      (k0_t1_body (F := F) i arg3 harg3 arg4 harg4 arg5 harg5 arg6 harg6 arg7 harg7 arg8 harg8 v6 v21 v26 v40 v45 v59 v64 v78 v83
      v271_0 v271_1 v271_2 v271_3 v273 v274 c2_i32_116 v275 v277 v278) where
  inv k acc := iprop((arg5.view.loc (c : Thread nD τ) ↦[arg5.view.set]{fullShare} X5)
    ∗ (arg6.view.loc (c : Thread nD τ) ↦[arg6.view.set]{fullShare} X6)
    ∗ (∃ f, (arg8.view.loc (c : Thread nD τ) ↦[arg8.view.set]{fullShare} f)
      ∗ ⌜f = scratchAt arg8.view f0 v6 ![v21, v40, v59, v78] ![v26, v45, v64, v83]
          (ktile (arg5.view.read (Elt F) X5)) (vtile (arg6.view.read (Elt F) X6)) i (carry0 arg8.view f0 init) k⌝)
    ∗ ⌜acc = rowsAt v6 ![v21, v40, v59, v78] ![v26, v45, v64, v83]
          (ktile (arg5.view.read (Elt F) X5)) (vtile (arg6.view.read (Elt F) X6)) i (carry0 arg8.view f0 init) k⌝)
  step k acc := by
    iintro ⟨H5, H6, ⟨%f, H8, %hf⟩, %hacc⟩
    subst hf hacc
    iapply (wp_wand_r Idealize.ShloMosaic.frame (wpE (defs₀ (F := F)) 𝒱 (c : Thread nD τ) bd) E)
    isplitl [H5 H6 H8]
    · iapply (trip (F := F) 𝒱 c bd E i arg3 harg3 arg4 harg4 arg5 harg5 arg6 harg6 arg7 harg7 arg8 harg8 v6 v21 v26 v40 v45 v59 v64 v78 v83
        v271_0 v271_1 v271_2 v271_3 v273 v274 c2_i32_116 v275 v277 v278 X5 X6)
      isplitl [H5]; · iexact H5
      isplitl [H6]; · iexact H6
      iexact H8
    · iintro %yld ⟨%f', H5, H6, H8, %h⟩
      obtain ⟨hy, hf⟩ := h
      simp only [headRead_scratchAt arg8.view f0 v6 ![v21, v40, v59, v78] ![v26, v45, v64, v83]
        (ktile (arg5.view.read (Elt F) X5)) (vtile (arg6.view.read (Elt F) X6)) i (carry0 arg8.view f0 init)
        (fun _ => rfl)] at hy hf
      isplitl [H5]; · iexact H5
      isplitl [H6]; · iexact H6
      isplitl [H8]
      · iexists f'
        isplitl [H8]; · iexact H8
        ipureintro
        exact hf
      · ipureintro
        exact hy

end Cert.KernelIdeal.Hand
-- ==== Proof.Body.lean ====
/- The kernel's body where the conditional is passed over. -/
module

public import proofs.«01_k».proof.Proof.Loop

@[expose] public section

set_option maxRecDepth 16384

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body at an even query block: from its blocks' contents it ends with the output block at the attention of the query block. -/
theorem kernel_even (𝒱 : Variants) (c : Dev nD) (bd : Option 𝒱.V) (E : Set ℕ) (i : grid0.Coords) (arg3 : Memref sig .tc .smem S8 .f32) (harg3 : arg3.IsWhole)
    (arg4 : Memref sig .tc .vmem S256x256 .f32) (harg4 : arg4.IsWhole)
    (arg5 : Memref sig .tc .vmem S8192x256 .bf16) (harg5 : arg5.IsWhole)
    (arg6 : Memref sig .tc .vmem S32x256x256 .bf16) (harg6 : arg6.IsWhole)
    (arg7 : Memref sig .tc .vmem S256x256 .bf16) (harg7 : arg7.IsWhole)
    (arg8 : Memref sig .tc .vmem S4x128x256 .f32) (harg8 : arg8.IsWhole)
    (X3 : BufTy.Contents (Elt F) arg3.view.ty) (X4 : BufTy.Contents (Elt F) arg4.view.ty)
    (X5 : BufTy.Contents (Elt F) arg5.view.ty) (X6 : BufTy.Contents (Elt F) arg6.view.ty)
    (f7 : BufTy.Contents (Elt F) arg7.view.ty) (f8 : BufTy.Contents (Elt F) arg8.view.ty)
    (hc : ¬ k0_cond1 i = 1#1) (htr : (k0_t2_loop i).trips = 0) :
    (iprop((arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} f7)
        ∗ (arg8.view.loc (c : Thread nD τ) ↦[arg8.view.set]{fullShare} f8)) : sProp 𝕄) ⊢
    wp frame (wpE (defs₀ (F := F)) 𝒱 (c : Thread nD τ) bd) E
      (cc0_sb_prompt (F := F) i arg3 harg3 arg4 harg4 arg5 harg5 arg6 harg6 arg7 harg7 arg8 harg8)
      (fun _ => iprop(∃ f7' f8', (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} f7')
        ∗ (arg8.view.loc (c : Thread nD τ) ↦[arg8.view.set]{fullShare} f8') ∗ ⌜arg7.view.read (Elt F) f7' = outVal (bias (arg3.view.read (Elt F) X3) i) (arg4.view.read (Elt F) X4)
          (arg5.view.read (Elt F) X5) (arg6.view.read (Elt F) X6) (i 2)⌝)) := by
  simp only [cc0_sb_prompt_eq_skeleton]
  unfold cc0_sb_prompt_skel
  iintro ⟨H3, H4, H5, H6, H7, H8⟩
  sl_exec
  sl_step
  iexists _, _
  isplitl [H3]; · iexact H3
  isplitl [H4]; · iexact H4
  isplitl [H5]; · iexact H5
  isplitl [H6]; · iexact H6
  isplitl [H7]; · iexact H7
  isplitl [H8]; · iexact H8
  ipureintro
  refine (View.read_writes_eq_canon _ _ _ ?_).trans (out_eq arg8.view _ i _ _ (bias (arg3.view.read (Elt F) X3) i)
    (arg4.view.read (Elt F) X4) (arg5.view.read (Elt F) X5) (arg6.view.read (Elt F) X6) _ _ _ _ _ _ ?_ ?_ ?_ ?_)
  · exact cover_out _ _
  · intro h; fin_cases h <;> rfl
  · intro h
    fin_cases h
    · exact congrArg bOf (read_bias arg3.view X3 i 0 _ (off1_0 i) _)
    · exact congrArg bOf (read_bias arg3.view X3 i 1 _ (off1_1 i) _)
    · exact congrArg bOf (read_bias arg3.view X3 i 2 _ (off1_2 i) _)
    · exact congrArg bOf (read_bias arg3.view X3 i 3 _ (off1_3 i) _)
  · intro h
    refine (carry0_writes arg8.view _ _ _ _ _ _ _ _ _ _ h).trans ?_
    sl_unfold_run_names
    simp only [read_key arg5.view X5 0 (i 2) _ (off2 i), read_key arg5.view X5 1 (i 2) _ (off3 i),
      read_val arg6.view X6 0 (i 2) _ (off4 i), read_val arg6.view X6 1 (i 2) _ (off5 i),
      read_q arg4.view X4 0 _ rfl, read_q arg4.view X4 1 _ rfl,
      read_bias arg3.view X3 i 0 _ (off1_0 i), read_bias arg3.view X3 i 1 _ (off1_1 i),
      read_bias arg3.view X3 i 2 _ (off1_2 i), read_bias arg3.view X3 i 3 _ (off1_3 i)]
    simp only [q0_eq, q1_eq, q2_eq, q3_eq]
    simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay122, k0_pay127, k0_pay129, k0_pay131,
    k0_pay133, k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162,
    k0_pay163, k0_pay164, k0_pay165, k0_pay166, k0_pay167, k0_pay168,
      Scalar.ofBits, z_eq, lm_eq, p_eq, a_eq, acc_eq, run_eq]
    simp only [readCov_skip _ (show (0 : ℕ) ≠ 1 by decide),
      readCov_skip _ (show (0 : ℕ) ≠ 2 by decide),
      readCov_skip _ (show (0 : ℕ) ≠ 3 by decide),
      readCov_skip _ (show (1 : ℕ) ≠ 0 by decide),
      readCov_skip _ (show (1 : ℕ) ≠ 2 by decide),
      readCov_skip _ (show (1 : ℕ) ≠ 3 by decide),
      readCov_skip _ (show (2 : ℕ) ≠ 0 by decide),
      readCov_skip _ (show (2 : ℕ) ≠ 1 by decide),
      readCov_skip _ (show (2 : ℕ) ≠ 3 by decide),
      readCov_skip _ (show (3 : ℕ) ≠ 0 by decide),
      readCov_skip _ (show (3 : ℕ) ≠ 1 by decide),
      readCov_skip _ (show (3 : ℕ) ≠ 2 by decide)]
    rw [readCov_fill arg8.view (a := 0) _ _ _ _ fill_zero, readCov_fill arg8.view (a := 1) _ _ _ _ fill_zero,
      readCov_fill arg8.view (a := 2) _ _ _ _ fill_zero, readCov_fill arg8.view (a := 3) _ _ _ _ fill_zero]
    unfold entry
    rw [if_neg (fun e => hc ((cond_odd i).mpr e))]
    fin_cases h
    · exact Prod.ext rfl rfl
    · exact Prod.ext rfl rfl
    · exact Prod.ext rfl rfl
    · exact Prod.ext rfl rfl
  · exact trips_t1 i

end Cert.KernelIdeal.Hand
-- ==== Proof.Odd.lean ====
/- The kernel's body where the conditional takes a key block of its own. -/
module

public import proofs.«01_k».proof.Proof.Loop

@[expose] public section

set_option maxRecDepth 16384

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body at an odd query block, where the conditional takes one more key block: it ends with the output block at the attention of the query block. -/
theorem kernel_odd (𝒱 : Variants) (c : Dev nD) (bd : Option 𝒱.V) (E : Set ℕ) (i : grid0.Coords) (arg3 : Memref sig .tc .smem S8 .f32) (harg3 : arg3.IsWhole)
    (arg4 : Memref sig .tc .vmem S256x256 .f32) (harg4 : arg4.IsWhole)
    (arg5 : Memref sig .tc .vmem S8192x256 .bf16) (harg5 : arg5.IsWhole)
    (arg6 : Memref sig .tc .vmem S32x256x256 .bf16) (harg6 : arg6.IsWhole)
    (arg7 : Memref sig .tc .vmem S256x256 .bf16) (harg7 : arg7.IsWhole)
    (arg8 : Memref sig .tc .vmem S4x128x256 .f32) (harg8 : arg8.IsWhole)
    (X3 : BufTy.Contents (Elt F) arg3.view.ty) (X4 : BufTy.Contents (Elt F) arg4.view.ty)
    (X5 : BufTy.Contents (Elt F) arg5.view.ty) (X6 : BufTy.Contents (Elt F) arg6.view.ty)
    (f7 : BufTy.Contents (Elt F) arg7.view.ty) (f8 : BufTy.Contents (Elt F) arg8.view.ty)
    (hc : k0_cond1 i = 1#1) (htr : (k0_t2_loop i).trips = 0) :
    (iprop((arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} f7)
        ∗ (arg8.view.loc (c : Thread nD τ) ↦[arg8.view.set]{fullShare} f8)) : sProp 𝕄) ⊢
    wp frame (wpE (defs₀ (F := F)) 𝒱 (c : Thread nD τ) bd) E
      (cc0_sb_prompt (F := F) i arg3 harg3 arg4 harg4 arg5 harg5 arg6 harg6 arg7 harg7 arg8 harg8)
      (fun _ => iprop(∃ f7' f8', (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} f7')
        ∗ (arg8.view.loc (c : Thread nD τ) ↦[arg8.view.set]{fullShare} f8') ∗ ⌜arg7.view.read (Elt F) f7' = outVal (bias (arg3.view.read (Elt F) X3) i) (arg4.view.read (Elt F) X4)
          (arg5.view.read (Elt F) X5) (arg6.view.read (Elt F) X6) (i 2)⌝)) := by
  simp only [cc0_sb_prompt_eq_skeleton]
  unfold cc0_sb_prompt_skel
  iintro ⟨H3, H4, H5, H6, H7, H8⟩
  sl_exec
  sl_step
  iexists _, _
  isplitl [H3]; · iexact H3
  isplitl [H4]; · iexact H4
  isplitl [H5]; · iexact H5
  isplitl [H6]; · iexact H6
  isplitl [H7]; · iexact H7
  isplitl [H8]; · iexact H8
  ipureintro
  refine (View.read_writes_eq_canon _ _ _ ?_).trans (out_eq arg8.view _ i _ _ (bias (arg3.view.read (Elt F) X3) i)
    (arg4.view.read (Elt F) X4) (arg5.view.read (Elt F) X5) (arg6.view.read (Elt F) X6) _ _ _ _ _ _ ?_ ?_ ?_ ?_)
  · exact cover_out _ _
  · intro h; fin_cases h <;> rfl
  · intro h
    fin_cases h
    · exact congrArg bOf (read_bias arg3.view X3 i 0 _ (off1_0 i) _)
    · exact congrArg bOf (read_bias arg3.view X3 i 1 _ (off1_1 i) _)
    · exact congrArg bOf (read_bias arg3.view X3 i 2 _ (off1_2 i) _)
    · exact congrArg bOf (read_bias arg3.view X3 i 3 _ (off1_3 i) _)
  · intro h
    refine (carry0_writes arg8.view _ _ _ _ _ _ _ _ _ _ h).trans ?_
    sl_unfold_run_names
    simp only [read_key arg5.view X5 0 (i 2) _ (off2 i), read_key arg5.view X5 1 (i 2) _ (off3 i),
      read_val arg6.view X6 0 (i 2) _ (off4 i), read_val arg6.view X6 1 (i 2) _ (off5 i),
      read_key arg5.view X5 0 (jP i) _ (off6 i hc), read_key arg5.view X5 1 (jP i) _ (off7 i hc),
      read_val arg6.view X6 0 (jP i) _ (off8 i hc), read_val arg6.view X6 1 (jP i) _ (off9 i hc),
      read_q arg4.view X4 0 _ rfl, read_q arg4.view X4 1 _ rfl,
      read_bias arg3.view X3 i 0 _ (off1_0 i), read_bias arg3.view X3 i 1 _ (off1_1 i),
      read_bias arg3.view X3 i 2 _ (off1_2 i), read_bias arg3.view X3 i 3 _ (off1_3 i)]
    simp only [q0_eq, q1_eq, q2_eq, q3_eq]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay122, k0_pay127, k0_pay129, k0_pay131, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168,
      Scalar.ofBits, z_eq, lm_eq, p_eq, a_eq, acc_eq, run_eq]
    simp only [readCov_skip _ (show (0 : ℕ) ≠ 1 by decide),
      readCov_skip _ (show (0 : ℕ) ≠ 2 by decide),
      readCov_skip _ (show (0 : ℕ) ≠ 3 by decide),
      readCov_skip _ (show (1 : ℕ) ≠ 0 by decide),
      readCov_skip _ (show (1 : ℕ) ≠ 2 by decide),
      readCov_skip _ (show (1 : ℕ) ≠ 3 by decide),
      readCov_skip _ (show (2 : ℕ) ≠ 0 by decide),
      readCov_skip _ (show (2 : ℕ) ≠ 1 by decide),
      readCov_skip _ (show (2 : ℕ) ≠ 3 by decide),
      readCov_skip _ (show (3 : ℕ) ≠ 0 by decide),
      readCov_skip _ (show (3 : ℕ) ≠ 1 by decide),
      readCov_skip _ (show (3 : ℕ) ≠ 2 by decide)]
    rw [readCov_fill arg8.view (a := 0) _ _ _ _ fill_zero, readCov_fill arg8.view (a := 1) _ _ _ _ fill_zero,
      readCov_fill arg8.view (a := 2) _ _ _ _ fill_zero, readCov_fill arg8.view (a := 3) _ _ _ _ fill_zero]

    rw [readCov_hit arg8.view (a := 0), readCov_hit arg8.view (a := 1), readCov_hit arg8.view (a := 2), readCov_hit arg8.view (a := 3)]
    unfold entry
    rw [if_pos ((cond_odd i).mp hc)]
    fin_cases h
    · exact Prod.ext rfl rfl
    · exact Prod.ext rfl rfl
    · exact Prod.ext rfl rfl
    · exact Prod.ext rfl rfl
  · exact trips_t1 i

end Cert.KernelIdeal.Hand
-- ==== Proof.Run.lean ====
/- The kernel's run: what one grid point leaves, the pipeline's proof data over it, and the run of @main, for any
   carrier of the floats. -/
module

public import proofs.«01_k».proof.Proof.Body
public import proofs.«01_k».proof.Proof.Odd

@[expose] public section

set_option maxRecDepth 16384

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf ΦA)

variable {F : FTy → Type} [FloatOps F] [Named F]

local notation "𝕄" => MT nD τ sig Unit (Elt F) ℕ (UR sig nD τ) ℕ

/-- One grid point's body, whichever its query block's number: the inputs stay as they are and the result's buffer
    holds `outVal` of them. -/
theorem kernel_any (𝒱 : Variants) (c : Dev nD) (bd : Option 𝒱.V) (E : Set ℕ) (i : grid0.Coords) (arg3 : Memref sig .tc .smem S8 .f32) (harg3 : arg3.IsWhole)
    (arg4 : Memref sig .tc .vmem S256x256 .f32) (harg4 : arg4.IsWhole)
    (arg5 : Memref sig .tc .vmem S8192x256 .bf16) (harg5 : arg5.IsWhole)
    (arg6 : Memref sig .tc .vmem S32x256x256 .bf16) (harg6 : arg6.IsWhole)
    (arg7 : Memref sig .tc .vmem S256x256 .bf16) (harg7 : arg7.IsWhole)
    (arg8 : Memref sig .tc .vmem S4x128x256 .f32) (harg8 : arg8.IsWhole)
    (X3 : BufTy.Contents (Elt F) arg3.view.ty) (X4 : BufTy.Contents (Elt F) arg4.view.ty)
    (X5 : BufTy.Contents (Elt F) arg5.view.ty) (X6 : BufTy.Contents (Elt F) arg6.view.ty)
    (f7 : BufTy.Contents (Elt F) arg7.view.ty) (f8 : BufTy.Contents (Elt F) arg8.view.ty) :
    (iprop((arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} f7)
        ∗ (arg8.view.loc (c : Thread nD τ) ↦[arg8.view.set]{fullShare} f8)) : sProp 𝕄) ⊢
    wp frame (wpE (defs₀ (F := F)) 𝒱 (c : Thread nD τ) bd) E
      (cc0_sb_prompt (F := F) i arg3 harg3 arg4 harg4 arg5 harg5 arg6 harg6 arg7 harg7 arg8 harg8)
      (fun _ => iprop(∃ f7' f8', (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} f7')
        ∗ (arg8.view.loc (c : Thread nD τ) ↦[arg8.view.set]{fullShare} f8') ∗ ⌜arg7.view.read (Elt F) f7' = outVal (bias (arg3.view.read (Elt F) X3) i) (arg4.view.read (Elt F) X4)
          (arg5.view.read (Elt F) X5) (arg6.view.read (Elt F) X6) (i 2)⌝)) := by
  by_cases hc : k0_cond1 i = 1#1
  · exact kernel_odd 𝒱 c bd E i arg3 harg3 arg4 harg4 arg5 harg5 arg6 harg6 arg7 harg7 arg8 harg8 X3 X4 X5 X6 f7 f8 hc (trips_t2 i)
  · exact kernel_even 𝒱 c bd E i arg3 harg3 arg4 harg4 arg5 harg5 arg6 harg6 arg7 harg7 arg8 harg8 X3 X4 X5 X6 f7 f8 hc (trips_t2 i)

variable (m : (ℓ : Loc nD τ sig) → Buf (Elt F) ℓ) (ρ : Dev nD → PrngReg)

/-- What point `t` leaves in the result's block. -/
def outAt (c : Dev nD) (t : Fin cfg0.N) : Vec F S256x256 .bf16 :=
  outVal (bias (iblk m c 0 t) (grid0.coords t)) (iblk m c 1 t) (iblk m c 2 t) (iblk m c 3 t) (grid0.coords t 2)

/-- The pipeline's proof data: each input's buffer keeps its block and the result's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

/-- The arrays at the region's entry. -/
theorem A_eq (c : Dev nD) (w : Fin cfg0.W) : (dats m 0 c).A w = V m c (Pipeline.arrRef spec0 w) := rfl
/-- The bias window after a step: as fetched. -/
theorem after_0 (c : Dev nD) (t : Fin cfg0.N) : (dats m 0 c).after 0 t = iblk m c 0 t := by dsimp only [dats]
/-- The query window after a step: as fetched. -/
theorem after_1 (c : Dev nD) (t : Fin cfg0.N) : (dats m 0 c).after 1 t = iblk m c 1 t := by dsimp only [dats]
/-- The key window after a step: as fetched. -/
theorem after_2 (c : Dev nD) (t : Fin cfg0.N) : (dats m 0 c).after 2 t = iblk m c 2 t := by dsimp only [dats]
/-- The value window after a step: as fetched. -/
theorem after_3 (c : Dev nD) (t : Fin cfg0.N) : (dats m 0 c).after 3 t = iblk m c 3 t := by dsimp only [dats]
/-- The output window after a step. -/
theorem after_4 (c : Dev nD) (t : Fin cfg0.N) : (dats m 0 c).after 4 t = outAt m c t := by dsimp only [dats]

/-- The bias window before a step. -/
theorem before_0 (c : Dev nD) (t : Fin cfg0.N) (d) : (dats m 0 c).before 0 t d = iblk m c 0 t :=
  before0_0_of m (dats m 0 c) (A_eq m c 0) (after_0 m c) t d
/-- The query window before a step. -/
theorem before_1 (c : Dev nD) (t : Fin cfg0.N) (d) : (dats m 0 c).before 1 t d = iblk m c 1 t :=
  before0_1_of m (dats m 0 c) (A_eq m c 1) (after_1 m c) t d
/-- The key window before a step. -/
theorem before_2 (c : Dev nD) (t : Fin cfg0.N) (d) : (dats m 0 c).before 2 t d = iblk m c 2 t :=
  before0_2_of m (dats m 0 c) (A_eq m c 2) (after_2 m c) t d
/-- The value window before a step. -/
theorem before_3 (c : Dev nD) (t : Fin cfg0.N) (d) : (dats m 0 c).before 3 t d = iblk m c 3 t :=
  before0_3_of m (dats m 0 c) (A_eq m c 3) (after_3 m c) t d

/-- A point's body on memrefs holding the point's blocks: the invariant lends the scratch and takes it back. -/
theorem point (c : Dev nD) (t : Fin cfg0.N) (K : PUnit → sProp 𝕄)
    (M0 : Memref sig .tc .smem S8 .f32) (h0 : M0.IsWhole) (M1 : Memref sig .tc .vmem S256x256 .f32) (h1 : M1.IsWhole)
    (M2 : Memref sig .tc .vmem S8192x256 .bf16) (h2 : M2.IsWhole)
    (M3 : Memref sig .tc .vmem S32x256x256 .bf16) (h3 : M3.IsWhole)
    (M4 : Memref sig .tc .vmem S256x256 .bf16) (h4 : M4.IsWhole) (i : grid0.Coords)
    (x0 : Vec F S8 .f32) (x1 : Vec F S256x256 .f32) (x2 : Vec F S8192x256 .bf16) (x3 : Vec F S32x256x256 .bf16) :
    (iprop(Pipeline.ΦA spec0 c ∗ owns (c : Thread nD τ) M0 fullShare x0 ∗ owns (c : Thread nD τ) M1 fullShare x1
        ∗ owns (c : Thread nD τ) M2 fullShare x2 ∗ owns (c : Thread nD τ) M3 fullShare x3
        ∗ (∃ d, owns (c : Thread nD τ) M4 fullShare d)
        ∗ (iprop(Pipeline.ΦA spec0 c ∗ owns (c : Thread nD τ) M0 fullShare x0 ∗ owns (c : Thread nD τ) M1 fullShare x1
            ∗ owns (c : Thread nD τ) M2 fullShare x2 ∗ owns (c : Thread nD τ) M3 fullShare x3
            ∗ owns (c : Thread nD τ) M4 fullShare (outVal (bias x0 i) x1 x2 x3 (i 2))) -∗ K ⟨⟩)) : sProp 𝕄) ⊢
      wp frame (wpE (defs₀ (F := F)) Variants.none (c : Thread nD τ) none) Set.univ
        (cc0_sb_prompt (F := F) i M0 h0 M1 h1 M2 h2 M3 h3 M4 h4 (Memref.whole cc0_scratch0) (Memref.isWhole_whole _)) K := by
  unfold owns Pipeline.ΦA
  rw [scopedRest0_eq]
  iintro ⟨⟨⟨%g, Hg⟩, Hr⟩, ⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  iapply (wp_wand_r frame (wpE (defs₀ (F := F)) Variants.none (c : Thread nD τ) none) Set.univ)
  isplitl [H0 H1 H2 H3 H4 Hg]
  · iapply (kernel_any Variants.none c none Set.univ i M0 h0 M1 h1 M2 h2 M3 h3 M4 h4 (Memref.whole cc0_scratch0)
      (Memref.isWhole_whole _) f0 f1 f2 f3 f4 g)
    isplitl [H0]; · iexact H0
    isplitl [H1]; · iexact H1
    isplitl [H2]; · iexact H2
    isplitl [H3]; · iexact H3
    isplitl [H4]; · iexact H4
    rw [show (Memref.whole cc0_scratch0).view.set = Finset.univ from View.set_whole _]
    iexact Hg
  iintro %a ⟨%f7, %f8, H0, H1, H2, H3, H4, Hg, %h⟩
  iapply Hk
  isplitl [Hg Hr]
  · isplitl [Hg]
    · iexists f8
      rw [show (Memref.whole cc0_scratch0).view.set = Finset.univ from View.set_whole _]
      iexact Hg
    iexact Hr
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists f7; isplitr; · ipureintro; exact h
  iexact H4

/-- The library's body obligation at this proof data. -/
theorem body_obligation (c : Dev nD) : BodyObligation (dats (F := F) m 0 c) (defs₀ (F := F)) Variants.none () Set.univ := fun t => by
  rw [bigSep_W0, bigSep_W0]
  sl_whnfR [defs₀, Defs.onTc]
  simp only [before_0, before_1, before_2, before_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3, after_4]
  unfold outAt
  iintro ⟨HΦ, Ho, ⟨%d0, H0⟩, ⟨%d1, H1⟩, ⟨%d2, H2⟩, ⟨%d3, H3⟩, ⟨%d4, H4⟩⟩
  iapply (point c t _ _ _ _ _ _ _ _ _ _ _ (grid0.coords t) (iblk m c 0 t) (iblk m c 1 t) (iblk m c 2 t) (iblk m c 3 t))
  isplitl [HΦ]; · iexact HΦ
  isplitl [H0]; · iexact H0
  isplitl [H1]; · iexact H1
  isplitl [H2]; · iexact H2
  isplitl [H3]; · iexact H3
  isplitl [H4]; · iexists _; iexact H4
  iintro ⟨HΦ, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

-- `θ_run_frame`'s implicit arguments are found by unfolding plain definitions in the types of unknowns.
set_option backward.isDefEq.respectTransparency.types false in
/-- From any memory with zero counters every fair execution of @main ends, each of the pipeline's arrays at what the
    proof data gives and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The arguments end as they began and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main m ρ)

end Cert.KernelIdeal.Hand
-- ==== Proof.KFrame.lean ====
/- The printed kernel's frame: the program before its constants are named runs as the named one does when each name
   reads as the constant it stands for. -/
module

public import proofs.«01_k».proof.Proof.Run
public import proofs.«01_k».proof.Proof.Gen.Kernel
public import proofs.«01_k».proof.Defs

@[expose] public section

set_option maxRecDepth 16384

noncomputable section

namespace Cert.KernelIdeal.Hand

open Idealize.ShloMosaic Idealize.ShloMosaic.TcCoe Idealize.SL.Sem

/-- Each name reads as the bits of the constant it stands for. -/
@[instance_reducible] def namedBits : Named Bits := ⟨fun _ _ {_} b => FloatOps.ofBits _ b⟩

attribute [local instance] namedBits

/-- The kernel as printed: it ends, its arguments as they were and every counter at zero. -/
theorem sig_eq : Cert.Kernel.sig = sig := rfl
/-- The two kernel bodies are one text. -/
theorem body_eq : @Cert.Kernel.cc0_sb_prompt Bits _ Cert.Kernel.Gen.facts = @cc0_sb_prompt Bits _ _ _ := rfl
/-- So are their function tables. -/
theorem defs0_eq : Cert.Kernel.defs₀ (F := Bits) = defs₀ (F := Bits) := by
  unfold Cert.Kernel.defs₀ defs₀
  refine congrArg Defs.onTc ?_
  funext l x
  match l, x with
  | ⟨0, _⟩, (t, s) => exact congrFun (congrFun (congrFun (congrFun (congrFun (congrFun (congrFun (congrFun (congrFun
      (congrFun (congrFun (congrFun (congrFun body_eq (grid0.coords t)) _) _) _) _) _) _) _) _) _) _) _) _
  | ⟨n + 1, h⟩, _ => exact absurd h (Nat.not_lt.2 (Nat.le_add_left _ _))
/-- So are the tables with the regions. -/
theorem defs_eq : Cert.Kernel.defs (F := Bits) = defs (F := Bits) := by
  unfold Cert.Kernel.defs defs
  rw [defs0_eq]; rfl
/-- So are the two programs. -/
theorem main_eq : Cert.Kernel.main (F := Bits) = main (F := Bits) := rfl

/-- The kernel as printed: it ends, its arguments as they were and every counter at zero. -/
theorem frame_kernel : Cert.quiescent_Kernel (hKernel := Cert.Kernel.Gen.facts) := fun m g _ => by
  rw [defs_eq, main_eq]
  exact frame_run (F := Bits) m g

end Cert.KernelIdeal.Hand
-- ==== Proof.Attn.lean ====
/- Stick-breaking attention over the reals: a query's weight on a key from their scores, and the weighted sum of the
   keys' values, which both programs are shown to compute. -/
module

public import Idealize.ShloMosaic.PureOps.Ideal.Laws
public import Idealize.ShloMosaic.Lib.Pointwise

@[expose] public section

noncomputable section

namespace Cert.Attn

open Idealize.ShloMosaic

/-- The softplus of a real. -/
def softplus (x : ℝ) : ℝ := max x 0 + Real.log (1 + Real.exp (-|x|))

/-- Query `i`'s weight on key `k` from its scores `z`: none from the query on; before it the key's own odds times the
    share that the keys from `k` up to the query leave. -/
def weight (z : ℕ → ℝ) (i k : ℕ) : ℝ := if k < i then Real.exp ((∑ k' ∈ Finset.Ico k i, -softplus (z k')) + z k) else 0

/-- Query `i`'s output on one lane, from its scores `z` and the keys' values `v`. -/
def row (z : ℕ → ℝ) (i : ℕ) (v : Fin 8192 → EReal) : EReal := ∑ k : Fin 8192, v k * (weight z i k.val : EReal)

/-- A query's score of a key, from the query `x`, the key `y` and the head's bias `b`. -/
def score (x y : Fin 64 → ℝ) (b : ℝ) : ℝ := (∑ d, x d * y d) * 8⁻¹ + b

/-- The attention of the arguments at a batch entry, a position, a head and a lane. -/
def attn (A0 A1 A2 : (⟨4, ![2, 8192, 8, 64]⟩ : Shape).Idx → EReal) (A3 : (⟨2, ![1, 8]⟩ : Shape).Idx → EReal)
    (b : Fin 2) (i : Fin 8192) (h : Fin 8) (d : Fin 64) : EReal :=
  row (fun k => score (fun d => (A0 (ix4 b i h d)).toReal) (fun d => (A1 (ix4 b (Fin.ofNat 8192 k) h d)).toReal)
    (A3 (ix2 0 h)).toReal) i.val (fun k => A2 (ix4 b k h d))

/-- The result array: every element the attention of its row's query, the row batch-major and the lane head-major. -/
def result (A0 A1 A2 : (⟨4, ![2, 8192, 8, 64]⟩ : Shape).Idx → EReal) (A3 : (⟨2, ![1, 8]⟩ : Shape).Idx → EReal) :
    (⟨2, ![16384, 512]⟩ : Shape).Idx → EReal := fun x =>
  attn A0 A1 A2 A3 (Fin.ofNat 2 ((x 0).val / 8192)) (Fin.ofNat 8192 (x 0).val) (Fin.ofNat 8 ((x 1).val / 64)) (Fin.ofNat 64 (x 1).val)

/-- A sum of reals, in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite element is a real. -/
theorem coe_toReal_of_abs (x : EReal) (h : max x (-x) < ⊤) : x = (x.toReal : EReal) := by
  refine (EReal.coe_toReal (fun e => ?_) (fun e => ?_)).symm
  · rw [e] at h
    exact lt_irrefl _ (lt_of_le_of_lt (le_max_left _ _) h)
  · rw [e, EReal.neg_bot] at h
    exact lt_irrefl _ (lt_of_le_of_lt (le_max_right _ _) h)

/-- The log-sigmoids of a score and of its negation differ by the score. -/
theorem softplus_neg (x : ℝ) : softplus x - softplus (-x) = x := by
  unfold softplus
  rw [abs_neg]
  rcases le_total 0 x with h | h
  · rw [max_eq_left h, max_eq_right (by linarith)]; ring
  · rw [max_eq_right h, max_eq_left (by linarith)]; ring

/-- A small number's word reads back as itself. -/
theorem toInt_small (a : ℕ) (ha : a < 2147483648) : (BitVec.ofNat 32 a).toInt = (a : ℤ) := by
  rw [BitVec.toInt_eq_toNat_of_lt (by rw [BitVec.toNat_ofNat, Nat.mod_eq_of_lt (by omega)]; omega), BitVec.toNat_ofNat,
    Nat.mod_eq_of_lt (by omega)]

/-- Comparing small numbers as words. -/
theorem slt_small (a b : ℕ) (ha : a < 2147483648) (hb : b < 2147483648) :
    IntOp.cmpi .slt (BitVec.ofNat 32 a) (BitVec.ofNat 32 b) = if a < b then 1#1 else 0#1 := by
  show BitVec.ofBool ((BitVec.ofNat 32 a).slt (BitVec.ofNat 32 b)) = _
  rw [BitVec.slt_eq_decide, toInt_small a ha, toInt_small b hb]
  by_cases h : a < b
  · rw [if_pos h, decide_eq_true (by omega)]; rfl
  · rw [if_neg h, decide_eq_false (by omega)]; rfl

/-- Likewise for at least. -/
theorem sge_small (a b : ℕ) (ha : a < 2147483648) (hb : b < 2147483648) :
    IntOp.cmpi .sge (BitVec.ofNat 32 a) (BitVec.ofNat 32 b) = if b ≤ a then 1#1 else 0#1 := by
  show BitVec.ofBool ((BitVec.ofNat 32 b).sle (BitVec.ofNat 32 a)) = _
  rw [BitVec.sle_eq_decide, toInt_small a ha, toInt_small b hb]
  by_cases h : b ≤ a
  · rw [if_pos h, decide_eq_true (by omega)]; rfl
  · rw [if_neg h, decide_eq_false (by omega)]; rfl

end Cert.Attn
-- ==== Proof.Val.lean ====
/- What a head's walk over the key blocks computes at the extended reals: for a query column, the row of remaining
   log-mass is a sum of real logarithms over the keys taken so far, and the accumulated output the sum of those keys'
   values, each weighted by a power of two. -/
module

public import proofs.«01_k».proof.Proof.Spec
public import proofs.«01_k».proof.Proof.Attn
public import Idealize.ShloMosaic.Lib.Pointwise

@[expose] public section

set_option maxRecDepth 16384

noncomputable section

namespace Cert.KernelIdeal.Hand

open Idealize.ShloMosaic Cert.KernelIdeal.Gen Cert.Attn

/-- The reciprocal of the logarithm of two. -/
def invLog2 : ℝ := (Real.log 2)⁻¹

/-- The base-two logarithm of one minus the weight whose negated base-two score is `x`. -/
def lmR (x : ℝ) : ℝ := min x 0 - Real.log (1 + Real.rpow 2 (0 - |x|)) * invLog2

/-- What `log2e` stands for. -/
theorem named_log2e : Named.named (F := Ideal) (φ := .f32) κ "log2e" 0x3FB8AA3B#32 = ((invLog2 : ℝ) : EReal) :=
  IdealRules.named_const.ideal_named_scalar _ _ _ _ rfl

/-- What `neg_log2e` stands for. -/
theorem named_neg_log2e : Named.named (F := Ideal) (φ := .f32) κ "neg_log2e" 0xBFB8AA3B#32 = ((-invLog2 : ℝ) : EReal) :=
  IdealRules.named_const.ideal_named_scalar _ _ _ _ rfl

/-- What `q_scale` stands for. -/
theorem named_q_scale :
    Named.named (F := Ideal) (φ := .f32) κ "q_scale" 0x3E38AA3B#32 = ((8⁻¹ * invLog2 : ℝ) : EReal) :=
  IdealRules.named_const.ideal_named_scalar _ _ _ _ rfl

/-- A power of two at a real. -/
theorem exp2_real (x : ℝ) : FloatOps.exp2 (F := Ideal) (φ := .f32) (x : EReal) = ((Real.rpow 2 x : ℝ) : EReal) := rfl

/-- The logarithm of a block at an entry whose negated score is real. -/
theorem lm_at (z : FVec Ideal S256x256 .f32) (r c : Fin 256) (x : ℝ) (h : z (ix2 r c) = (x : EReal)) :
    lmOf z (ix2 r c) = (lmR x : EReal) := by
  have hp : ¬ (1 + Real.rpow 2 (0 - |x|)) ≤ 0 := not_le.mpr (by
    have : 0 < Real.rpow 2 (0 - |x|) := Real.rpow_pos_of_pos (by norm_num) _
    linarith)
  pointwise [lmOf]
  rw [h, named_log2e]
  have e1 : FloatOps.absf (F := Ideal) (φ := .f32) (x : EReal) = ((|x| : ℝ) : EReal) := by
    rw [Ideal.absf_def, abs_eq_max_neg, ← EReal.coe_neg]
    exact (EReal.coe_strictMono.monotone.map_max).symm
  have e2 : min (x : EReal) ((0 : ℝ) : EReal) = ((min x 0 : ℝ) : EReal) := (EReal.coe_strictMono.monotone.map_min).symm
  rw [e1, ← EReal.coe_zero, ← EReal.coe_sub, exp2_real, ← EReal.coe_one, ← EReal.coe_add, Ideal.log_coe,
    if_neg hp, ← EReal.coe_mul, e2, ← EReal.coe_sub]
  rfl

/-- The triangle of ones: a row's entries from the diagonal on. -/
theorem tri_at (r c : Fin 256) : k0_pay119 (F := Ideal) (ix2 r c) = if r.val ≤ c.val then (1 : EReal) else 0 := by
  pointwise [k0_pay119]
  rw [sge_small _ _ (by omega) (by omega)]
  by_cases h : r.val ≤ c.val
  · rw [if_pos h, if_pos h]
    show ((((1#1 : BitVec 1).setWidth 32).toInt : ℝ) : EReal) = 1
    rw [show ((1#1 : BitVec 1).setWidth 32).toInt = 1 by decide, Int.cast_one, EReal.coe_one]
  · rw [if_neg h, if_neg h]
    show ((((0#1 : BitVec 1).setWidth 32).toInt : ℝ) : EReal) = 0
    rw [show ((0#1 : BitVec 1).setWidth 32).toInt = 0 by decide, Int.cast_zero, EReal.coe_zero]

/-- The diagonal block's mask: the keys before the query. -/
theorem mask_at (r c : Fin 256) : k0_pay120 (ix2 r c) = if r.val < c.val then 1#1 else 0#1 := by
  pointwise [k0_pay120]
  exact slt_small _ _ (by omega) (by omega)

/-- A block's terms from row `r` on, as terms over the keys' numbers. -/
theorem sum_block {M : Type} [AddCommMonoid M] (f : ℕ → M) (j : ℕ) (r : Fin 256) :
    (∑ x : Fin 256, if r.val ≤ x.val then f (256 * j + x.val) else 0)
      = ∑ k ∈ Finset.Ico (256 * j + r.val) (256 * (j + 1)), f k := by
  rw [Fin.sum_univ_eq_sum_range (fun x => if r.val ≤ x then f (256 * j + x) else 0) 256, ← Finset.sum_filter]
  refine Finset.sum_nbij' (fun x => 256 * j + x) (fun k => k - 256 * j) ?_ ?_ ?_ ?_ ?_
  · intro x hx
    simp only [Finset.mem_filter, Finset.mem_range, Finset.mem_Ico] at hx ⊢
    omega
  · intro x hx
    simp only [Finset.mem_filter, Finset.mem_range, Finset.mem_Ico] at hx ⊢
    omega
  · intro x _
    show 256 * j + x - 256 * j = x
    omega
  · intro x hx
    simp only [Finset.mem_Ico] at hx
    show 256 * j + (x - 256 * j) = x
    omega
  · intro x _
    rfl

/-- A key's term in the row of remaining log-mass of query `i`: nothing from the query on. -/
def lmN (z : ℕ → ℝ) (i k : ℕ) : ℝ := if k < i then lmR (z k) else 0

/-- A key's weight for query `i`, the keys up to `e` counted: nothing from the query on. -/
def wN (z : ℕ → ℝ) (i e k : ℕ) : ℝ := if k < i then Real.rpow 2 ((∑ k' ∈ Finset.Ico k e, lmN z i k') - z k) else 0

/-- The block's sums down a column, of real terms. -/
theorem p_at (l : FVec Ideal S256x256 .f32) (c : Fin 256) (f : ℕ → ℝ) (j : ℕ)
    (h : ∀ r : Fin 256, l (ix2 r c) = (f (256 * j + r.val) : EReal)) (r : Fin 256) :
    pOf k0_pay119 l (ix2 r c) = ((∑ k ∈ Finset.Ico (256 * j + r.val) (256 * (j + 1)), f k : ℝ) : EReal) := by
  rw [← sum_block f j r, coe_sum]
  pointwise [pOf]
  refine Finset.sum_congr rfl fun x _ => ?_
  rw [tri_at, h]
  by_cases hx : r.val ≤ x.val
  · rw [if_pos hx, if_pos hx, one_mul]
  · rw [if_neg hx, if_neg hx, zero_mul, EReal.coe_zero]

/-- What a query column carries when the blocks from `j` up to key `e` are taken. -/
structure Inv (z : ℕ → ℝ) (v : Fin 128 → ℕ → EReal) (i e : ℕ) (c : Fin 256) (s : Carry Ideal) (j : ℕ) : Prop where
  run : s.1 (ix2 0 c) = ((∑ k ∈ Finset.Ico (256 * j) e, lmN z i k : ℝ) : EReal)
  acc : ∀ l : Fin 128, s.2 (ix3 0 l c) = ∑ k ∈ Finset.Ico (256 * j) e, v l k * (wN z i e k : EReal)

/-- One more block, whose logarithms and weights at the column are the keys'. -/
theorem step_inv {z : ℕ → ℝ} {v : Fin 128 → ℕ → EReal} {i e : ℕ} {c : Fin 256} {s : Carry Ideal} {j : ℕ}
    (hje : 256 * (j + 1) ≤ e) (h : Inv z v i e c s (j + 1)) (l a : FVec Ideal S256x256 .f32) (vt : Vec Ideal S1x128x256 .bf16)
    (hl : ∀ r : Fin 256, l (ix2 r c) = (lmN z i (256 * j + r.val) : EReal))
    (ha : ∀ r : Fin 256, a (ix2 r c) = (wN z i e (256 * j + r.val) : EReal))
    (hv : ∀ (d : Fin 128) (r : Fin 256), vt (ix3 0 d r) = v d (256 * j + r.val)) :
    Inv z v i e c (runOf s.1 (pOf k0_pay119 l), accOf a s.2 vt) j := by
  have hc : 256 * j ≤ 256 * (j + 1) := by omega
  constructor
  · have h1 := p_at l c (lmN z i) j hl 0
    rw [← Finset.sum_Ico_consecutive _ hc hje, add_comm, EReal.coe_add, ← h.run]
    show runOf s.1 (pOf k0_pay119 l) (ix2 0 c) = _
    generalize pOf k0_pay119 l = p at h1 ⊢
    pointwise [runOf]
    rw [h1]
    rfl
  · intro d
    have h2 := h.acc d
    show accOf a s.2 vt (ix3 0 d c) = _
    generalize s.2 = o at h2 ⊢
    rw [← Finset.sum_Ico_consecutive _ hc hje, add_comm, ← h2]
    pointwise [accOf]
    congr 1
    have h3 := sum_block (fun k => v d k * (wN z i e k : EReal)) j 0
    refine Eq.trans ?_ h3
    refine Finset.sum_congr rfl fun x _ => ?_
    rw [if_pos (show ((0 : Fin 256).val) ≤ x.val from Nat.zero_le _), hv, ha]

/-- The weights of a block from what remains, the block's sums and the negated scores. -/
theorem a_at {z : ℕ → ℝ} {v : Fin 128 → ℕ → EReal} {i e : ℕ} {c : Fin 256} {s : Carry Ideal} {j : ℕ}
    (hje : 256 * (j + 1) ≤ e) (h : Inv z v i e c s (j + 1)) (l zv : FVec Ideal S256x256 .f32)
    (hl : ∀ r : Fin 256, l (ix2 r c) = (lmN z i (256 * j + r.val) : EReal))
    (hz : ∀ r : Fin 256, zv (ix2 r c) = (z (256 * j + r.val) : EReal)) (r : Fin 256) :
    aOf s.1 (pOf k0_pay119 l) zv (ix2 r c)
      = ((Real.rpow 2 ((∑ k ∈ Finset.Ico (256 * j + r.val) e, lmN z i k) - z (256 * j + r.val)) : ℝ) : EReal) := by
  have h1 := p_at l c (lmN z i) j hl r
  have h0 := h.run
  have hr : 256 * j + r.val ≤ 256 * (j + 1) := by omega
  generalize pOf k0_pay119 l = p at h1 ⊢
  generalize s.1 = o at h0 ⊢
  rw [← Finset.sum_Ico_consecutive _ hr hje]
  pointwise [aOf]
  rw [h0, h1, hz, ← EReal.coe_add, ← EReal.coe_sub, exp2_real, add_comm]

/-- A block below the diagonal. -/
theorem blk_inv {z : ℕ → ℝ} {v : Fin 128 → ℕ → EReal} {i e : ℕ} {c : Fin 256} {s : Carry Ideal} {j : ℕ}
    (hji : 256 * (j + 1) ≤ i) (hje : 256 * (j + 1) ≤ e) (h : Inv z v i e c s (j + 1)) (q : FVec Ideal S256x128 .bf16)
    (b : Ideal .f32) (kb : Vec Ideal S256x128 .bf16) (vt : Vec Ideal S1x128x256 .bf16)
    (hz : ∀ r : Fin 256, zOf q b kb (ix2 r c) = (z (256 * j + r.val) : EReal))
    (hv : ∀ (d : Fin 128) (r : Fin 256), vt (ix3 0 d r) = v d (256 * j + r.val)) :
    Inv z v i e c (blkStep k0_pay119 q b kb vt s) j := by
  have hl : ∀ r : Fin 256, lmOf (zOf q b kb) (ix2 r c) = (lmN z i (256 * j + r.val) : EReal) := fun r => by
    rw [lm_at _ r c _ (hz r), lmN, if_pos (by omega)]
  refine step_inv hje h _ _ vt hl (fun r => ?_) hv
  rw [a_at hje h _ _ hl hz r, wN, if_pos (by omega)]

/-- The block on the diagonal. -/
theorem diag_inv {z : ℕ → ℝ} {v : Fin 128 → ℕ → EReal} {c : Fin 256} {n : ℕ} (q : FVec Ideal S256x128 .bf16)
    (b : Ideal .f32) (kb : Vec Ideal S256x128 .bf16) (vt : Vec Ideal S1x128x256 .bf16)
    (hz : ∀ r : Fin 256, zOf q b kb (ix2 r c) = (z (256 * n + r.val) : EReal))
    (hv : ∀ (d : Fin 128) (r : Fin 256), vt (ix3 0 d r) = v d (256 * n + r.val)) :
    Inv z v (256 * n + c.val) (256 * (n + 1)) c (diagStep k0_pay119 k0_pay120 q b kb vt carryZero) n := by
  have h0 : Inv z v (256 * n + c.val) (256 * (n + 1)) c carryZero (n + 1) := by
    constructor
    · rw [Finset.Ico_self, Finset.sum_empty, EReal.coe_zero]
      show (carryZero (F := Ideal)).1 (ix2 0 c) = 0
      pointwise [carryZero]
    · intro d
      rw [Finset.Ico_self, Finset.sum_empty]
      show (carryZero (F := Ideal)).2 (ix3 0 d c) = (0 : EReal)
      pointwise [carryZero]
  have hl : ∀ r : Fin 256, select k0_pay120 (lmOf (zOf q b kb)) (broadcast S256x256 (Scalar.ofBits .f32 0x00000000#32))
      (ix2 r c) = (lmN z (256 * n + c.val) (256 * n + r.val) : EReal) := fun r => by
    have h1 := lm_at _ r c _ (hz r)
    have h2 := mask_at r c
    generalize lmOf (zOf q b kb) = y at h1 ⊢
    generalize k0_pay120 = w at h2 ⊢
    pointwise
    rw [h1, h2, lmN]
    by_cases hr : r.val < c.val
    · rw [if_pos hr, if_pos (by omega)]; rfl
    · rw [if_neg hr, if_neg (by omega)]; rfl
  refine step_inv le_rfl h0 _ _ vt hl (fun r => ?_) hv
  have h1 := a_at le_rfl h0 _ _ hl hz r
  generalize aOf (carryZero (F := Ideal)).1 _ (zOf q b kb) = y at h1 ⊢
  have h2 := mask_at r c
  generalize k0_pay120 = w at h2 ⊢
  pointwise
  rw [h1, h2, wN]
  by_cases hr : r.val < c.val
  · rw [if_pos hr, if_pos (by omega)]; rfl
  · rw [if_neg hr, if_neg (by omega)]; rfl

/-- The whole walk: every key up to the diagonal block's end. -/
theorem walk_inv {z : ℕ → ℝ} {v : Fin 128 → ℕ → EReal} {c : Fin 256} (n : Fin 32) (q : FVec Ideal S256x128 .bf16)
    (b : Ideal .f32) (kt : Fin 32 → Vec Ideal S256x128 .bf16) (vt : Fin 32 → Vec Ideal S1x128x256 .bf16)
    (hz : ∀ (j : Fin 32) (r : Fin 256), zOf q b (kt j) (ix2 r c) = (z (256 * j.val + r.val) : EReal))
    (hv : ∀ (j : Fin 32) (d : Fin 128) (r : Fin 256), vt j (ix3 0 d r) = v d (256 * j.val + r.val)) :
    Inv z v (256 * n.val + c.val) (256 * (n.val + 1)) c (walk q b kt vt n) 0 := by
  have hblk : ∀ (j : ℕ) (s : Carry Ideal), j < n.val → Inv z v (256 * n.val + c.val) (256 * (n.val + 1)) c s (j + 1) →
      Inv z v (256 * n.val + c.val) (256 * (n.val + 1)) c
        (blkStep k0_pay119 q b (kt (Fin.ofNat 32 j)) (vt (Fin.ofNat 32 j)) s) j := by
    intro j s hj h
    have hj' : (Fin.ofNat 32 j).val = j := Nat.mod_eq_of_lt (by omega)
    refine blk_inv (by omega) (by omega) h q b _ _ (fun r => ?_) (fun d r => ?_)
    · rw [hz, hj']
    · rw [hv, hj']
  have hentry : Inv z v (256 * n.val + c.val) (256 * (n.val + 1)) c (entry q b kt vt n) (n.val - n.val % 2) := by
    have hd := diag_inv (z := z) (v := v) (c := c) (n := n.val) q b (kt n) (vt n) (hz n) (hv n)
    unfold entry
    by_cases hn : n.val % 2 = 1
    · have h := hblk (n.val - 1) _ (by omega) (by rw [show n.val - 1 + 1 = n.val by omega]; exact hd)
      rw [hn]
      exact h
    · have h0 : n.val % 2 = 0 := by omega
      rw [h0]
      exact hd
  have hpairs : ∀ k, k ≤ n.val / 2 → Inv z v (256 * n.val + c.val) (256 * (n.val + 1)) c
      (pairs k0_pay119 q b kt vt (n.val - n.val % 2) (entry q b kt vt n) k) (n.val - n.val % 2 - 2 * k) := by
    intro k
    induction k with
    | zero => intro _; exact hentry
    | succ k ih =>
      intro hk
      have h1 := hblk (n.val - n.val % 2 - 1 - 2 * k) _ (by omega)
        (by rw [show n.val - n.val % 2 - 1 - 2 * k + 1 = n.val - n.val % 2 - 2 * k by omega]; exact ih (by omega))
      have h2 := hblk (n.val - n.val % 2 - 2 - 2 * k) _ (by omega)
        (by rw [show n.val - n.val % 2 - 2 - 2 * k + 1 = n.val - n.val % 2 - 1 - 2 * k by omega]; exact h1)
      rw [show n.val - n.val % 2 - 2 * (k + 1) = n.val - n.val % 2 - 2 - 2 * k by omega]
      exact h2
  have h := hpairs (n.val / 2) le_rfl
  rw [show n.val - n.val % 2 - 2 * (n.val / 2) = 0 by omega] at h
  exact h

/-- A head's queries: its own lanes negated and scaled, the other head's zero. -/
theorem q_at (e : Fin 2) (x : Vec Ideal S256x128 .f32) (c : Fin 256) (l : Fin 128) :
    qOf (BitVec.ofNat 32 (64 * e.val)) (BitVec.ofNat 32 (64 * e.val + 64)) x (ix2 c l)
      = if 64 * e.val ≤ l.val ∧ l.val < 64 * e.val + 64 then 0 - x (ix2 c l) * ((8⁻¹ * invLog2 : ℝ) : EReal) else 0 := by
  pointwise [qOf]
  rw [named_q_scale, sge_small _ _ (by omega) (by omega), slt_small _ _ (by omega) (by omega)]
  by_cases h1 : 64 * e.val ≤ l.val
  · by_cases h2 : l.val < 64 * e.val + 64
    · rw [if_pos h1, if_pos h2, if_pos ⟨h1, h2⟩]; rfl
    · rw [if_pos h1, if_neg h2, if_neg fun h => h2 h.2]; rfl
  · rw [if_neg h1, if_neg fun h : _ ∧ _ => h1 h.1]
    by_cases h2 : l.val < 64 * e.val + 64
    · rw [if_pos h2]; rfl
    · rw [if_neg h2]; rfl

/-- A sum over a pair's lanes of terms that are zero off one head's: a sum over the head's lanes. -/
theorem sum_lanes {M : Type} [AddCommMonoid M] (e : Fin 2) (f : Fin 128 → M)
    (h : ∀ l : Fin 128, ¬ (64 * e.val ≤ l.val ∧ l.val < 64 * e.val + 64) → f l = 0) :
    ∑ l, f l = ∑ d : Fin 64, f ⟨64 * e.val + d.val, by omega⟩ := by
  rw [← Finset.sum_filter_of_ne (p := fun l : Fin 128 => 64 * e.val ≤ l.val ∧ l.val < 64 * e.val + 64)
    (fun l _ hl => by by_contra hc; exact hl (h l hc))]
  refine Finset.sum_nbij' (fun l => ⟨(l.val - 64 * e.val) % 64, Nat.mod_lt _ (by decide)⟩)
    (fun d => ⟨64 * e.val + d.val, by omega⟩) ?_ ?_ ?_ ?_ ?_
  · intro l _
    exact Finset.mem_univ _
  · intro d _
    simp only [Finset.mem_filter, Finset.mem_univ, true_and]
    omega
  · intro l hl
    simp only [Finset.mem_filter, Finset.mem_univ, true_and] at hl
    refine Fin.ext ?_
    show 64 * e.val + (l.val - 64 * e.val) % 64 = l.val
    omega
  · intro d _
    refine Fin.ext ?_
    show (64 * e.val + d.val - 64 * e.val) % 64 = d.val
    omega
  · intro l hl
    simp only [Finset.mem_filter, Finset.mem_univ, true_and] at hl
    congr 1
    refine Fin.ext ?_
    show l.val = 64 * e.val + (l.val - 64 * e.val) % 64
    omega

/-- A block's negated score where the head's lanes of the query and the key, and the bias, are real. -/
theorem z_at (e : Fin 2) (x : Vec Ideal S256x128 .f32) (b : Ideal .f32) (kb : Vec Ideal S256x128 .bf16) (r c : Fin 256)
    (xr kr : Fin 64 → ℝ) (br : ℝ) (hx : ∀ d : Fin 64, x (ix2 c ⟨64 * e.val + d.val, by omega⟩) = (xr d : EReal))
    (hk : ∀ d : Fin 64, kb (ix2 r ⟨64 * e.val + d.val, by omega⟩) = (kr d : EReal)) (hb : b = (br : EReal)) :
    zOf (qOf (BitVec.ofNat 32 (64 * e.val)) (BitVec.ofNat 32 (64 * e.val + 64)) x) (bOf b) kb (ix2 r c)
      = ((-(invLog2 * score xr kr br) : ℝ) : EReal) := by
  have hq := q_at e x c
  have hbb : bOf b = ((-invLog2 * br : ℝ) : EReal) := by
    rw [hb, EReal.coe_mul, ← named_neg_log2e]; rfl
  generalize qOf (BitVec.ofNat 32 (64 * e.val)) (BitVec.ofNat 32 (64 * e.val + 64)) x = q at hq ⊢
  pointwise [zOf]
  rw [hbb, sum_lanes e _ (fun l hl => by rw [hq, if_neg hl, mul_zero])]
  have ht : ∀ d : Fin 64, kb (ix2 r ⟨64 * e.val + d.val, by omega⟩) * q (ix2 c ⟨64 * e.val + d.val, by omega⟩)
      = ((kr d * (0 - xr d * (8⁻¹ * invLog2)) : ℝ) : EReal) := fun d => by
    rw [hq, if_pos ⟨by show 64 * e.val ≤ 64 * e.val + d.val; omega, by show 64 * e.val + d.val < 64 * e.val + 64; omega⟩, hx, hk,
      ← EReal.coe_mul, ← EReal.coe_zero, ← EReal.coe_sub, ← EReal.coe_mul]
  rw [Finset.sum_congr rfl fun d _ => ht d, ← coe_sum, ← EReal.coe_add]
  congr 1
  unfold score
  have h2 : ∑ d, kr d * (0 - xr d * (8⁻¹ * invLog2)) = -(invLog2 * 8⁻¹) * ∑ d, xr d * kr d := by
    rw [Finset.mul_sum]
    exact Finset.sum_congr rfl fun d _ => by ring
  rw [h2]
  ring

/-- A block of keys, read from the keys' window. -/
theorem ktile_at (K : Vec Ideal S8192x256 .bf16) (g : Fin 2) (j : Fin 32) (r : Fin 256) (l : Fin 128) :
    ktile K g j (ix2 r l) = K (ix2 ⟨256 * j.val + r.val, by omega⟩ ⟨128 * g.val + l.val, by omega⟩) := by
  pointwise [ktile]

/-- A block of values, read from the values' window. -/
theorem vtile_at (V : Vec Ideal S32x256x256 .bf16) (g : Fin 2) (j : Fin 32) (r : Fin 256) (l : Fin 128) :
    vtile V g j (ix3 0 l r) = V (ix3 j ⟨128 * g.val + l.val, by omega⟩ r) := by
  pointwise [vtile]

/-- A head's half of an accumulator. -/
theorem half_at (o : Vec Ideal S1x128x256 .f32) (e : Fin 2) (r : Fin 256) (l : Fin 64) :
    half o e (ix3 0 l r) = o (ix3 0 ⟨64 * e.val + l.val, by omega⟩ r) := by
  pointwise [half]

/-- A pair's queries, read from the queries' window. -/
theorem qtile_at (Q : Vec Ideal S256x256 .f32) (g : Fin 2) (r : Fin 256) (l : Fin 128) :
    qtile Q g (ix2 r l) = Q (ix2 r ⟨128 * g.val + l.val, by omega⟩) := by
  pointwise [qtile]

/-- A head's output at a query column and one of its lanes: the keys' values, weighted. -/
theorem walk_at (b : Ideal .f32) (Q : Vec Ideal S256x256 .f32) (K : Vec Ideal S8192x256 .bf16)
    (V : Vec Ideal S32x256x256 .bf16) (n : Fin 32) (g e : Fin 2) (c : Fin 256) (d : Fin 64) (xr : Fin 64 → ℝ)
    (kr : ℕ → Fin 64 → ℝ) (br : ℝ) (v : ℕ → EReal)
    (hx : ∀ d : Fin 64, Q (ix2 c ⟨128 * g.val + (64 * e.val + d.val), by omega⟩) = (xr d : EReal))
    (hk : ∀ (k : Fin 8192) (d : Fin 64), K (ix2 k ⟨128 * g.val + (64 * e.val + d.val), by omega⟩) = (kr k.val d : EReal))
    (hb : b = (br : EReal))
    (hv : ∀ (j : Fin 32) (r : Fin 256), V (ix3 j ⟨128 * g.val + (64 * e.val + d.val), by omega⟩ r) = v (256 * j.val + r.val)) :
    (walk (qOf (BitVec.ofNat 32 (64 * e.val)) (BitVec.ofNat 32 (64 * e.val + 64)) (qtile Q g)) (bOf b) (ktile K g) (vtile V g) n).2
        (ix3 0 ⟨64 * e.val + d.val, by omega⟩ c)
      = ∑ k ∈ Finset.Ico 0 (256 * (n.val + 1)),
          v k * (wN (fun k => -(invLog2 * score xr (kr k) br)) (256 * n.val + c.val) (256 * (n.val + 1)) k : EReal) := by
  have h := walk_inv (z := fun k => -(invLog2 * score xr (kr k) br))
    (v := fun l k => V (ix3 (Fin.ofNat 32 (k / 256)) ⟨128 * g.val + l.val, by omega⟩ (Fin.ofNat 256 (k % 256)))) (c := c) n
    (qOf (BitVec.ofNat 32 (64 * e.val)) (BitVec.ofNat 32 (64 * e.val + 64)) (qtile Q g)) (bOf b) (ktile K g) (vtile V g)
    (fun j r => z_at e (qtile Q g) b (ktile K g j) r c xr (kr (256 * j.val + r.val)) br
      (fun d => (qtile_at Q g c _).trans (hx d)) (fun d => (ktile_at K g j r _).trans (hk ⟨256 * j.val + r.val, by omega⟩ d)) hb)
    (fun j l r => by
      rw [vtile_at]
      congr 2
      · refine Fin.ext ?_
        show j.val = (256 * j.val + r.val) / 256 % 32
        omega
      · refine Fin.ext ?_
        show r.val = (256 * j.val + r.val) % 256 % 256
        omega)
  rw [h.acc]
  refine Finset.sum_congr rfl fun k hk => ?_
  rw [Finset.mem_Ico] at hk
  have hk2 : k < 8192 := by omega
  have hkk := hv (Fin.ofNat 32 (k / 256)) (Fin.ofNat 256 (k % 256))
  rw [show 256 * (Fin.ofNat 32 (k / 256)).val + (Fin.ofNat 256 (k % 256)).val = k by
    show 256 * (k / 256 % 32) + k % 256 % 256 = k
    omega] at hkk
  rw [← hkk]

/-- A pair's two halves set side by side. -/
theorem cat_at (a b : Vec Ideal S1x128x256 .f32) (e : Fin 2) (r : Fin 256) (d : Fin 64) :
    k0_pay179 (half a 0) (half b 1) (ix2 r ⟨64 * e.val + d.val, by omega⟩)
      = (![a, b] e) (ix3 0 ⟨64 * e.val + d.val, by omega⟩ r) := by
  have h0 := half_at a 0 r
  have h1 := half_at b 1 r
  generalize half a 0 = x at h0 ⊢
  generalize half b 1 = y at h1 ⊢
  pointwise [k0_pay179]
  fin_cases e
  · have hd : 64 * 0 + d.val < 64 := by omega
    refine (dif_pos hd).trans ((congrArg x ?_).trans (h0 d))
    congr 1
    refine Fin.ext ?_
    show 64 * 0 + d.val = d.val
    omega
  · have hd : ¬ 64 * 1 + d.val < 64 := by omega
    refine (dif_neg hd).trans ((congrArg y ?_).trans (h1 d))
    congr 1
    refine Fin.ext ?_
    show 64 * 1 + d.val - 64 = d.val
    omega

/-- The same of the other pair. -/
theorem cat_at' (a b : Vec Ideal S1x128x256 .f32) (e : Fin 2) (r : Fin 256) (d : Fin 64) :
    k0_pay180 (half a 0) (half b 1) (ix2 r ⟨64 * e.val + d.val, by omega⟩)
      = (![a, b] e) (ix3 0 ⟨64 * e.val + d.val, by omega⟩ r) := cat_at a b e r d

/-- The two pieces of the output block, read on the left half of the columns. -/
theorem pieces_left (w1 w0 : Vec Ideal S256x128 .bf16) (r : Fin 256) (x : Fin 128) (y : S256x256.Idx)
    (hy : y = ix2 r (⟨x.val, by omega⟩ : Fin 256)) :
    View.canon (Val := Elt Ideal) [⟨Rect.unit (s := S256x256) ![0, 128] S256x128.size inb_S256x256_S256x128_0_128, w1⟩,
      ⟨Rect.unit (s := S256x256) ![0, 0] S256x128.size inb_S256x256_S256x128_0_0, w0⟩] y = w0 (ix2 r x) := by
  have hn : y ∉ (Rect.unit (s := S256x256) ![0, 128] S256x128.size inb_S256x256_S256x128_0_128).set := by
    rw [Rect.mem_set_unit]
    intro h
    have h1 : 128 ≤ (y 1).val := (h 1).1
    rw [hy] at h1
    have h2 : 128 ≤ x.val := h1
    omega
  have he : y = (Rect.unit (s := S256x256) ![0, 0] S256x128.size inb_S256x256_S256x128_0_0).emb (ix2 r x) := by
    rw [hy]
    funext a; refine Fin.ext ?_
    fin_cases a
    · show r.val = 0 + 1 * r.val
      omega
    · show x.val = 0 + 1 * x.val
      omega
  refine Eq.trans (b := View.canon (Val := Elt Ideal)
    [⟨Rect.unit (s := S256x256) ![0, 0] S256x128.size inb_S256x256_S256x128_0_0, w0⟩] y) ?_ ?_
  · exact View.canon_cons_of_not_mem
      (⟨Rect.unit (s := S256x256) ![0, 128] S256x128.size inb_S256x256_S256x128_0_128, w1⟩ : View.Piece (Elt Ideal) S256x256 .bf16)
      _ hn
  · rw [he]
    exact View.canon_cons_emb _ _ _ _

/-- The two pieces of the output block, read on the right half of the columns. -/
theorem pieces_right (w1 w0 : Vec Ideal S256x128 .bf16) (r : Fin 256) (x : Fin 128) (y : S256x256.Idx)
    (hy : y = ix2 r (⟨128 + x.val, by omega⟩ : Fin 256)) :
    View.canon (Val := Elt Ideal) [⟨Rect.unit (s := S256x256) ![0, 128] S256x128.size inb_S256x256_S256x128_0_128, w1⟩,
      ⟨Rect.unit (s := S256x256) ![0, 0] S256x128.size inb_S256x256_S256x128_0_0, w0⟩] y = w1 (ix2 r x) := by
  have he : y = (Rect.unit (s := S256x256) ![0, 128] S256x128.size inb_S256x256_S256x128_0_128).emb (ix2 r x) := by
    rw [hy]
    funext a; refine Fin.ext ?_
    fin_cases a
    · show r.val = 0 + 1 * r.val
      omega
    · show 128 + x.val = 128 + 1 * x.val
      omega
  rw [he]
  exact View.canon_cons_emb _ _ _ _

/-- The output block at a row and a lane: the lane's head's output. -/
theorem outVal_at (b : Fin 4 → Ideal .f32) (Q : Vec Ideal S256x256 .f32) (K : Vec Ideal S8192x256 .bf16)
    (V : Vec Ideal S32x256x256 .bf16) (n : Fin 32) (g e : Fin 2) (r : Fin 256) (d : Fin 64) :
    outVal b Q K V n (ix2 r ⟨128 * g.val + (64 * e.val + d.val), by omega⟩)
      = (walk (qOf (BitVec.ofNat 32 (64 * e.val)) (BitVec.ofNat 32 (64 * e.val + 64)) (qtile Q g))
          (bOf (b ⟨2 * g.val + e.val, by omega⟩)) (ktile K g) (vtile V g) n).2 (ix3 0 ⟨64 * e.val + d.val, by omega⟩ r) := by
  have hh : ∀ g e : Fin 2, (walk (qOf (BitVec.ofNat 32 (64 * e.val)) (BitVec.ofNat 32 (64 * e.val + 64)) (qtile Q g))
      (bOf (b ⟨2 * g.val + e.val, by omega⟩)) (ktile K g) (vtile V g) n).2
        = headOut b Q K V n ⟨2 * g.val + e.val, by omega⟩ := by
    intro g e
    have hlo : (![0#32, 64#32, 0#32, 64#32] : Fin 4 → BitVec 32) ⟨2 * g.val + e.val, by omega⟩ = BitVec.ofNat 32 (64 * e.val) := by
      fin_cases g <;> fin_cases e <;> rfl
    have hhi : (![64#32, 128#32, 64#32, 128#32] : Fin 4 → BitVec 32) ⟨2 * g.val + e.val, by omega⟩
        = BitVec.ofNat 32 (64 * e.val + 64) := by
      fin_cases g <;> fin_cases e <;> rfl
    have hg : (![0, 0, 1, 1] : Fin 4 → Fin 2) ⟨2 * g.val + e.val, by omega⟩ = g := by
      fin_cases g <;> fin_cases e <;> rfl
    unfold headOut
    rw [hlo, hhi, hg]
  rw [hh]
  unfold outVal
  generalize headOut b Q K V n = f
  have hf : ∀ i j : Fin 4, (i = ⟨2 * g.val, by omega⟩) → (j = ⟨2 * g.val + 1, by omega⟩) →
      (![f i, f j] e) = f ⟨2 * g.val + e.val, by omega⟩ := by
    intro i j hi hj
    rw [hi, hj]
    by_cases h : e = 0
    · subst h; rfl
    · have h1 : e = 1 := by omega
      subst h1; rfl
  by_cases h : g = 0
  · subst h
    refine (pieces_left _ _ r ⟨64 * e.val + d.val, by omega⟩ _ (by
      congr 1; refine Fin.ext ?_
      show 128 * 0 + (64 * e.val + d.val) = 64 * e.val + d.val
      omega)).trans ?_
    rw [cat_at, hf 0 1 rfl rfl]
  · have h1 : g = 1 := by omega
    subst h1
    refine (pieces_right _ _ r ⟨64 * e.val + d.val, by omega⟩ _ (by
      congr 1)).trans ?_
    rw [cat_at', hf 2 3 rfl rfl]

/-- A logarithm in base two is the softplus, negated and rescaled. -/
theorem lmR_eq (z : ℝ) : lmR (-(invLog2 * z)) = invLog2 * -softplus z := by
  have hl : 0 < Real.log 2 := Real.log_pos (by norm_num)
  have hi : 0 < invLog2 := inv_pos.mpr hl
  have h1 : min (-(invLog2 * z)) 0 = -(invLog2 * max z 0) := by
    rcases le_total 0 z with h | h
    · rw [max_eq_left h, min_eq_left]
      have := mul_nonneg hi.le h
      linarith
    · rw [max_eq_right h, min_eq_right, mul_zero, neg_zero]
      have := mul_nonneg hi.le (neg_nonneg.mpr h)
      linarith
  have h2 : Real.rpow 2 (0 - |(-(invLog2 * z))|) = Real.exp (-|z|) := by
    show (2 : ℝ) ^ (0 - |(-(invLog2 * z))|) = _
    rw [Real.rpow_def_of_pos (by norm_num), abs_neg, abs_mul, abs_of_pos hi]
    congr 1
    unfold invLog2
    field_simp
    ring
  unfold lmR softplus
  rw [h1, h2]
  ring

/-- The walk's weight of a key, the keys up to `e` counted, is the attention weight. -/
theorem wN_eq (z : ℕ → ℝ) (i e k : ℕ) (hie : i ≤ e) : wN (fun k => -(invLog2 * z k)) i e k = weight z i k := by
  unfold wN weight
  by_cases hk : k < i
  · rw [if_pos hk, if_pos hk, ← Finset.sum_Ico_consecutive _ hk.le hie]
    have h0 : ∑ k' ∈ Finset.Ico i e, lmN (fun k => -(invLog2 * z k)) i k' = 0 :=
      Finset.sum_eq_zero fun k' h => by
        rw [Finset.mem_Ico] at h
        rw [lmN, if_neg (by omega)]
    have h1 : ∑ k' ∈ Finset.Ico k i, lmN (fun k => -(invLog2 * z k)) i k' = invLog2 * ∑ k' ∈ Finset.Ico k i, -softplus (z k') := by
      rw [Finset.mul_sum]
      refine Finset.sum_congr rfl fun k' h => ?_
      rw [Finset.mem_Ico] at h
      rw [lmN, if_pos h.2, lmR_eq]
    rw [h0, h1]
    show (2 : ℝ) ^ (invLog2 * (∑ k' ∈ Finset.Ico k i, -softplus (z k')) + 0 - -(invLog2 * z k)) = _
    rw [Real.rpow_def_of_pos (by norm_num)]
    congr 1
    have hl : Real.log 2 ≠ 0 := (Real.log_pos (by norm_num)).ne'
    unfold invLog2
    field_simp
    ring
  · rw [if_neg hk, if_neg hk]

/-- The output block at a row and a head's lane is the attention of that row's query. -/
theorem outVal_row (b : Fin 4 → Ideal .f32) (Q : Vec Ideal S256x256 .f32) (K : Vec Ideal S8192x256 .bf16)
    (V : Vec Ideal S32x256x256 .bf16) (n : Fin 32) (h : Fin 4) (c : Fin 256) (d : Fin 64) (xr : Fin 64 → ℝ)
    (kr : ℕ → Fin 64 → ℝ) (br : ℝ) (v : Fin 8192 → EReal)
    (hx : ∀ d : Fin 64, Q (ix2 c ⟨64 * h.val + d.val, by omega⟩) = (xr d : EReal))
    (hk : ∀ (k : Fin 8192) (d : Fin 64), K (ix2 k ⟨64 * h.val + d.val, by omega⟩) = (kr k.val d : EReal))
    (hb : b h = (br : EReal))
    (hv : ∀ (j : Fin 32) (r : Fin 256), V (ix3 j ⟨64 * h.val + d.val, by omega⟩ r) = v ⟨256 * j.val + r.val, by omega⟩) :
    outVal b Q K V n (ix2 c ⟨64 * h.val + d.val, by omega⟩)
      = row (fun k => score xr (kr k) br) (256 * n.val + c.val) v := by
  have hl : ∀ d : Fin 64, 128 * (h.val / 2) + (64 * (h.val % 2) + d.val) = 64 * h.val + d.val := fun d => by omega
  have e1 := outVal_at b Q K V n ⟨h.val / 2, by omega⟩ ⟨h.val % 2, by omega⟩ c d
  have hh : (⟨2 * (h.val / 2) + h.val % 2, by omega⟩ : Fin 4) = h := Fin.ext (by show 2 * (h.val / 2) + h.val % 2 = h.val; omega)
  have e2 := walk_at (b h) Q K V n ⟨h.val / 2, by omega⟩ ⟨h.val % 2, by omega⟩ c d xr kr br (fun k => v (Fin.ofNat 8192 k))
    (fun d => by simp only [hl]; exact hx d) (fun k d => by simp only [hl]; exact hk k d) hb
    (fun j r => by
      simp only [hl]
      rw [hv]
      congr 1
      refine Fin.ext ?_
      show 256 * j.val + r.val = (256 * j.val + r.val) % 8192
      omega)
  simp only [hl, hh] at e1
  rw [e1, e2]
  unfold row
  rw [Finset.sum_congr rfl fun k _ => by rw [wN_eq (fun k => score xr (kr k) br) _ _ k (show 256 * n.val + c.val ≤ 256 * (n.val + 1) by omega)]]
  have h3 : ∑ k ∈ Finset.Ico 0 (256 * (n.val + 1)),
        v (Fin.ofNat 8192 k) * (weight (fun k => score xr (kr k) br) (256 * n.val + c.val) k : EReal)
      = ∑ k ∈ Finset.Ico 0 8192, v (Fin.ofNat 8192 k) * (weight (fun k => score xr (kr k) br) (256 * n.val + c.val) k : EReal) := by
    rw [← Finset.sum_Ico_consecutive _ (Nat.zero_le _) (show 256 * (n.val + 1) ≤ 8192 by omega)]
    rw [Finset.sum_eq_zero (s := Finset.Ico (256 * (n.val + 1)) 8192) fun k hk => by
      rw [Finset.mem_Ico] at hk
      rw [weight, if_neg (by omega), EReal.coe_zero, mul_zero], add_zero]
  rw [h3, ← Finset.range_eq_Ico, ← Fin.sum_univ_eq_sum_range
    (fun k => v (Fin.ofNat 8192 k) * (weight (fun k => score xr (kr k) br) (256 * n.val + c.val) k : EReal)) 8192]
  refine Finset.sum_congr rfl fun k _ => ?_
  rw [show Fin.ofNat 8192 k.val = k from Fin.ext (Nat.mod_eq_of_lt k.isLt)]

end Cert.KernelIdeal.Hand
-- ==== Proof.Arr.lean ====
/- The kernel's result array at the extended reals: the windows' blocks read from the arguments, and every element of
   the result as the attention of its row's query. -/
module

public import proofs.«01_k».proof.Proof.Val
public import proofs.«01_k».proof.Proof.Run
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Attn

variable (m : (ℓ : Loc nD τ sig) → Buf (Elt Ideal) ℓ)

/-- The windows' block indices at a point. -/
theorem idx : ∀ t : Fin cfg0.N, win0_0.index t = ![0]
    ∧ win0_1.index t = ![(grid0.coords t 0).val * 32 + (grid0.coords t 2).val, (grid0.coords t 1).val]
    ∧ win0_2.index t = ![(grid0.coords t 0).val, (grid0.coords t 1).val]
    ∧ win0_3.index t = ![(grid0.coords t 0).val, (grid0.coords t 1).val, 0]
    ∧ win0_4.index t = ![(grid0.coords t 0).val * 32 + (grid0.coords t 2).val, (grid0.coords t 1).val] :=
  (by decide +kernel : ∀ t : Fin grid0.N, _)

/-- The batch entry of a grid point is one of two. -/
theorem co0 (t : Fin cfg0.N) : (grid0.coords t 0).val < 2 := (grid0.coords t 0).isLt
/-- Its group of heads is one of two. -/
theorem co1 (t : Fin cfg0.N) : (grid0.coords t 1).val < 2 := (grid0.coords t 1).isLt
/-- Its query block is one of thirty-two. -/
theorem co2 (t : Fin cfg0.N) : (grid0.coords t 2).val < 32 := (grid0.coords t 2).isLt

/-- The batch entry of a point. -/
def pb (t : Fin cfg0.N) : Fin 2 := ⟨(grid0.coords t 0).val, co0 t⟩
/-- The model head of a point's head. -/
def ph (t : Fin cfg0.N) (h : Fin 4) : Fin 8 := ⟨4 * (grid0.coords t 1).val + h.val, by have := co1 t; omega⟩
/-- The position of a point's query row. -/
def pi (t : Fin cfg0.N) (r : Fin 256) : Fin 8192 := ⟨256 * (grid0.coords t 2).val + r.val, by have := co2 t; omega⟩

/-- A head's bias at a point, read from the biases. -/
theorem bias_read (c : Dev nD) (t : Fin cfg0.N) (h : Fin 4) :
    bias (iblk m c 0 t) (grid0.coords t) h = m ((c : Thread nD τ).loc main_arg3) (ix2 0 (ph t h)) := by
  have h1 := co1 t
  have e : bias (iblk m c 0 t) (grid0.coords t) h
      = iblk m c 0 t (ix1 ⟨4 * (grid0.coords t 1).val + h.val, by omega⟩) := by
    unfold bias
    congr 1
    funext a
    fin_cases a
    rfl
  rw [e]
  unfold ph
  blk_point [iblk, V, idx t]

/-- A query of a point's block. -/
theorem q_read (c : Dev nD) (t : Fin cfg0.N) (r : Fin 256) (h : Fin 4) (d : Fin 64) :
    iblk m c 1 t (ix2 r ⟨64 * h.val + d.val, by omega⟩)
      = m ((c : Thread nD τ).loc main_arg0) (ix4 (pb t) (pi t r) (ph t h) d) := by
  have h0 := co0 t
  have h1 := co1 t
  have h2 := co2 t
  unfold pb pi ph
  blk_point [iblk, V, idx t]
  all_goals omega

/-- A key of a point's batch entry. -/
theorem k_read (c : Dev nD) (t : Fin cfg0.N) (k : Fin 8192) (h : Fin 4) (d : Fin 64) :
    iblk m c 2 t (ix2 k ⟨64 * h.val + d.val, by omega⟩)
      = m ((c : Thread nD τ).loc main_arg1) (ix4 (pb t) k (ph t h) d) := by
  have h0 := co0 t
  have h1 := co1 t
  have h2 := co2 t
  unfold pb ph
  blk_point [iblk, V, idx t]
  all_goals omega

/-- A value of a point's batch entry. -/
theorem v_read (c : Dev nD) (t : Fin cfg0.N) (j : Fin 32) (r : Fin 256) (h : Fin 4) (d : Fin 64) :
    iblk m c 3 t (ix3 j ⟨64 * h.val + d.val, by omega⟩ r)
      = m ((c : Thread nD τ).loc main_arg2) (ix4 (pb t) ⟨256 * j.val + r.val, by omega⟩ (ph t h) d) := by
  have h0 := co0 t
  have h1 := co1 t
  have h2 := co2 t
  unfold pb ph
  blk_point [iblk, V, idx t]
  all_goals omega

/-- What a point leaves at a row and a head's lane. -/
theorem out_read (c : Dev nD) (t : Fin cfg0.N)
    (h0 : ∀ x, m ((c : Thread nD τ).loc main_arg0) x = ((m ((c : Thread nD τ).loc main_arg0) x : EReal).toReal : EReal))
    (h1 : ∀ x, m ((c : Thread nD τ).loc main_arg1) x = ((m ((c : Thread nD τ).loc main_arg1) x : EReal).toReal : EReal))
    (h3 : ∀ x, m ((c : Thread nD τ).loc main_arg3) x = ((m ((c : Thread nD τ).loc main_arg3) x : EReal).toReal : EReal))
    (r : Fin 256) (h : Fin 4) (d : Fin 64) :
    outAt m c t (ix2 r ⟨64 * h.val + d.val, by omega⟩)
      = attn (m ((c : Thread nD τ).loc main_arg0)) (m ((c : Thread nD τ).loc main_arg1)) (m ((c : Thread nD τ).loc main_arg2))
          (m ((c : Thread nD τ).loc main_arg3)) (pb t) (pi t r) (ph t h) d := by
  unfold outAt
  exact outVal_row (bias (iblk m c 0 t) (grid0.coords t)) (iblk m c 1 t) (iblk m c 2 t) (iblk m c 3 t) (grid0.coords t 2) h r d
    (fun d => (m ((c : Thread nD τ).loc main_arg0) (ix4 (pb t) (pi t r) (ph t h) d) : EReal).toReal)
    (fun k d => (m ((c : Thread nD τ).loc main_arg1) (ix4 (pb t) (Fin.ofNat 8192 k) (ph t h) d) : EReal).toReal)
    (m ((c : Thread nD τ).loc main_arg3) (ix2 0 (ph t h)) : EReal).toReal
    (fun k => m ((c : Thread nD τ).loc main_arg2) (ix4 (pb t) k (ph t h) d))
    (fun d => (q_read m c t r h d).trans (h0 _))
    (fun k d => by
      rw [show Fin.ofNat 8192 k.val = k from Fin.ext (Nat.mod_eq_of_lt k.isLt)]
      exact (k_read m c t k h d).trans (h1 _))
    ((bias_read m c t h).trans (h3 _))
    (fun j r => v_read m c t j r h d)

/-- The kernel's result array after the run, where the queries, the keys and the biases are real. -/
theorem final (c : Dev nD)
    (h0 : ∀ x, m ((c : Thread nD τ).loc main_arg0) x = ((m ((c : Thread nD τ).loc main_arg0) x : EReal).toReal : EReal))
    (h1 : ∀ x, m ((c : Thread nD τ).loc main_arg1) x = ((m ((c : Thread nD τ).loc main_arg1) x : EReal).toReal : EReal))
    (h3 : ∀ x, m ((c : Thread nD τ).loc main_arg3) x = ((m ((c : Thread nD τ).loc main_arg3) x : EReal).toReal : EReal)) :
    (dats m 0 c).arrAt 4 (cfgs 0).N
      = result (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after_4]
  have c0 := co0 t
  have c1 := co1 t
  have c2 := co2 t
  have y1 : (y 1).val < 256 := (y 1).isLt
  have y0 : (y 0).val < 256 := (y 0).isLt
  have hy : y = ix2 (⟨(y 0).val, y0⟩ : Fin 256) (⟨64 * ((y 1).val / 64) + (y 1).val % 64, by omega⟩ : Fin 256) := by
    funext a
    refine Fin.ext ?_
    fin_cases a
    · rfl
    · show (y 1).val = 64 * ((y 1).val / 64) + (y 1).val % 64
      omega
  have ho := out_read m c t h0 h1 h3 ⟨(y 0).val, y0⟩ ⟨(y 1).val / 64, by omega⟩ ⟨(y 1).val % 64, by omega⟩
  refine (congrArg (outAt m c t) hy).trans (ho.trans ?_)
  unfold result
  generalize hemb : ((win0_4.blk t).view.emb y) = x
  have hx0 : (x 0).val = ((grid0.coords t 0).val * 32 + (grid0.coords t 2).val) * 256 + (y 0).val := by
    rw [← hemb]
    blk_simp [idx t]
  have hx1 : (x 1).val = (grid0.coords t 1).val * 256 + (y 1).val := by
    rw [← hemb]
    blk_simp [idx t]
  congr 1
  · refine Fin.ext ?_
    show (grid0.coords t 0).val = (x 0).val / 8192 % 2
    rw [hx0]
    omega
  · refine Fin.ext ?_
    show 256 * (grid0.coords t 2).val + (y 0).val = (x 0).val % 8192
    rw [hx0]
    omega
  · refine Fin.ext ?_
    show 4 * (grid0.coords t 1).val + (y 1).val / 64 = (x 1).val / 64 % 8
    rw [hx1]
    omega
  · refine Fin.ext ?_
    show (y 1).val % 64 = (x 1).val % 64
    rw [hx1]
    omega

end Cert.KernelIdeal.Hand
-- ==== Proof.Ref.lean ====
/- The reference at the extended reals, element by element: the attention of the arguments. -/
module

public import proofs.«01_k».proof.Proof.Attn
public import proofs.«01_k».proof.Proof.Gen.ReferenceIdeal
public import proofs.«01_k».proof.Proof.Gen.ReferenceIdeal.Run
public import proofs.«01_k».proof.Proof.Gen.ReferenceIdeal.Read

@[expose] public section

set_option maxRecDepth 16384

noncomputable section

namespace Cert.ReferenceIdeal.Hand

open Idealize.ShloMosaic Cert.ReferenceIdeal Cert.ReferenceIdeal.Gen Cert.ReferenceIdeal.Read Cert.Attn

/-- A left fold of additions is the sum. -/
theorem foldl_add {ι : Type} (g : ι → EReal) (l : List ι) (r : EReal) : l.foldl (fun r n => r + g n) r = r + (l.map g).sum := by
  induction l generalizing r with
  | nil => simp
  | cons a l ih => rw [List.foldl_cons, ih, List.map_cons, List.sum_cons, add_assoc]

/-- A sum over the window's positions that fall inside the array is the sum over the keys from the window's first. -/
theorem sum_window (f : ℕ → EReal) (k : ℕ) (hk : k < 8192) :
    (∑ n : Fin 8192, if k + n.val < 8192 then f (k + n.val) else 0) = ∑ k' ∈ Finset.Ico k 8192, f k' := by
  rw [Fin.sum_univ_eq_sum_range (fun n => if k + n < 8192 then f (k + n) else 0) 8192, ← Finset.sum_filter]
  refine Finset.sum_nbij' (fun x => k + x) (fun x => x - k) ?_ ?_ ?_ ?_ ?_
  · intro x hx
    simp only [Finset.mem_filter, Finset.mem_range, Finset.mem_Ico] at hx ⊢
    omega
  · intro x hx
    simp only [Finset.mem_filter, Finset.mem_range, Finset.mem_Ico] at hx ⊢
    omega
  · intro x _
    show k + x - k = x
    omega
  · intro x hx
    simp only [Finset.mem_Ico] at hx
    show k + (x - k) = x
    omega
  · intro x _
    rfl

/-- The suffix sums of an array along its last axis. -/
theorem window_at (x : FVec Ideal S2x8x8192x8192 .f32) (init : FVec Ideal S_ .f32) (h0 : ∀ j, init j = (0 : EReal))
    (b : Fin 2) (h : Fin 8) (i k : Fin 8192) :
    Host.reduceWindowAdd ![1, 1, 1, 8192] ![1, 1, 1, 1] ![0, 0, 0, 0] ![0, 0, 0, 8191] x init
      reduceWindows_S2x8x8192x8192_S2x8x8192x8192_w1s1p0_0_w1s1p0_0_w1s1p0_0_w8192s1p0_8191 h_S_ (ix4 b h i k)
      = ∑ k' ∈ Finset.Ico k.val 8192, x (ix4 b h i (Fin.ofNat 8192 k')) := by
  rw [← sum_window (fun k' => x (ix4 b h i (Fin.ofNat 8192 k'))) k.val k.isLt]
  unfold Host.reduceWindowAdd
  rw [Ideal.hostReduceWindowAdd_def, h0]
  unfold Ideal.hostReduceWindowAdd Host.reduceWindow
  dsimp only
  refine (foldl_add _ _ _).trans ?_
  rw [zero_add, ← Fin.sum_univ_def]
  have hn : (⟨S2x8x8192x8192.rank, ![1, 1, 1, 8192]⟩ : Shape).numel = 8192 := by decide
  rw [← Equiv.sum_comp (finCongr hn).symm]
  refine Finset.sum_congr rfl fun n _ => ?_
  let w : (⟨4, ![1, 1, 1, 8192]⟩ : Shape).Idx := (Shape.rowMajor ⟨4, ![1, 1, 1, 8192]⟩).symm ((finCongr hn).symm n)
  have hv : (Shape.rowMajor ⟨4, ![1, 1, 1, 8192]⟩ w).val = n.val :=
    congrArg Fin.val (Equiv.apply_symm_apply _ _)
  rw [Shape.rowMajor_val_four] at hv
  have w0 : (w 0).val = 0 := Nat.lt_one_iff.mp (w 0).isLt
  have w1 : (w 1).val = 0 := Nat.lt_one_iff.mp (w 1).isLt
  have w2 : (w 2).val = 0 := Nat.lt_one_iff.mp (w 2).isLt
  have w3 : (w 3).val = n.val := by rw [w0, w1, w2] at hv; simpa using hv
  by_cases hin : k.val + n.val < 8192
  · rw [if_pos hin, dif_pos]
    · congr 1
      funext a
      refine Fin.ext ?_
      match a with
      | ⟨0, _⟩ => show b.val * 1 + (w 0).val - 0 = b.val; omega
      | ⟨1, _⟩ => show h.val * 1 + (w 1).val - 0 = h.val; omega
      | ⟨2, _⟩ => show i.val * 1 + (w 2).val - 0 = i.val; omega
      | ⟨3, _⟩ => show k.val * 1 + (w 3).val - 0 = (k.val + n.val) % 8192; omega
    · intro a
      match a with
      | ⟨0, _⟩ => show 0 ≤ b.val * 1 + (w 0).val ∧ b.val * 1 + (w 0).val - 0 < 2; omega
      | ⟨1, _⟩ => show 0 ≤ h.val * 1 + (w 1).val ∧ h.val * 1 + (w 1).val - 0 < 8; omega
      | ⟨2, _⟩ => show 0 ≤ i.val * 1 + (w 2).val ∧ i.val * 1 + (w 2).val - 0 < 8192; omega
      | ⟨3, _⟩ => show 0 ≤ k.val * 1 + (w 3).val ∧ k.val * 1 + (w 3).val - 0 < 8192; omega
  · rw [if_neg hin, dif_neg]
    intro hh
    have := (hh 3).2
    replace this : k.val * 1 + (w 3).val - 0 < 8192 := this
    omega

/-- The softplus as the reference spells it, at a real. -/
theorem softplus_at (y : ℝ) (other : EReal) :
    Scalar.select (FloatOps.cmpf (F := Ideal) (φ := .f32) .une (FloatOps.subf (y : EReal) (FloatOps.ofBits .f32 0x00000000#32)) (FloatOps.subf (y : EReal) (FloatOps.ofBits .f32 0x00000000#32))) other
      (FloatOps.addf (F := Ideal) (φ := .f32) (FloatOps.maximumf (y : EReal) (FloatOps.ofBits .f32 0x00000000#32))
        (FloatOps.hostUnary .log1p (FloatOps.hostUnary .exp (FloatOps.hostNegf (FloatOps.hostAbsf
          (FloatOps.subf (y : EReal) (FloatOps.ofBits .f32 0x00000000#32)))))))
      = ((softplus y : ℝ) : EReal) := by
  have hz : (FloatOps.ofBits (F := Ideal) .f32 0x00000000#32) = (0 : EReal) := Ideal.ofBits_zero .f32
  rw [hz]
  show Scalar.select (BitVec.ofBool (decide ((y : EReal) - 0 ≠ (y : EReal) - 0))) other
    (max (y : EReal) 0 + Ideal.log (1 + Ideal.exp (-(max ((y : EReal) - 0) (-((y : EReal) - 0)))))) = _
  have e0 : (y : EReal) - 0 = (y : EReal) := sub_zero _
  have e1 : max (y : EReal) (-(y : EReal)) = ((|y| : ℝ) : EReal) := by
    rw [← EReal.coe_neg, ← EReal.coe_strictMono.monotone.map_max]; rfl
  have e2 : max (y : EReal) 0 = ((max y 0 : ℝ) : EReal) := by
    rw [← EReal.coe_zero, ← EReal.coe_strictMono.monotone.map_max]
  rw [e0, e1, e2, ← EReal.coe_neg, Ideal.exp_coe, ← EReal.coe_one, ← EReal.coe_add, Ideal.log_coe,
    if_neg (not_le.mpr (by positivity)), ← EReal.coe_add, decide_eq_false (by simp)]
  rfl

/-- The scores of a batch entry's query at a head. -/
def scores (x0 x1 : FVec Ideal S2x8192x8x64 .f32) (x3 : FVec Ideal S1x8 .f32) (b : Fin 2) (h : Fin 8) (i : Fin 8192) (k : ℕ) : ℝ :=
  score (fun d => (x0 (ix4 b i h d)).toReal) (fun d => (x1 (ix4 b (Fin.ofNat 8192 k) h d)).toReal) (x3 (ix2 0 h)).toReal

section
variable (x0 x1 : FVec Ideal S2x8192x8x64 .f32) (x3 : FVec Ideal S1x8 .f32)
  (h0 : ∀ x, x0 x = ((x0 x : EReal).toReal : EReal)) (h1 : ∀ x, x1 x = ((x1 x : EReal).toReal : EReal))
  (h3 : ∀ x, x3 x = ((x3 x : EReal).toReal : EReal)) (b : Fin 2) (h : Fin 8) (i k : Fin 8192)

/-- The constant the products are scaled by is an eighth. -/
theorem eighth : (FloatOps.ofBits (F := Ideal) .f32 0x3E000000#32) = (((8 : ℝ)⁻¹ : ℝ) : EReal) := by
  show Ideal.ofBits .f32 0x3E000000#32 = _
  simp [Ideal.ofBits, Ideal.ieee]
  norm_num
  rw [← EReal.coe_mul]
  norm_num

include h0 h1 h3 in
/-- The reference's score array. -/
theorem v12_at : val_main_v12 (F := Ideal) x0 x1 x3 (ix4 b h i k) = ((scores x0 x1 x3 b h i k.val : ℝ) : EReal) := by
  have ek : Fin.ofNat 8192 k.val = k := Fin.ext (Nat.mod_eq_of_lt k.isLt)
  have e0 (d : Fin 64) : lidx_main_v8 (ix4 b h i k) d = ix4 b i h d := by
    funext a
    match a with
    | ⟨0, _⟩ => rfl
    | ⟨1, _⟩ => rfl
    | ⟨2, _⟩ => rfl
    | ⟨3, _⟩ => rfl
  have e1 (d : Fin 64) : ridx_main_v8 (ix4 b h i k) d = ix4 b k h d := by
    funext a
    match a with
    | ⟨0, _⟩ => rfl
    | ⟨1, _⟩ => rfl
    | ⟨2, _⟩ => rfl
    | ⟨3, _⟩ => rfl
  have e3 : idx_main_v6 (idx_main_v7 (idx_main_v11 (ix4 b h i k))) = ix2 0 h := by
    funext a
    refine Fin.ext ?_
    match a with
    | ⟨0, _⟩ => rfl
    | ⟨1, _⟩ => exact Nat.mod_eq_of_lt h.isLt
  rw [val_main_v12_apply, val_main_v10_apply, val_main_v9_apply, val_main_cst_apply, val_main_v8_apply,
    val_main_v11_apply, val_main_v7_apply, val_main_v6_apply, e3, eighth]
  show (∑ d : Fin 64, x0 (lidx_main_v8 (ix4 b h i k) d) * x1 (ridx_main_v8 (ix4 b h i k) d)) * (((8 : ℝ)⁻¹ : ℝ) : EReal)
    + x3 (ix2 0 h) = _
  rw [show (∑ d : Fin 64, x0 (lidx_main_v8 (ix4 b h i k) d) * x1 (ridx_main_v8 (ix4 b h i k) d))
      = ((∑ d : Fin 64, (x0 (ix4 b i h d) : EReal).toReal * (x1 (ix4 b k h d) : EReal).toReal : ℝ) : EReal) from by
    rw [coe_sum]
    refine Finset.sum_congr rfl fun d _ => ?_
    rw [e0, e1, EReal.coe_mul, ← h0, ← h1], h3 (ix2 0 h), ← EReal.coe_mul, ← EReal.coe_add]
  unfold scores score
  rw [ek]

/-- The mask: the keys before the query. -/
theorem v5_at : val_main_v5 (F := Ideal) (ix2 i k) = if k.val < i.val then 1#1 else 0#1 := by
  rw [val_main_v5_apply, val_main_v3_apply, val_main_v1_apply, val_main_v0_apply, val_main_v4_apply, val_main_v2_apply,
    val_main_v0_apply]
  exact slt_small k.val i.val (by omega) (by omega)

include h0 h1 h3 in
/-- The log of the share a key leaves. -/
theorem v14_at : val_main_v14 (F := Ideal) x0 x1 x3 (ix4 b h i k) = ((-softplus (scores x0 x1 x3 b h i k.val) : ℝ) : EReal) := by
  have e : val_main_call0_v0 (F := Ideal) x0 x1 x3 (ix4 b h i k) = ((scores x0 x1 x3 b h i k.val : ℝ) : EReal) := by
    rw [val_main_call0_v0_apply, val_main_v13_apply, v12_at x0 x1 x3 h0 h1 h3]
    exact neg_neg _
  rw [val_main_v14_apply, val_main_call0_v1_apply, val_main_call0_call0_v4_apply, val_main_call0_call0_v3_apply,
    val_main_call0_call0_v2_apply, val_main_call0_call0_cst_apply, val_main_call0_call0_v11_apply,
    val_main_call0_call0_v1_apply, val_main_call0_call0_v0_apply, val_main_call0_call0_cst_apply,
    val_main_call0_call0_v10_apply, val_main_call0_call0_v9_apply, val_main_call0_call0_v8_apply,
    val_main_call0_call0_v7_apply, val_main_call0_call0_v3_apply, val_main_call0_call0_v2_apply,
    val_main_call0_call0_cst_apply, e, softplus_at]
  exact (EReal.coe_neg _).symm

include h0 h1 h3 in
/-- The log of a key's own share. -/
theorem v18_at : val_main_v18 (F := Ideal) x0 x1 x3 (ix4 b h i k) = ((-softplus (-scores x0 x1 x3 b h i k.val) : ℝ) : EReal) := by
  have e : val_main_call3_v0 (F := Ideal) x0 x1 x3 (ix4 b h i k) = ((-scores x0 x1 x3 b h i k.val : ℝ) : EReal) := by
    rw [val_main_call3_v0_apply, v12_at x0 x1 x3 h0 h1 h3]
    exact (EReal.coe_neg _).symm
  rw [val_main_v18_apply, val_main_call3_v1_apply, val_main_call3_call0_v4_apply, val_main_call3_call0_v3_apply,
    val_main_call3_call0_v2_apply, val_main_call3_call0_cst_apply, val_main_call3_call0_v11_apply,
    val_main_call3_call0_v1_apply, val_main_call3_call0_v0_apply, val_main_call3_call0_cst_apply,
    val_main_call3_call0_v10_apply, val_main_call3_call0_v9_apply, val_main_call3_call0_v8_apply,
    val_main_call3_call0_v7_apply, val_main_call3_call0_v3_apply, val_main_call3_call0_v2_apply,
    val_main_call3_call0_cst_apply, e, softplus_at]
  exact (EReal.coe_neg _).symm

include h0 h1 h3 in
/-- The same, none from the query on. -/
theorem v15_at : val_main_v15 (F := Ideal) x0 x1 x3 (ix4 b h i k)
    = ((if k.val < i.val then -softplus (scores x0 x1 x3 b h i k.val) else 0 : ℝ) : EReal) := by
  have e : idx_main_call1_v1 (ix4 b h i k) = ix2 i k := by
    funext a
    match a with
    | ⟨0, _⟩ => rfl
    | ⟨1, _⟩ => rfl
  rw [val_main_v15_apply, val_main_call1_v1_apply, e, v5_at, v14_at x0 x1 x3 h0 h1 h3, val_main_call1_v2_apply,
    val_main_call1_v0_apply, val_main_cst_0_apply]
  by_cases hk : k.val < i.val
  · rw [if_pos hk, if_pos hk]; rfl
  · rw [if_neg hk, if_neg hk]
    exact Ideal.ofBits_zero .f32

include h0 h1 h3 in
/-- The log of the share that a key and the keys after it, up to the query, leave. -/
theorem v16_at (hk : k.val < i.val) : val_main_v16 (F := Ideal) x0 x1 x3 (ix4 b h i k)
    = ((∑ k' ∈ Finset.Ico k.val i.val, -softplus (scores x0 x1 x3 b h i k') : ℝ) : EReal) := by
  unfold val_main_v16
  rw [window_at _ (val_main_call2_v0 (F := Ideal)) (fun j => (val_main_call2_v0_apply j).trans (Ideal.ofBits_zero .f32)), coe_sum]
  have hi := i.isLt
  rw [← Finset.sum_Ico_consecutive _ (le_of_lt hk) (le_of_lt hi)]
  have z : ∑ k' ∈ Finset.Ico i.val 8192, val_main_v15 (F := Ideal) x0 x1 x3 (ix4 b h i (Fin.ofNat 8192 k')) = (0 : EReal) := by
    refine Finset.sum_eq_zero fun k' hk' => ?_
    have hm := Finset.mem_Ico.mp hk'
    have e : (Fin.ofNat 8192 k').val = k' := Nat.mod_eq_of_lt hm.2
    rw [v15_at x0 x1 x3 h0 h1 h3, e, if_neg (by omega)]
    rfl
  refine (congrArg (_ + ·) z).trans ?_
  rw [add_zero]
  refine Finset.sum_congr rfl fun k' hk' => ?_
  have hm := Finset.mem_Ico.mp hk'
  have e : (Fin.ofNat 8192 k').val = k' := Nat.mod_eq_of_lt (by omega)
  rw [v15_at x0 x1 x3 h0 h1 h3, e, if_pos hm.2]

include h0 h1 h3 in
/-- The reference's weights. -/
theorem v21_at : val_main_v21 (F := Ideal) x0 x1 x3 (ix4 b h i k)
    = ((weight (scores x0 x1 x3 b h i) i.val k.val : ℝ) : EReal) := by
  have e : idx_main_call4_v1 (ix4 b h i k) = ix2 i k := by
    funext a
    match a with
    | ⟨0, _⟩ => rfl
    | ⟨1, _⟩ => rfl
  rw [val_main_v21_apply, val_main_call4_v1_apply, e, v5_at, val_main_call4_v2_apply, val_main_call4_v0_apply,
    val_main_cst_1_apply]
  unfold weight
  by_cases hk : k.val < i.val
  · rw [if_pos hk, if_pos hk, val_main_v20_apply, val_main_v19_apply, val_main_v17_apply, v16_at x0 x1 x3 h0 h1 h3 b h i k hk,
      v15_at x0 x1 x3 h0 h1 h3, if_pos hk, v18_at x0 x1 x3 h0 h1 h3]
    generalize (∑ k' ∈ Finset.Ico k.val i.val, -softplus (scores x0 x1 x3 b h i k')) = C
    have hs := softplus_neg (scores x0 x1 x3 b h i k.val)
    generalize scores x0 x1 x3 b h i k.val = z at hs ⊢
    show Ideal.exp (((-softplus (-z) : ℝ) : EReal) + (((C : ℝ) : EReal) - ((-softplus z : ℝ) : EReal))) = _
    rw [← EReal.coe_sub, ← EReal.coe_add, Ideal.exp_coe]
    congr 2
    linarith
  · rw [if_neg hk, if_neg hk]
    exact Ideal.ofBits_zero .f32

end

/-- The reference's result is the attention of its arguments. -/
theorem result_eq (x0 x1 x2 : FVec Ideal S2x8192x8x64 .f32) (x3 : FVec Ideal S1x8 .f32)
    (h0 : ∀ x, x0 x = ((x0 x : EReal).toReal : EReal)) (h1 : ∀ x, x1 x = ((x1 x : EReal).toReal : EReal))
    (h3 : ∀ x, x3 x = ((x3 x : EReal).toReal : EReal)) :
    val_main_v25 (F := Ideal) x0 x1 x2 x3 = result x0 x1 x2 x3 := by
  funext x
  have hx0 : (x 0).val < 16384 := (x 0).isLt
  have hx1 : (x 1).val < 512 := (x 1).isLt
  have el (k : Fin 8192) : lidx_main_v22 (idx_main_v23 (idx_main_v24 x)) k
      = ix4 (Fin.ofNat 2 ((x 0).val / 8192)) k (Fin.ofNat 8 ((x 1).val / 64)) (Fin.ofNat 64 (x 1).val) := by
    funext a
    refine Fin.ext ?_
    match a with
    | ⟨0, _⟩ => show ((x 0).val * 512 + (x 1).val) / 4194304 = (x 0).val / 8192 % 2; omega
    | ⟨1, _⟩ => rfl
    | ⟨2, _⟩ => show ((x 0).val * 512 + (x 1).val) / 64 % 8 = (x 1).val / 64 % 8; omega
    | ⟨3, _⟩ => show ((x 0).val * 512 + (x 1).val) % 64 = (x 1).val % 64; omega
  have er (k : Fin 8192) : ridx_main_v22 (idx_main_v23 (idx_main_v24 x)) k
      = ix4 (Fin.ofNat 2 ((x 0).val / 8192)) (Fin.ofNat 8 ((x 1).val / 64)) (Fin.ofNat 8192 (x 0).val) k := by
    funext a
    refine Fin.ext ?_
    match a with
    | ⟨0, _⟩ => show ((x 0).val * 512 + (x 1).val) / 4194304 = (x 0).val / 8192 % 2; omega
    | ⟨1, _⟩ => show ((x 0).val * 512 + (x 1).val) / 64 % 8 = (x 1).val / 64 % 8; omega
    | ⟨2, _⟩ => show ((x 0).val * 512 + (x 1).val) / 512 % 8192 = (x 0).val % 8192; omega
    | ⟨3, _⟩ => rfl
  rw [val_main_v25_apply, val_main_v24_apply, val_main_v23_apply, val_main_v22_apply]
  unfold result attn row
  refine Finset.sum_congr rfl fun k _ => ?_
  rw [el, er, v21_at x0 x1 x3 h0 h1 h3]
  rfl

end Cert.ReferenceIdeal.Hand
-- ==== Proof.Value.lean ====
/- The value claim: from finite queries, keys and biases the kernel with its constants named and the reference both end
   with the attention of the arguments. -/
module

public import proofs.«01_k».proof.Defs
public import proofs.«01_k».proof.Proof.Arr
public import proofs.«01_k».proof.Proof.Ref
public import proofs.«01_k».proof.Proof.Gen.Pre_finite
public import Idealize.ShloMosaic.Lib.ReduceAll
public import Idealize.ShloMosaic.Lib.Affine

@[expose] public section

noncomputable section

namespace Cert.Value

open Idealize.ShloMosaic Idealize.ShloMosaic.TcCoe Idealize.SL.Sem

/-- The word the precondition compares with is positive infinity. -/
theorem inf_word : (FloatOps.ofBits (F := Ideal) .f32 0x7F800000#32) = (⊤ : EReal) := by
  show Ideal.ofBits .f32 0x7F800000#32 = _
  simp [Ideal.ofBits, Ideal.ieee]

/-- An element whose absolute value compares below positive infinity is a real. -/
theorem real_of_olt (x : EReal)
    (h : FloatOps.cmpf (F := Ideal) (φ := .f32) .olt (FloatOps.hostAbsf (F := Ideal) (φ := .f32) x) (FloatOps.ofBits (F := Ideal) .f32 0x7F800000#32) = 1#1) :
    x = (x.toReal : EReal) := by
  rw [inf_word] at h
  replace h : BitVec.ofBool (decide (max x (-x) < ⊤)) = 1#1 := h
  refine Cert.Attn.coe_toReal_of_abs x ?_
  by_contra hn
  rw [decide_eq_false hn] at h
  exact absurd h (by decide)

/-- A scalar has one index. -/
instance : Subsingleton Cert.Pre_finite.S_.Idx := ⟨fun _ _ => funext fun a => a.elim0⟩

/-- The precondition says that the queries, the keys and the biases are reals. -/
theorem finite_args (x0 x1 x2 : FVec Ideal Cert.Pre_finite.S2x8192x8x64 .f32) (x3 : FVec Ideal Cert.Pre_finite.S1x8 .f32)
    (h : Cert.Pre_finite.fn (F := Ideal) x0 x1 x2 x3 = fun _ => 1#1) :
    (∀ x, x0 x = ((x0 x : EReal).toReal : EReal)) ∧ (∀ x, x1 x = ((x1 x : EReal).toReal : EReal))
      ∧ ∀ x, x3 x = ((x3 x : EReal).toReal : EReal) := by
  have hj := congrFun h (Shape.Idx.first Cert.Pre_finite.Gen.h_S_)
  dsimp only [Cert.Pre_finite.fn] at hj
  obtain ⟨h01, h3⟩ := IntOp.andi_eq_one.mp hj
  obtain ⟨h0, h1⟩ := IntOp.andi_eq_one.mp h01
  exact ⟨fun x => real_of_olt _ (Host.reduce_andi_all _ _ _ _ _ h0 x),
    fun x => real_of_olt _ (Host.reduce_andi_all _ _ _ _ _ h1 x),
    fun x => real_of_olt _ (Host.reduce_andi_all _ _ _ _ _ h3 x)⟩

/-- The two programs end with equal results, at the extended reals and from finite queries, keys and biases. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.Attn.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_main (F := Ideal) m g)
    obtain ⟨h0, h1, h3⟩ := finite_args _ _ _ _ (hpre c)
    refine ⟨?_, ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c)⟩
    exact ((h.1 c).1 4).trans (Cert.KernelIdeal.Hand.final m c h0 h1 h3)
  · refine (θ_run Cert.ReferenceIdeal.defs _ _).mono (fun r h c => ⟨?_, (h c).2⟩) (Cert.ReferenceIdeal.Value.run (F := Ideal) m' g')
    obtain ⟨h0, h1, h3⟩ := finite_args _ _ _ _ (hpre c)
    obtain ⟨e0, e1, e2, e3⟩ := hargs c
    refine ((h c).1.trans (Cert.ReferenceIdeal.Read.val_main_v25_eq m' c)).trans ?_
    rw [e0, e1, e2, e3]
    exact Cert.ReferenceIdeal.Hand.result_eq _ _ _ _ h0 h1 h3

end Cert.Value
-- ==== Proof.Proj.lean ====
/- What the projection call computes, token by token, and what its kernel takes at a point of its grid. -/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Proj

open Idealize.ShloMosaic

/-- What is added to a mean square before its root is taken. -/
abbrev eps : EReal := Ideal.ofBits .f32 0x358637BD#32

/-- The hidden activations of a token at a lane: the input over its root mean square, times the gain, scaled and
    shifted by the modulation of the token's batch entry. -/
def hid {B S : ℕ} (X : FVec Ideal ⟨3, ![B, S, 1024]⟩ .f32) (sc sh : FVec Ideal ⟨2, ![B, 1024]⟩ .f32) (g : FVec Ideal ⟨2, ![1, 1024]⟩ .f32)
    (b : Fin B) (i : Fin S) (k : Fin 1024) : EReal :=
  X (ix3 b i k) * Ideal.rsqrt (Ideal.div (∑ l : Fin 1024, X (ix3 b i l) * X (ix3 b i l)) (Ideal.ofBits .f32 0x44800000#32) + eps) * g (ix2 0 k)
    * (Ideal.ofBits .f32 0x3F800000#32 + sc (ix2 b k)) + sh (ix2 b k)

/-- A token's projection onto a column of the weights. -/
def lin {B S : ℕ} (X : FVec Ideal ⟨3, ![B, S, 1024]⟩ .f32) (sc sh : FVec Ideal ⟨2, ![B, 1024]⟩ .f32) (g : FVec Ideal ⟨2, ![1, 1024]⟩ .f32)
    (w : FVec Ideal ⟨3, ![1, 1024, 3592]⟩ .f32) (b : Fin B) (i : Fin S) (j : Fin 3592) : EReal :=
  ∑ k : Fin 1024, hid X sc sh g b i k * w (ix3 0 k j)

/-- The lane `d` of the head of lane `j`. -/
def lane (j : Fin 512) (d : Fin 64) : Fin 512 := ⟨64 * (j.val / 64) + d.val, by omega⟩

/-- A row of eight heads with each head over its root mean square, times the gain. -/
def headNorm (s : Fin 512 → EReal) (g : FVec Ideal ⟨3, ![1, 8, 64]⟩ .f32) (j : Fin 512) : EReal :=
  s j * Ideal.rsqrt (Ideal.div (∑ d : Fin 64, s (lane j d) * s (lane j d)) (Ideal.ofBits .f32 0x42800000#32) + eps)
    * g (ix3 0 ⟨j.val / 64, by omega⟩ ⟨j.val % 64, by omega⟩)

/-- A function of the batch entry, the position and the lane as an array of token rows. -/
def rows (f : Fin 2 → Fin 8192 → Fin 512 → EReal) : (⟨2, ![16384, 512]⟩ : Shape).Idx → EReal := fun x =>
  f ⟨(x 0).val / 8192, by have : (x 0).val < 16384 := (x 0).isLt; omega⟩ ⟨(x 0).val % 8192, by omega⟩ ⟨(x 1).val, (x 1).isLt⟩

/-- An array of token rows in blocks of 256 tokens, each block transposed. -/
def blocks (a : (⟨2, ![16384, 512]⟩ : Shape).Idx → EReal) : (⟨3, ![64, 512, 256]⟩ : Shape).Idx → EReal := fun x =>
  a (ix2 ⟨256 * (x 0).val + (x 2).val, by have : (x 0).val < 64 := (x 0).isLt; have : (x 2).val < 256 := (x 2).isLt; omega⟩
    ⟨(x 1).val, (x 1).isLt⟩)

section
variable {B S : ℕ} (X : FVec Ideal ⟨3, ![B, S, 1024]⟩ .f32) (sc sh : FVec Ideal ⟨2, ![B, 1024]⟩ .f32) (g : FVec Ideal ⟨2, ![1, 1024]⟩ .f32)
  (w : FVec Ideal ⟨3, ![1, 1024, 3592]⟩ .f32) (gq gk : FVec Ideal ⟨3, ![1, 8, 64]⟩ .f32) (b : Fin B) (i : Fin S) (j : Fin 512)

/-- The first mixer's queries. -/
def mq : EReal := lin X sc sh g w b i ⟨j.val, by omega⟩
/-- The first mixer's keys, scaled. -/
def mk : EReal := lin X sc sh g w b i ⟨512 + j.val, by omega⟩ * Ideal.ofBits .f32 0x3DB504F3#32
/-- The first mixer's values. -/
def mv : EReal := lin X sc sh g w b i ⟨1024 + j.val, by omega⟩
/-- The first mixer's output gate. -/
def og : EReal := Ideal.logistic (lin X sc sh g w b i ⟨1536 + j.val, by omega⟩)
/-- The second mixer's queries, normalized and scaled. -/
def qn : EReal := headNorm (fun l => lin X sc sh g w b i ⟨2056 + l.val, by omega⟩) gq j * ((8⁻¹ * (Real.log 2)⁻¹ : ℝ) : EReal)
/-- The second mixer's keys, normalized. -/
def ks : EReal := headNorm (fun l => lin X sc sh g w b i ⟨2568 + l.val, by omega⟩) gk j
/-- The second mixer's values. -/
def vs : EReal := lin X sc sh g w b i ⟨3080 + j.val, by omega⟩

end

/-- A sum over eight heads' lanes of terms kept at one head's: a sum over the head's lanes. -/
theorem sum_head (j : Fin 512) (f : Fin 512 → EReal) :
    (∑ l : Fin 512, f l * (if l.val / 64 = j.val / 64 then (1 : EReal) else 0)) = ∑ d : Fin 64, f (lane j d) := by
  rw [← Finset.sum_filter_of_ne (p := fun l : Fin 512 => l.val / 64 = j.val / 64)
    (fun l _ hl => by by_contra hc; rw [if_neg hc, mul_zero] at hl; exact hl rfl)]
  refine Finset.sum_nbij' (fun l => ⟨l.val % 64, Nat.mod_lt _ (by decide)⟩) (fun d => lane j d) ?_ ?_ ?_ ?_ ?_
  · intro l _
    exact Finset.mem_univ _
  · intro d _
    simp only [Finset.mem_filter, Finset.mem_univ, true_and, lane]
    omega
  · intro l hl
    simp only [Finset.mem_filter, Finset.mem_univ, true_and] at hl
    refine Fin.ext ?_
    show 64 * (j.val / 64) + l.val % 64 = l.val
    omega
  · intro d _
    refine Fin.ext ?_
    show (64 * (j.val / 64) + d.val) % 64 = d.val
    omega
  · intro l hl
    simp only [Finset.mem_filter, Finset.mem_univ, true_and] at hl
    rw [if_pos hl, mul_one]
    congr 1
    refine Fin.ext ?_
    show l.val = 64 * (j.val / 64) + l.val % 64
    omega

/-- The word of sixty-four. -/
theorem word_64 : Ideal.ofBits .f32 0x42800000#32 = ((64 : ℝ) : EReal) := by
  simp [Ideal.ofBits, Ideal.ieee]
  rw [← EReal.coe_mul]
  norm_num

/-- The word of one sixty-fourth. -/
theorem word_inv_64 : Ideal.ofBits .f32 0x3C800000#32 = ((1 / 64 : ℝ) : EReal) := by
  simp [Ideal.ofBits, Ideal.ieee]
  rw [← EReal.coe_mul]
  norm_num

/-- A sixty-fourth part is a quotient by sixty-four. -/
theorem mul_inv_64 (x : EReal) : x * Ideal.ofBits .f32 0x3C800000#32 = Ideal.div x (Ideal.ofBits .f32 0x42800000#32) := by
  rw [word_64, word_inv_64, Ideal.div_coe (by norm_num)]

end Cert.Proj

namespace Cert.Kernel2Ideal.Hand

open Idealize.ShloMosaic Idealize.ShloMosaic.TcCoe Idealize.SL.Sem
open Idealize.ShloMosaic.Pipeline (Dat)
open Cert.Kernel2Ideal Cert.Kernel2Ideal.Gen Cert.Proj

variable (m : (ℓ : Loc nD τ sig) → Buf (Elt Ideal) ℓ)

/-- The windows' block indices at a point. -/
theorem idx : ∀ t : Fin cfg0.N, win0_0.index t = ![t.val, 0] ∧ win0_1.index t = ![t.val / 16, 0, 0] ∧ win0_2.index t = ![t.val / 16, 0, 0]
    ∧ win0_3.index t = ![0, 0] ∧ win0_4.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![t.val, 0]
    ∧ win0_18.index t = ![t.val, 0] ∧ win0_20.index t = ![t.val, 0] ∧ win0_21.index t = ![t.val, 0]
    ∧ win0_19.index t = ![t.val, 0] ∧ win0_22.index t = ![t.val, 0, 0] :=
  (by decide +kernel : ∀ t : Fin grid0.N, _)

/-- The token at a row of a point. -/
def tb (t : Fin cfg0.N) : Fin 2 := ⟨t.val / 16, by have : t.val < 32 := t.isLt; omega⟩
/-- Its position in its batch entry. -/
def ti (t : Fin cfg0.N) (r : Fin 512) : Fin 8192 := ⟨512 * (t.val % 16) + r.val, by omega⟩

/-- The token rows as the kernel takes them. -/
theorem V_x (c : Dev nD) (n : Fin 16384) (k : Fin 1024) :
    V m c main_v20 (ix2 n k) = m ((c : Thread nD τ).loc main_arg0) (ix3 ⟨n.val / 8192, by omega⟩ ⟨n.val % 8192, by omega⟩ k) := by
  simp only [V, hostOps0, hostOps0_1, hostOps0_2, hostOps0_3, hostOps0_4, List.flatten_cons, List.flatten_nil, List.append_nil, List.cons_append, List.nil_append]
  entry_read
  pointwise

/-- The scale as the kernel takes it. -/
theorem V_sc (c : Dev nD) (b : Fin 2) (k : Fin 1024) :
    V m c main_v21 (ix3 b 0 k) = m ((c : Thread nD τ).loc main_arg1) (ix2 b k) := by
  simp only [V, hostOps0, hostOps0_1, hostOps0_2, hostOps0_3, hostOps0_4, List.flatten_cons, List.flatten_nil, List.append_nil, List.cons_append, List.nil_append]
  entry_read
  pointwise

/-- The shift as the kernel takes it. -/
theorem V_sh (c : Dev nD) (b : Fin 2) (k : Fin 1024) :
    V m c main_v22 (ix3 b 0 k) = m ((c : Thread nD τ).loc main_arg2) (ix2 b k) := by
  simp only [V, hostOps0, hostOps0_1, hostOps0_2, hostOps0_3, hostOps0_4, List.flatten_cons, List.flatten_nil, List.append_nil, List.cons_append, List.nil_append]
  entry_read
  pointwise

/-- A token row of a point's block. -/
theorem x_at (c : Dev nD) (t : Fin cfg0.N) (r : Fin 512) (k : Fin 1024) :
    iblk m c 0 t (ix2 r k) = m ((c : Thread nD τ).loc main_arg0) (ix3 (tb t) (ti t r) k) := by
  have ht : t.val < 32 := t.isLt
  unfold tb ti
  unfold iblk
  show V m c main_v20 ((win0_0.blk t).view.emb (ix2 r k)) = _
  rw [show (win0_0.blk t).view.emb (ix2 r k) = ix2 ⟨512 * t.val + r.val, by omega⟩ k from by blk_ext [idx t]; all_goals omega, V_x]
  congr 2
  · refine Fin.ext ?_
    show (512 * t.val + r.val) / 8192 = t.val / 16
    omega
  · refine Fin.ext ?_
    show (512 * t.val + r.val) % 8192 = 512 * (t.val % 16) + r.val
    omega

/-- The scale of a point's batch entry. -/
theorem sc_at (c : Dev nD) (t : Fin cfg0.N) (k : Fin 1024) :
    iblk m c 1 t (ix3 0 0 k) = m ((c : Thread nD τ).loc main_arg1) (ix2 (tb t) k) := by
  have ht : t.val < 32 := t.isLt
  show V m c main_v21 ((win0_1.blk t).view.emb (ix3 0 0 k)) = _
  rw [show (win0_1.blk t).view.emb (ix3 0 0 k) = ix3 (tb t) 0 k from by unfold tb; blk_ext [idx t], V_sc]

/-- The shift of a point's batch entry. -/
theorem sh_at (c : Dev nD) (t : Fin cfg0.N) (k : Fin 1024) :
    iblk m c 2 t (ix3 0 0 k) = m ((c : Thread nD τ).loc main_arg2) (ix2 (tb t) k) := by
  have ht : t.val < 32 := t.isLt
  show V m c main_v22 ((win0_2.blk t).view.emb (ix3 0 0 k)) = _
  rw [show (win0_2.blk t).view.emb (ix3 0 0 k) = ix3 (tb t) 0 k from by unfold tb; blk_ext [idx t], V_sh]

/-- The gain of the input's norm. -/
theorem g_at (c : Dev nD) (t : Fin cfg0.N) (k : Fin 1024) :
    iblk m c 3 t (ix2 0 k) = m ((c : Thread nD τ).loc main_arg3) (ix2 0 k) := by
  blk_point [iblk, V, idx t]

/-- The hidden activations of a point's block. -/
theorem hid_at (c : Dev nD) (t : Fin cfg0.N) (r : Fin 512) (k : Fin 1024) :
    k0_pay5 (iblk m c 0 t) (iblk m c 3 t) (iblk m c 1 t) (iblk m c 2 t) (ix2 r k)
      = hid (m ((c : Thread nD τ).loc main_arg0)) (m ((c : Thread nD τ).loc main_arg1)) (m ((c : Thread nD τ).loc main_arg2))
          (m ((c : Thread nD τ).loc main_arg3)) (tb t) (ti t r) k := by
  unfold hid
  simp only [← x_at m c t, ← sc_at m c t, ← sh_at m c t, ← g_at m c t]
  generalize iblk m c 0 t = x0
  generalize iblk m c 1 t = x1
  generalize iblk m c 2 t = x2
  generalize iblk m c 3 t = x3
  pointwise [k0_pay5]

/-- The weight matrix's columns as the kernel takes them. -/
theorem w_at (c : Dev nD) (t : Fin cfg0.N) (k : Fin 1024) (j : Fin 3584) :
    iblk m c 4 t (ix2 k j) = m ((c : Thread nD τ).loc main_arg4) (ix3 0 k ⟨if j.val < 2048 then j.val else j.val + 8, by split <;> omega⟩) := by
  blk_simp [iblk]
  rw [show (win0_4.blk t).view.emb (ix2 k j) = ix2 k j from by blk_ext [idx t]]
  simp only [V, hostOps0, hostOps0_1, hostOps0_2, hostOps0_3, hostOps0_4, List.flatten_cons, List.flatten_nil, List.append_nil, List.cons_append, List.nil_append]
  entry_read
  pointwise
  by_cases h : j.val < 2048
  · rw [dif_pos h]
    congr 2
    refine Fin.ext ?_
    show j.val = if j.val < 2048 then j.val else j.val + 8
    rw [if_pos h]
  · rw [dif_neg h]
    congr 2
    refine Fin.ext ?_
    show 2056 + (j.val - 2048) = if j.val < 2048 then j.val else j.val + 8
    rw [if_neg h]
    omega

/-- A lane's head, as the constant holds it. -/
theorem lit_at : ∀ k : Fin 512, lit0 k = BitVec.ofNat 32 (k.val / 64) := by
  decide +kernel

/-- A lane's head, read by the lane's place. -/
theorem head_at (k : Fin 512) : lit0 (S512.rowMajor (ix1 k)) = BitVec.ofNat 32 (k.val / 64) := by
  rw [show S512.rowMajor (ix1 k) = k from Fin.ext (Shape.rowMajor_val_one _)]
  exact lit_at k

/-- Whether two of the heads are the same, as a number. -/
theorem same_head : ∀ a b : Fin 8, IntOp.cmpi CmpIPredicate.eq (BitVec.ofNat 32 a.val) (BitVec.ofNat 32 b.val) = if a.val = b.val then 1#1 else 0#1 := by
  decide +kernel

/-- The matrix of the heads' own lanes. -/
theorem bd_at (c : Dev nD) (t : Fin cfg0.N) (k j : Fin 512) :
    iblk m c 11 t (ix2 k j) = if k.val / 64 = j.val / 64 then (1 : EReal) else 0 := by
  blk_simp [iblk]
  rw [show (win0_11.blk t).view.emb (ix2 k j) = ix2 k j from by blk_ext [idx t]]
  simp only [V, hostOps0, hostOps0_1, hostOps0_2, hostOps0_3, hostOps0_4, List.flatten_cons, List.flatten_nil, List.append_nil, List.cons_append, List.nil_append]
  entry_read
  pointwise
  erw [head_at, head_at]
  rw [same_head ⟨k.val / 64, by omega⟩ ⟨j.val / 64, by omega⟩]
  by_cases h : k.val / 64 = j.val / 64
  · rw [if_pos h, if_pos h]
    show (((1#1 : BitVec 1).toNat : ℝ) : EReal) = 1
    simp
  · rw [if_neg h, if_neg h]
    show (((0#1 : BitVec 1).toNat : ℝ) : EReal) = 0
    simp

/-- The queries' gains as the kernel takes them. -/
theorem gq_at (c : Dev nD) (t : Fin cfg0.N) (j : Fin 512) :
    iblk m c 9 t (ix2 0 j) = m ((c : Thread nD τ).loc main_arg6) (ix3 0 ⟨j.val / 64, by omega⟩ ⟨j.val % 64, by omega⟩) := by
  blk_simp [iblk]
  rw [show (win0_9.blk t).view.emb (ix2 0 j) = ix2 0 j from by blk_ext [idx t]]
  simp only [V, hostOps0, hostOps0_1, hostOps0_2, hostOps0_3, hostOps0_4, List.flatten_cons, List.flatten_nil, List.append_nil, List.cons_append, List.nil_append]
  entry_read
  pointwise

/-- The keys' gains as the kernel takes them. -/
theorem gk_at (c : Dev nD) (t : Fin cfg0.N) (j : Fin 512) :
    iblk m c 10 t (ix2 0 j) = m ((c : Thread nD τ).loc main_arg7) (ix3 0 ⟨j.val / 64, by omega⟩ ⟨j.val % 64, by omega⟩) := by
  blk_simp [iblk]
  rw [show (win0_10.blk t).view.emb (ix2 0 j) = ix2 0 j from by blk_ext [idx t]]
  simp only [V, hostOps0, hostOps0_1, hostOps0_2, hostOps0_3, hostOps0_4, List.flatten_cons, List.flatten_nil, List.append_nil, List.cons_append, List.nil_append]
  entry_read
  pointwise

end Cert.Kernel2Ideal.Hand
-- ==== Proof.ProjVal.lean ====
/- What the projection call leaves in its results at the extended reals: every element as the projection of its token. -/
module

public import proofs.«01_k».proof.Proof.Proj
public import proofs.«01_k».proof.Proof.Gen.Kernel2Ideal.Value

@[expose] public section

set_option maxRecDepth 16384

noncomputable section

namespace Cert.Kernel2Ideal.Hand

open Idealize.ShloMosaic Idealize.ShloMosaic.TcCoe Idealize.SL.Sem
open Idealize.ShloMosaic.Pipeline (Dat)
open Cert.Kernel2Ideal Cert.Kernel2Ideal.Gen Cert.Proj

/-- What `q_scale` stands for. -/
theorem named_q_scale :
    Named.named (F := Ideal) (φ := .f32) κ "q_scale" 0x3E38AA3B#32 = ((8⁻¹ * (Real.log 2)⁻¹ : ℝ) : EReal) :=
  IdealRules.named_const.ideal_named_scalar _ _ _ _ rfl

section
variable (x : Vec Ideal S512x1024 .f32) (g : Vec Ideal S1x1024 .f32) (sc sh : Vec Ideal S1x1x1024 .f32)
  (H : FVec Ideal S512x1024 .bf16) (w : Vec Ideal S1024x512 .bf16) (a b : FVec Ideal S512x512 .f32) (v : Vec Ideal S1x512 .f32)
  (bd : Vec Ideal S512x512 .bf16) (r : Fin 512) (j : Fin 512)

/-- The first stored block: a product. -/
theorem pay6_at : k0_pay6 x g sc sh w (ix2 r j) = ∑ k : Fin 1024, k0_pay5 x g sc sh (ix2 r k) * w (ix2 k j) := by
  unfold k0_pay6
  generalize k0_pay5 x g sc sh = H
  pointwise

/-- The second stored block's product. -/
theorem pay7_at : k0_pay7 x g sc sh w (ix2 r j) = ∑ k : Fin 1024, k0_pay5 x g sc sh (ix2 r k) * w (ix2 k j) := by
  unfold k0_pay7
  generalize k0_pay5 x g sc sh = H
  pointwise

/-- The second stored block: the product scaled. -/
theorem pay9_at : k0_pay9 a k0_pay8 (ix2 r j) = a (ix2 r j) * Ideal.ofBits .f32 0x3DB504F3#32 := by
  pointwise [k0_pay9, k0_pay8]

/-- The third stored block: a product. -/
theorem pay10_at : k0_pay10 H w (ix2 r j) = ∑ k : Fin 1024, H (ix2 r k) * w (ix2 k j) := by
  pointwise [k0_pay10]

/-- The fourth stored block: a logistic of a product. -/
theorem pay11_at : k0_pay11 H w (ix2 r j) = Ideal.logistic (∑ k : Fin 1024, H (ix2 r k) * w (ix2 k j)) := by
  pointwise [k0_pay11]

/-- The values' block: a product. -/
theorem pay24_at : k0_pay24 H w (ix2 r j) = ∑ k : Fin 1024, H (ix2 r k) * w (ix2 k j) := by
  pointwise [k0_pay24]

/-- The queries' block: a product normalized head by head, times the gain and the scale. -/
theorem pay19_at (s : Fin 512 → EReal) (hs : ∀ l, (∑ k : Fin 1024, H (ix2 r k) * w (ix2 k l)) = s l)
    (hb : ∀ k l : Fin 512, bd (ix2 k l) = if k.val / 64 = l.val / 64 then (1 : EReal) else 0)
    (gq : FVec Ideal ⟨3, ![1, 8, 64]⟩ .f32) (hv : ∀ l : Fin 512, v (ix2 0 l) = gq (ix3 0 ⟨l.val / 64, by omega⟩ ⟨l.val % 64, by omega⟩)) :
    k0_pay19 H w v bd (ix2 r j) = headNorm s gq j * ((8⁻¹ * (Real.log 2)⁻¹ : ℝ) : EReal) := by
  pointwise [k0_pay19]
  simp only [hs, hb, hv]
  rw [sum_head j (fun l => s l * s l), named_q_scale]
  rw [mul_inv_64]
  rfl

/-- The keys' block: a product normalized head by head, times the gain. -/
theorem pay22_at (s : Fin 512 → EReal) (hs : ∀ l, (∑ k : Fin 1024, H (ix2 r k) * w (ix2 k l)) = s l)
    (hb : ∀ k l : Fin 512, bd (ix2 k l) = if k.val / 64 = l.val / 64 then (1 : EReal) else 0)
    (gk : FVec Ideal ⟨3, ![1, 8, 64]⟩ .f32) (hv : ∀ l : Fin 512, v (ix2 0 l) = gk (ix3 0 ⟨l.val / 64, by omega⟩ ⟨l.val % 64, by omega⟩)) :
    k0_pay22 (k0_pay20 H w bd) (k0_pay21 v) (ix2 r j) = headNorm s gk j := by
  pointwise [k0_pay22, k0_pay20, k0_pay21]
  simp only [hs, hb, hv]
  rw [sum_head j (fun l => s l * s l)]
  rw [mul_inv_64]
  rfl

/-- The keys' block cast: the same numbers. -/
theorem pay23_at : k0_pay23 a b (ix2 r j) = k0_pay22 a b (ix2 r j) := by
  unfold k0_pay23
  generalize k0_pay22 a b = q
  pointwise

end

variable (m : (ℓ : Loc nD τ sig) → Buf (Elt Ideal) ℓ)

/-- The weights' columns from 0 on, as the kernel loads them. -/
theorem cols0 (c : Dev nD) (t : Fin cfg0.N) (k : Fin 1024) (j : Fin 512) :
    View.ld (iblk m c 4 t) r0_3 (ix2 k j) = m ((c : Thread nD τ).loc main_arg4) (ix3 0 k ⟨j.val, by omega⟩) := by
  have hj : j.val < 512 := j.isLt
  refine Eq.trans ?_ ((w_at m c t k ⟨j.val, by omega⟩).trans ?_)
  · show iblk m c 4 t (r0_3.emb (ix2 k j)) = _
    congr 1
    blk_ext
  · congr 2
    refine Fin.ext ?_
    show (if j.val < 2048 then j.val else j.val + 8) = j.val
    rw [if_pos (by omega)]

/-- The weights' columns from 512 on, as the kernel loads them. -/
theorem cols512 (c : Dev nD) (t : Fin cfg0.N) (k : Fin 1024) (j : Fin 512) :
    View.ld (iblk m c 4 t) r0_5 (ix2 k j) = m ((c : Thread nD τ).loc main_arg4) (ix3 0 k ⟨512 + j.val, by omega⟩) := by
  have hj : j.val < 512 := j.isLt
  refine Eq.trans ?_ ((w_at m c t k ⟨512 + j.val, by omega⟩).trans ?_)
  · show iblk m c 4 t (r0_5.emb (ix2 k j)) = _
    congr 1
    blk_ext
  · congr 2
    refine Fin.ext ?_
    show (if 512 + j.val < 2048 then 512 + j.val else 512 + j.val + 8) = 512 + j.val
    rw [if_pos (by omega)]

/-- The weights' columns from 1024 on, as the kernel loads them. -/
theorem cols1024 (c : Dev nD) (t : Fin cfg0.N) (k : Fin 1024) (j : Fin 512) :
    View.ld (iblk m c 4 t) r0_6 (ix2 k j) = m ((c : Thread nD τ).loc main_arg4) (ix3 0 k ⟨1024 + j.val, by omega⟩) := by
  have hj : j.val < 512 := j.isLt
  refine Eq.trans ?_ ((w_at m c t k ⟨1024 + j.val, by omega⟩).trans ?_)
  · show iblk m c 4 t (r0_6.emb (ix2 k j)) = _
    congr 1
    blk_ext
  · congr 2
    refine Fin.ext ?_
    show (if 1024 + j.val < 2048 then 1024 + j.val else 1024 + j.val + 8) = 1024 + j.val
    rw [if_pos (by omega)]

/-- The weights' columns from 1536 on, as the kernel loads them. -/
theorem cols1536 (c : Dev nD) (t : Fin cfg0.N) (k : Fin 1024) (j : Fin 512) :
    View.ld (iblk m c 4 t) r0_7 (ix2 k j) = m ((c : Thread nD τ).loc main_arg4) (ix3 0 k ⟨1536 + j.val, by omega⟩) := by
  have hj : j.val < 512 := j.isLt
  refine Eq.trans ?_ ((w_at m c t k ⟨1536 + j.val, by omega⟩).trans ?_)
  · show iblk m c 4 t (r0_7.emb (ix2 k j)) = _
    congr 1
    blk_ext
  · congr 2
    refine Fin.ext ?_
    show (if 1536 + j.val < 2048 then 1536 + j.val else 1536 + j.val + 8) = 1536 + j.val
    rw [if_pos (by omega)]

/-- The weights' columns from 2056 on, as the kernel loads them. -/
theorem cols2056 (c : Dev nD) (t : Fin cfg0.N) (k : Fin 1024) (j : Fin 512) :
    View.ld (iblk m c 4 t) r0_14 (ix2 k j) = m ((c : Thread nD τ).loc main_arg4) (ix3 0 k ⟨2056 + j.val, by omega⟩) := by
  have hj : j.val < 512 := j.isLt
  refine Eq.trans ?_ ((w_at m c t k ⟨2048 + j.val, by omega⟩).trans ?_)
  · show iblk m c 4 t (r0_14.emb (ix2 k j)) = _
    congr 1
    blk_ext
  · congr 2
    refine Fin.ext ?_
    show (if 2048 + j.val < 2048 then 2048 + j.val else 2048 + j.val + 8) = 2056 + j.val
    rw [if_neg (by omega)]
    omega

/-- The weights' columns from 2568 on, as the kernel loads them. -/
theorem cols2568 (c : Dev nD) (t : Fin cfg0.N) (k : Fin 1024) (j : Fin 512) :
    View.ld (iblk m c 4 t) r0_16 (ix2 k j) = m ((c : Thread nD τ).loc main_arg4) (ix3 0 k ⟨2568 + j.val, by omega⟩) := by
  have hj : j.val < 512 := j.isLt
  refine Eq.trans ?_ ((w_at m c t k ⟨2560 + j.val, by omega⟩).trans ?_)
  · show iblk m c 4 t (r0_16.emb (ix2 k j)) = _
    congr 1
    blk_ext
  · congr 2
    refine Fin.ext ?_
    show (if 2560 + j.val < 2048 then 2560 + j.val else 2560 + j.val + 8) = 2568 + j.val
    rw [if_neg (by omega)]
    omega

/-- The weights' columns from 3080 on, as the kernel loads them. -/
theorem cols3080 (c : Dev nD) (t : Fin cfg0.N) (k : Fin 1024) (j : Fin 512) :
    View.ld (iblk m c 4 t) r0_17 (ix2 k j) = m ((c : Thread nD τ).loc main_arg4) (ix3 0 k ⟨3080 + j.val, by omega⟩) := by
  have hj : j.val < 512 := j.isLt
  refine Eq.trans ?_ ((w_at m c t k ⟨3072 + j.val, by omega⟩).trans ?_)
  · show iblk m c 4 t (r0_17.emb (ix2 k j)) = _
    congr 1
    blk_ext
  · congr 2
    refine Fin.ext ?_
    show (if 3072 + j.val < 2048 then 3072 + j.val else 3072 + j.val + 8) = 3080 + j.val
    rw [if_neg (by omega)]
    omega

/-- A product with the hidden activations of a point's block. -/
theorem prod_at (c : Dev nD) (t : Fin cfg0.N) (w : Vec Ideal S1024x512 .bf16) (r j : Fin 512) (n : Fin 3592)
    (hw : ∀ k : Fin 1024, w (ix2 k j) = m ((c : Thread nD τ).loc main_arg4) (ix3 0 k n)) :
    (∑ k : Fin 1024, k0_pay5 (iblk m c 0 t) (iblk m c 3 t) (iblk m c 1 t) (iblk m c 2 t) (ix2 r k) * w (ix2 k j))
      = lin (m ((c : Thread nD τ).loc main_arg0)) (m ((c : Thread nD τ).loc main_arg1)) (m ((c : Thread nD τ).loc main_arg2))
          (m ((c : Thread nD τ).loc main_arg3)) (m ((c : Thread nD τ).loc main_arg4)) (tb t) (ti t r) n := by
  unfold lin
  exact Finset.sum_congr rfl fun k _ => by rw [hid_at, hw]

/-- An array of token rows at an element of a point's block. -/
theorem rows_at (f : Fin 2 → Fin 8192 → Fin 512 → EReal) (t : Fin cfg0.N) (x : S16384x512.Idx) (r j : Fin 512)
    (h0 : (x 0).val = t.val * 512 + r.val) (h1 : (x 1).val = j.val) : rows f x = f (tb t) (ti t r) j := by
  have ht : t.val < 32 := t.isLt
  have hr : r.val < 512 := r.isLt
  exact congr (congr (congrArg f (Fin.ext (by show (x 0).val / 8192 = t.val / 16; omega)))
    (Fin.ext (by show (x 0).val % 8192 = 512 * (t.val % 16) + r.val; omega))) (Fin.ext h1)

/-- The first mixer's queries after the run. -/
theorem final12 (c : Dev nD) : (dats m 0 c).arrAt 12 cfg0.N
    = rows (mq (m ((c : Thread nD τ).loc main_arg0)) (m ((c : Thread nD τ).loc main_arg1)) (m ((c : Thread nD τ).loc main_arg2))
          (m ((c : Thread nD τ).loc main_arg3)) (m ((c : Thread nD τ).loc main_arg4))) := by
  refine (dats m 0 c).arrAt_eq_of_covers 12 _ (by decide +kernel) fun t _ y => ?_
  blk_simp
  rw [after0_12]
  unfold_out out0_12
  frame_out
  have y0 : (y 0).val < 512 := (y 0).isLt
  have y1 : (y 1).val < 512 := (y 1).isLt
  have hy : y = ix2 (⟨(y 0).val, y0⟩ : Fin 512) (⟨(y 1).val, y1⟩ : Fin 512) := by
    funext a
    fin_cases a <;> rfl
  refine Eq.trans ?_ (rows_at _ t _ ⟨(y 0).val, y0⟩ ⟨(y 1).val, y1⟩ (by blk_simp [idx t]) (by blk_simp [idx t])).symm
  refine (congrArg _ hy).trans ?_
  exact (pay6_at _ _ _ _ _ _ _).trans (prod_at m c t _ _ _ _ fun k => cols0 m c t k _)

/-- The first mixer's keys after the run. -/
theorem final13 (c : Dev nD) : (dats m 0 c).arrAt 13 cfg0.N
    = rows (mk (m ((c : Thread nD τ).loc main_arg0)) (m ((c : Thread nD τ).loc main_arg1)) (m ((c : Thread nD τ).loc main_arg2))
          (m ((c : Thread nD τ).loc main_arg3)) (m ((c : Thread nD τ).loc main_arg4))) := by
  refine (dats m 0 c).arrAt_eq_of_covers 13 _ (by decide +kernel) fun t _ y => ?_
  blk_simp
  rw [after0_13]
  unfold_out out0_13
  frame_out
  have y0 : (y 0).val < 512 := (y 0).isLt
  have y1 : (y 1).val < 512 := (y 1).isLt
  have hy : y = ix2 (⟨(y 0).val, y0⟩ : Fin 512) (⟨(y 1).val, y1⟩ : Fin 512) := by
    funext a
    fin_cases a <;> rfl
  refine Eq.trans ?_ (rows_at _ t _ ⟨(y 0).val, y0⟩ ⟨(y 1).val, y1⟩ (by blk_simp [idx t]) (by blk_simp [idx t])).symm
  refine (congrArg _ hy).trans ?_
  exact (pay9_at _ _ _).trans (congrArg (· * Ideal.ofBits .f32 0x3DB504F3#32) ((pay7_at _ _ _ _ _ _ _).trans (prod_at m c t _ _ _ _ fun k => cols512 m c t k _)))

/-- The first mixer's values after the run. -/
theorem final14 (c : Dev nD) : (dats m 0 c).arrAt 14 cfg0.N
    = rows (mv (m ((c : Thread nD τ).loc main_arg0)) (m ((c : Thread nD τ).loc main_arg1)) (m ((c : Thread nD τ).loc main_arg2))
          (m ((c : Thread nD τ).loc main_arg3)) (m ((c : Thread nD τ).loc main_arg4))) := by
  refine (dats m 0 c).arrAt_eq_of_covers 14 _ (by decide +kernel) fun t _ y => ?_
  blk_simp
  rw [after0_14]
  unfold_out out0_14
  frame_out
  have y0 : (y 0).val < 512 := (y 0).isLt
  have y1 : (y 1).val < 512 := (y 1).isLt
  have hy : y = ix2 (⟨(y 0).val, y0⟩ : Fin 512) (⟨(y 1).val, y1⟩ : Fin 512) := by
    funext a
    fin_cases a <;> rfl
  refine Eq.trans ?_ (rows_at _ t _ ⟨(y 0).val, y0⟩ ⟨(y 1).val, y1⟩ (by blk_simp [idx t]) (by blk_simp [idx t])).symm
  refine (congrArg _ hy).trans ?_
  exact (pay10_at _ _ _ _).trans (prod_at m c t _ _ _ _ fun k => cols1024 m c t k _)

/-- The first mixer's output gate after the run. -/
theorem final15 (c : Dev nD) : (dats m 0 c).arrAt 15 cfg0.N
    = rows (og (m ((c : Thread nD τ).loc main_arg0)) (m ((c : Thread nD τ).loc main_arg1)) (m ((c : Thread nD τ).loc main_arg2))
          (m ((c : Thread nD τ).loc main_arg3)) (m ((c : Thread nD τ).loc main_arg4))) := by
  refine (dats m 0 c).arrAt_eq_of_covers 15 _ (by decide +kernel) fun t _ y => ?_
  blk_simp
  rw [after0_15]
  unfold_out out0_15
  frame_out
  have y0 : (y 0).val < 512 := (y 0).isLt
  have y1 : (y 1).val < 512 := (y 1).isLt
  have hy : y = ix2 (⟨(y 0).val, y0⟩ : Fin 512) (⟨(y 1).val, y1⟩ : Fin 512) := by
    funext a
    fin_cases a <;> rfl
  refine Eq.trans ?_ (rows_at _ t _ ⟨(y 0).val, y0⟩ ⟨(y 1).val, y1⟩ (by blk_simp [idx t]) (by blk_simp [idx t])).symm
  refine (congrArg _ hy).trans ?_
  exact (pay11_at _ _ _ _).trans (congrArg Ideal.logistic (prod_at m c t _ _ _ _ fun k => cols1536 m c t k _))

/-- The second mixer's queries after the run. -/
theorem final18 (c : Dev nD) : (dats m 0 c).arrAt 18 cfg0.N
    = rows (qn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6))) := by
  refine (dats m 0 c).arrAt_eq_of_covers 18 _ (by decide +kernel) fun t _ y => ?_
  blk_simp
  rw [after0_18]
  unfold_out out0_18
  frame_out
  have y0 : (y 0).val < 512 := (y 0).isLt
  have y1 : (y 1).val < 512 := (y 1).isLt
  have hy : y = ix2 (⟨(y 0).val, y0⟩ : Fin 512) (⟨(y 1).val, y1⟩ : Fin 512) := by
    funext a
    fin_cases a <;> rfl
  refine Eq.trans ?_ (rows_at _ t _ ⟨(y 0).val, y0⟩ ⟨(y 1).val, y1⟩ (by blk_simp [idx t]) (by blk_simp [idx t])).symm
  refine (congrArg _ hy).trans ?_
  exact pay19_at _ _ _ _ _ _ _ (fun l => prod_at m c t _ _ _ _ fun k => cols2056 m c t k _) (bd_at m c t) _ (gq_at m c t)

/-- The second mixer's keys after the run. -/
theorem final20 (c : Dev nD) : (dats m 0 c).arrAt 20 cfg0.N
    = rows (ks (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg7))) := by
  refine (dats m 0 c).arrAt_eq_of_covers 20 _ (by decide +kernel) fun t _ y => ?_
  blk_simp
  rw [after0_20]
  unfold_out out0_20
  frame_out
  have y0 : (y 0).val < 512 := (y 0).isLt
  have y1 : (y 1).val < 512 := (y 1).isLt
  have hy : y = ix2 (⟨(y 0).val, y0⟩ : Fin 512) (⟨(y 1).val, y1⟩ : Fin 512) := by
    funext a
    fin_cases a <;> rfl
  refine Eq.trans ?_ (rows_at _ t _ ⟨(y 0).val, y0⟩ ⟨(y 1).val, y1⟩ (by blk_simp [idx t]) (by blk_simp [idx t])).symm
  refine (congrArg _ hy).trans ?_
  exact pay22_at _ _ _ _ _ _ _ (fun l => prod_at m c t _ _ _ _ fun k => cols2568 m c t k _) (bd_at m c t) _ (gk_at m c t)

/-- The second mixer's values after the run. -/
theorem final21 (c : Dev nD) : (dats m 0 c).arrAt 21 cfg0.N
    = rows (vs (m ((c : Thread nD τ).loc main_arg0)) (m ((c : Thread nD τ).loc main_arg1)) (m ((c : Thread nD τ).loc main_arg2))
          (m ((c : Thread nD τ).loc main_arg3)) (m ((c : Thread nD τ).loc main_arg4))) := by
  refine (dats m 0 c).arrAt_eq_of_covers 21 _ (by decide +kernel) fun t _ y => ?_
  blk_simp
  rw [after0_21]
  unfold_out out0_21
  frame_out
  have y0 : (y 0).val < 512 := (y 0).isLt
  have y1 : (y 1).val < 512 := (y 1).isLt
  have hy : y = ix2 (⟨(y 0).val, y0⟩ : Fin 512) (⟨(y 1).val, y1⟩ : Fin 512) := by
    funext a
    fin_cases a <;> rfl
  refine Eq.trans ?_ (rows_at _ t _ ⟨(y 0).val, y0⟩ ⟨(y 1).val, y1⟩ (by blk_simp [idx t]) (by blk_simp [idx t])).symm
  refine (congrArg _ hy).trans ?_
  exact (pay24_at _ _ _ _).trans (prod_at m c t _ _ _ _ fun k => cols3080 m c t k _)

/-- The second mixer's keys after the run, in the cast form. -/
theorem final19 (c : Dev nD) : (dats m 0 c).arrAt 19 cfg0.N
    = rows (ks (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg7))) := by
  refine (dats m 0 c).arrAt_eq_of_covers 19 _ (by decide +kernel) fun t _ y => ?_
  blk_simp
  rw [after0_19]
  unfold_out out0_19
  frame_out
  have y0 : (y 0).val < 512 := (y 0).isLt
  have y1 : (y 1).val < 512 := (y 1).isLt
  have hy : y = ix2 (⟨(y 0).val, y0⟩ : Fin 512) (⟨(y 1).val, y1⟩ : Fin 512) := by
    funext a
    fin_cases a <;> rfl
  refine Eq.trans ?_ (rows_at _ t _ ⟨(y 0).val, y0⟩ ⟨(y 1).val, y1⟩ (by blk_simp [idx t]) (by blk_simp [idx t])).symm
  refine (congrArg _ hy).trans ?_
  exact (pay23_at _ _ _ _).trans (pay22_at _ _ _ _ _ _ _ (fun l => prod_at m c t _ _ _ _ fun k => cols2568 m c t k _) (bd_at m c t) _ (gk_at m c t))

/-- The second mixer's values after the run, transposed block by block. -/
theorem final22 (c : Dev nD) : (dats m 0 c).arrAt 22 cfg0.N
    = blocks (rows (vs (m ((c : Thread nD τ).loc main_arg0)) (m ((c : Thread nD τ).loc main_arg1)) (m ((c : Thread nD τ).loc main_arg2))
          (m ((c : Thread nD τ).loc main_arg3)) (m ((c : Thread nD τ).loc main_arg4)))) := by
  refine (dats m 0 c).arrAt_eq_of_covers 22 _ (by decide +kernel) fun t _ y => ?_
  blk_simp
  rw [after0_22]
  unfold_out out0_22
  frame_out
  have y0 : (y 0).val < 2 := (y 0).isLt
  have y1 : (y 1).val < 512 := (y 1).isLt
  have y2 : (y 2).val < 256 := (y 2).isLt
  refine Eq.trans (b := k0_pay24 (F := Ideal) (k0_pay5 (iblk m c 0 t) (iblk m c 3 t) (iblk m c 1 t) (iblk m c 2 t)) (View.ld (iblk m c 4 t) r0_17)
    (ix2 (⟨256 * (y 0).val + (y 2).val, by omega⟩ : Fin 512) (⟨(y 1).val, y1⟩ : Fin 512))) ?_ ?_
  · generalize k0_pay5 (iblk m c 0 t) (iblk m c 3 t) (iblk m c 1 t) (iblk m c 2 t) = H
    canon_tiles x h
    all_goals (open_payloads; pointwise; blk_ext)
  · unfold blocks
    refine Eq.trans ?_ (rows_at _ t _ (⟨256 * (y 0).val + (y 2).val, by omega⟩ : Fin 512) (⟨(y 1).val, y1⟩ : Fin 512) ?_ ?_).symm
    · exact (pay24_at _ _ _ _).trans (prod_at m c t _ _ _ _ fun k => cols3080 m c t k _)
    all_goals (blk_simp [idx t] <;> try (dsimp only; omega))

/-- The kernel ends with the projections of its arguments, which stay as they were. -/
theorem run_rows (ρ : Dev nD → PrngReg) :
    θ_run defs (onTc (τ := τ) (main (F := Ideal))) ⟨m, fun _ => 0, ρ⟩ fun r => ∀ c : Dev nD,
      r.2.mem ((c.tc : Thread nD τ).loc main_v27_0) = rows (mq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v27_1) = rows (mk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v27_2) = rows (mv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v27_3) = rows (og (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v27_6) = rows (qn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))) ∧
      r.2.mem ((c.tc : Thread nD τ).loc main_v27_8) = rows (ks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) ∧
      r.2.mem ((c.tc : Thread nD τ).loc main_v27_9) = rows (vs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v27_7) = rows (ks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) ∧
      r.2.mem ((c.tc : Thread nD τ).loc main_v27_10) = blocks (rows (vs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) :=
  (θ_run defs _ _).mono (fun r h c => ⟨(h c).1.trans (final12 m c),
    (h c).2.1.trans (final13 m c),
    (h c).2.2.1.trans (final14 m c),
    (h c).2.2.2.1.trans (final15 m c),
    (h c).2.2.2.2.2.2.1.trans (final18 m c),
    (h c).2.2.2.2.2.2.2.2.1.trans (final20 m c),
    (h c).2.2.2.2.2.2.2.2.2.1.trans (final21 m c),
    (h c).2.2.2.2.2.2.2.1.trans (final19 m c),
    (h c).2.2.2.2.2.2.2.2.2.2.1.trans (final22 m c),
    (h c).2.2.2.2.2.2.2.2.2.2.2⟩)
    (Cert.Kernel2Ideal.Value.run_blocks (F := Ideal) m ρ)

end Cert.Kernel2Ideal.Hand
-- ==== Proof.ProjRef.lean ====
/- The projection's reference at the extended reals, element by element. -/
module

public import proofs.«01_k».proof.Proof.Proj
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.Reference2Ideal.Hand

open Idealize.ShloMosaic Idealize.ShloMosaic.TcCoe Idealize.SL.Sem
open Cert.Reference2Ideal Cert.Reference2Ideal.Gen Cert.Reference2Ideal.Read Cert.Proj

variable (x0 : FVec Ideal S2x8192x1024 .f32) (x1 x2 : FVec Ideal S2x1024 .f32) (x3 : FVec Ideal S1x1024 .f32)
  (x4 : FVec Ideal S1x1024x3592 .f32) (x6 x7 : FVec Ideal S1x8x64 .f32) (b : Fin 2) (i : Fin 8192)

/-- The hidden activations. -/
theorem v21_at (k : Fin 1024) : val_main_v21 (F := Ideal) x0 x1 x2 x3 (ix3 b i k) = hid x0 x1 x2 x3 b i k := by
  unfold hid
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2]

/-- A projection onto a column. -/
theorem v23_at (j : Fin 3592) : val_main_v23 (F := Ideal) x0 x1 x2 x3 x4 (ix3 b i j) = lin x0 x1 x2 x3 x4 b i j := by
  have hv (k : Fin 1024) := v21_at x0 x1 x2 x3 b i k
  unfold lin
  simp only [← hv]
  unfold val_main_v23
  generalize val_main_v21 (F := Ideal) x0 x1 x2 x3 = h
  pointwise [val_main_v22]

/-- The second mixer's queries, normalized. -/
theorem v47_at (h : Fin 8) (e : Fin 64) : val_main_v47 (F := Ideal) x0 x1 x2 x3 x4 x6 (ix4 b i h e)
    = headNorm (fun l => lin x0 x1 x2 x3 x4 b i ⟨2056 + l.val, by omega⟩) x6 ⟨h.val * 64 + e.val, by omega⟩ := by
  have hv (j : Fin 3592) := v23_at x0 x1 x2 x3 x4 b i j
  have e1 : (h.val * 64 + e.val) / 64 = h.val := by omega
  have e2 : (h.val * 64 + e.val) % 64 = e.val := by omega
  have e3 (p : h.val * 64 + e.val < 512) (d : Fin 64) : (lane ⟨h.val * 64 + e.val, p⟩ d).val = h.val * 64 + d.val := by
    show 64 * ((h.val * 64 + e.val) / 64) + d.val = h.val * 64 + d.val
    omega
  unfold headNorm
  simp only [← hv, e1, e2, e3, Fin.eta]
  unfold val_main_v47 val_main_v44 val_main_v43 val_main_v42 val_main_v41 val_main_v39 val_main_v37 val_main_v36 val_main_v35 val_main_v33 val_main_v30
  generalize val_main_v23 (F := Ideal) x0 x1 x2 x3 x4 = s
  pointwise [val_main_v34, val_main_v38, val_main_v40, val_main_v45, val_main_v46, val_main_cst_3, val_main_cst_4, val_main_cst_5]

/-- The second mixer's keys, normalized. -/
theorem v62_at (h : Fin 8) (e : Fin 64) : val_main_v62 (F := Ideal) x0 x1 x2 x3 x4 x7 (ix4 b i h e)
    = headNorm (fun l => lin x0 x1 x2 x3 x4 b i ⟨2568 + l.val, by omega⟩) x7 ⟨h.val * 64 + e.val, by omega⟩ := by
  have hv (j : Fin 3592) := v23_at x0 x1 x2 x3 x4 b i j
  have e1 : (h.val * 64 + e.val) / 64 = h.val := by omega
  have e2 : (h.val * 64 + e.val) % 64 = e.val := by omega
  have e3 (p : h.val * 64 + e.val < 512) (d : Fin 64) : (lane ⟨h.val * 64 + e.val, p⟩ d).val = h.val * 64 + d.val := by
    show 64 * ((h.val * 64 + e.val) / 64) + d.val = h.val * 64 + d.val
    omega
  unfold headNorm
  simp only [← hv, e1, e2, e3, Fin.eta]
  unfold val_main_v62 val_main_v59 val_main_v58 val_main_v57 val_main_v56 val_main_v54 val_main_v52 val_main_v51 val_main_v50 val_main_v48 val_main_v31
  generalize val_main_v23 (F := Ideal) x0 x1 x2 x3 x4 = s
  pointwise [val_main_v49, val_main_v53, val_main_v55, val_main_v60, val_main_v61, val_main_cst_6, val_main_cst_7, val_main_cst_8]

/-- An array is one of token rows if it is so at every row and lane. -/
theorem eq_rows (v : S16384x512.Idx → EReal) (f : Fin 2 → Fin 8192 → Fin 512 → EReal)
    (h : ∀ (n : Fin 16384) (j : Fin 512), v (ix2 n j) = f ⟨n.val / 8192, by omega⟩ ⟨n.val % 8192, by omega⟩ j) : v = rows f := by
  funext x
  have hx : x = ix2 (⟨(x 0).val, (x 0).isLt⟩ : Fin 16384) (⟨(x 1).val, (x 1).isLt⟩ : Fin 512) := by
    funext a
    fin_cases a <;> rfl
  exact (congrArg v hx).trans (h _ _)

/-- The scale of the queries, as the reference takes it. -/
theorem scale_eq : Ideal.div (Ideal.ofBits .f32 0x3E000000#32) (Ideal.log (Ideal.ofBits .f32 0x40000000#32))
    = ((8⁻¹ * (Real.log 2)⁻¹ : ℝ) : EReal) := by
  have h2 : Ideal.ofBits .f32 0x40000000#32 = ((2 : ℝ) : EReal) := by
    simp [Ideal.ofBits, Ideal.ieee]
    rw [← EReal.coe_mul]
    norm_num
  have h8 : Ideal.ofBits .f32 0x3E000000#32 = ((8⁻¹ : ℝ) : EReal) := by
    simp [Ideal.ofBits, Ideal.ieee]
    rw [← EReal.coe_mul]
    norm_num
  rw [h2, h8, Ideal.log_coe, if_neg (by norm_num), Ideal.div_coe (Real.log_pos (by norm_num)).ne', ← EReal.coe_mul, one_div]

/-- The first mixer's queries. -/
theorem v64_eq : val_main_v64 (F := Ideal) x0 x1 x2 x3 x4 = rows (mq x0 x1 x2 x3 x4) := by
  refine eq_rows _ _ fun n j => ?_
  unfold val_main_v64 val_main_v63 val_main_v24 mq
  rw [← v23_at]
  generalize val_main_v23 (F := Ideal) x0 x1 x2 x3 x4 = s
  pointwise

/-- The first mixer's keys. -/
theorem v68_eq : val_main_v68 (F := Ideal) x0 x1 x2 x3 x4 = rows (mk x0 x1 x2 x3 x4) := by
  refine eq_rows _ _ fun n j => ?_
  unfold val_main_v68 val_main_v67 val_main_v66 val_main_v25 mk
  rw [← v23_at]
  generalize val_main_v23 (F := Ideal) x0 x1 x2 x3 x4 = s
  pointwise [val_main_v65, val_main_cst_9]

/-- The first mixer's values. -/
theorem v70_eq : val_main_v70 (F := Ideal) x0 x1 x2 x3 x4 = rows (mv x0 x1 x2 x3 x4) := by
  refine eq_rows _ _ fun n j => ?_
  unfold val_main_v70 val_main_v69 val_main_v26 mv
  rw [← v23_at]
  generalize val_main_v23 (F := Ideal) x0 x1 x2 x3 x4 = s
  pointwise

/-- The first mixer's output gate. -/
theorem v78_eq : val_main_v78 (F := Ideal) x0 x1 x2 x3 x4 = rows (og x0 x1 x2 x3 x4) := by
  refine eq_rows _ _ fun n j => ?_
  unfold val_main_v78 val_main_v77 val_main_v76 val_main_v74 val_main_v72 val_main_v71 val_main_v27 og
  rw [← v23_at]
  generalize val_main_v23 (F := Ideal) x0 x1 x2 x3 x4 = s
  pointwise [val_main_v73, val_main_v75, val_main_cst_10, val_main_cst_11, Ideal.logistic]

/-- The second mixer's values. -/
theorem v86_eq : val_main_v86 (F := Ideal) x0 x1 x2 x3 x4 = rows (vs x0 x1 x2 x3 x4) := by
  refine eq_rows _ _ fun n j => ?_
  unfold val_main_v86 val_main_v32 vs
  rw [← v23_at]
  generalize val_main_v23 (F := Ideal) x0 x1 x2 x3 x4 = s
  pointwise

/-- The second mixer's queries. -/
theorem v84_eq : val_main_v84 (F := Ideal) x0 x1 x2 x3 x4 x6 = rows (qn x0 x1 x2 x3 x4 x6) := by
  refine eq_rows _ _ fun n j => ?_
  have hj : j = ⟨j.val / 64 * 64 + j.val % 64, by omega⟩ := Fin.ext (by show j.val = j.val / 64 * 64 + j.val % 64; omega)
  have hs := v47_at x0 x1 x2 x3 x4 x6 ⟨n.val / 8192, by omega⟩ ⟨n.val % 8192, by omega⟩ ⟨j.val / 64, by omega⟩ ⟨j.val % 64, by omega⟩
  unfold val_main_v84 val_main_v83 val_main_v82 qn
  refine Eq.trans ?_ (congrArg (fun j => headNorm _ x6 j * ((8⁻¹ * (Real.log 2)⁻¹ : ℝ) : EReal)) hj).symm
  show _ = headNorm _ x6 _ * _
  rw [← hs, ← scale_eq]
  generalize val_main_v47 (F := Ideal) x0 x1 x2 x3 x4 x6 = s
  pointwise [val_main_v81, val_main_v80, val_main_v79, val_main_cst_12, val_main_cst_13]

/-- The second mixer's keys. -/
theorem v85_eq : val_main_v85 (F := Ideal) x0 x1 x2 x3 x4 x7 = rows (ks x0 x1 x2 x3 x4 x7) := by
  refine eq_rows _ _ fun n j => ?_
  have hj : j = ⟨j.val / 64 * 64 + j.val % 64, by omega⟩ := Fin.ext (by show j.val = j.val / 64 * 64 + j.val % 64; omega)
  have hs := v62_at x0 x1 x2 x3 x4 x7 ⟨n.val / 8192, by omega⟩ ⟨n.val % 8192, by omega⟩ ⟨j.val / 64, by omega⟩ ⟨j.val % 64, by omega⟩
  unfold val_main_v85 ks
  refine Eq.trans ?_ (congrArg (headNorm _ x7) hj).symm
  show _ = headNorm _ x7 _
  rw [← hs]
  generalize val_main_v62 (F := Ideal) x0 x1 x2 x3 x4 x7 = s
  pointwise

/-- The second mixer's keys, cast. -/
theorem v87_eq : val_main_v87 (F := Ideal) x0 x1 x2 x3 x4 x7 = rows (ks x0 x1 x2 x3 x4 x7) :=
  v85_eq x0 x1 x2 x3 x4 x7

/-- The second mixer's values, transposed block by block. -/
theorem v90_eq : val_main_v90 (F := Ideal) x0 x1 x2 x3 x4 = blocks (rows (vs x0 x1 x2 x3 x4)) := by
  rw [← v86_eq]
  unfold val_main_v90 val_main_v89 val_main_v88 blocks
  generalize val_main_v86 (F := Ideal) x0 x1 x2 x3 x4 = s
  funext x
  have q0 : (x 0).val < 64 := (x 0).isLt
  have q1 : (x 1).val < 512 := (x 1).isLt
  have q2 : (x 2).val < 256 := (x 2).isLt
  pointwise
  blk_ext

/-- The reference ends with the projections of its arguments, which stay as they were. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = rows (mq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v68) = rows (mk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v70) = rows (mv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v78) = rows (og (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v84) = rows (qn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))) ∧
      r.2.mem ((c.tc : Thread nD τ).loc main_v85) = rows (ks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) ∧
      r.2.mem ((c.tc : Thread nD τ).loc main_v86) = rows (vs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v87) = rows (ks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) ∧
      r.2.mem ((c.tc : Thread nD τ).loc main_v90) = blocks (rows (vs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) :=
  (θ_run defs _ _).mono (fun r h c => ⟨(((h c).1).trans (val_main_v64_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v64_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (((h c).2.1).trans (val_main_v68_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v68_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (((h c).2.2.1).trans (val_main_v70_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v70_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (((h c).2.2.2.1).trans (val_main_v78_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v78_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (((h c).2.2.2.2.1).trans (val_main_v84_eq m c)).trans (v84_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))),
    (((h c).2.2.2.2.2.1).trans (val_main_v85_eq m c)).trans (v85_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))),
    (((h c).2.2.2.2.2.2.1).trans (val_main_v86_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v86_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (((h c).2.2.2.2.2.2.2.1).trans (val_main_v87_eq m c)).trans (v87_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))),
    (((h c).2.2.2.2.2.2.2.2.1).trans (val_main_v90_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v90_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (h c).2.2.2.2.2.2.2.2.2⟩)
    (Cert.Reference2Ideal.Value.run (F := Ideal) m ρ)

end Cert.Reference2Ideal.Hand
-- ==== Proof.ProjValue.lean ====
/- The projection's value claim: the kernel with its constant named and the reference both end with the projections of
   the arguments. -/
module

public import proofs.«01_k».proof.Defs
public import proofs.«01_k».proof.Proof.ProjVal
public import proofs.«01_k».proof.Proof.ProjRef

@[expose] public section

set_option maxHeartbeats 1600000

noncomputable section

namespace Cert.ProjValue

open Idealize.ShloMosaic Idealize.ShloMosaic.TcCoe Idealize.SL.Sem

/-- The two programs end with equal results, at the extended reals. -/
theorem algebraic : Cert.algebraic_Kernel2Ideal_Reference2Ideal (hKernel2Ideal := Cert.Kernel2Ideal.Gen.facts)
    (hReference2Ideal := Cert.Reference2Ideal.Gen.facts) := by
  intro m g m' g' _ hargs
  exact ⟨fun c => Cert.Proj.rows (Cert.Proj.mq (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))),
    fun c => Cert.Proj.rows (Cert.Proj.mk (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))),
    fun c => Cert.Proj.rows (Cert.Proj.mv (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))),
    fun c => Cert.Proj.rows (Cert.Proj.og (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))),
    fun c => Cert.Proj.rows (Cert.Proj.qn (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg6))),
    fun c => Cert.Proj.rows (Cert.Proj.ks (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg7))),
    fun c => Cert.Proj.rows (Cert.Proj.vs (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))),
    fun c => Cert.Proj.rows (Cert.Proj.ks (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg7))),
    fun c => Cert.Proj.blocks (Cert.Proj.rows (Cert.Proj.vs (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)))),
    Cert.Kernel2Ideal.Hand.run_rows m g,
    (θ_run Cert.Reference2Ideal.defs _ _).mono (fun r h c => ⟨(h c).1.trans (by obtain ⟨e0, e1, e2, e3, e4, e5, e6, e7⟩ := hargs c; rw [e0, e1, e2, e3, e4]),
      (h c).2.1.trans (by obtain ⟨e0, e1, e2, e3, e4, e5, e6, e7⟩ := hargs c; rw [e0, e1, e2, e3, e4]),
      (h c).2.2.1.trans (by obtain ⟨e0, e1, e2, e3, e4, e5, e6, e7⟩ := hargs c; rw [e0, e1, e2, e3, e4]),
      (h c).2.2.2.1.trans (by obtain ⟨e0, e1, e2, e3, e4, e5, e6, e7⟩ := hargs c; rw [e0, e1, e2, e3, e4]),
      (h c).2.2.2.2.1.trans (by obtain ⟨e0, e1, e2, e3, e4, e5, e6, e7⟩ := hargs c; rw [e0, e1, e2, e3, e4, e6]),
      (h c).2.2.2.2.2.1.trans (by obtain ⟨e0, e1, e2, e3, e4, e5, e6, e7⟩ := hargs c; rw [e0, e1, e2, e3, e4, e7]),
      (h c).2.2.2.2.2.2.1.trans (by obtain ⟨e0, e1, e2, e3, e4, e5, e6, e7⟩ := hargs c; rw [e0, e1, e2, e3, e4]),
      (h c).2.2.2.2.2.2.2.1.trans (by obtain ⟨e0, e1, e2, e3, e4, e5, e6, e7⟩ := hargs c; rw [e0, e1, e2, e3, e4, e7]),
      (h c).2.2.2.2.2.2.2.2.1.trans (by obtain ⟨e0, e1, e2, e3, e4, e5, e6, e7⟩ := hargs c; rw [e0, e1, e2, e3, e4]),
      (h c).2.2.2.2.2.2.2.2.2⟩) (Cert.Reference2Ideal.Hand.run_rows m' g')⟩

end Cert.ProjValue
-- ==== Proof.Out.lean ====
/- What the output projection call computes, token by token, and what its kernel takes at a point of its grid. -/
module

public import proofs.«01_k».proof.Proof.Proj
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Out

open Idealize.ShloMosaic

/-- The row of a token. -/
def tok (b : Fin 2) (i : Fin 8192) : Fin 16384 := ⟨8192 * b.val + i.val, by omega⟩

section
variable (X : FVec Ideal ⟨3, ![2, 8192, 1024]⟩ .f32) (hm hs : FVec Ideal ⟨2, ![16384, 512]⟩ .f32) (ga sc sh : FVec Ideal ⟨2, ![2, 1024]⟩ .f32)
  (g : FVec Ideal ⟨2, ![1, 1024]⟩ .f32) (wo : FVec Ideal ⟨3, ![1, 1024, 1024]⟩ .f32) (wq : FVec Ideal ⟨3, ![1, 1024, 2048]⟩ .f32)
  (ka : FVec Ideal ⟨3, ![1, 128, 128]⟩ .f32) (b : Fin 2) (i : Fin 8192)

/-- The two mixers' results of a token through the output weights: the first mixer's lanes, then the second's. -/
def mix (k : Fin 1024) : EReal :=
  (∑ l : Fin 512, hm (ix2 (tok b i) l) * wo (ix3 0 ⟨l.val, by omega⟩ k)) + ∑ l : Fin 512, hs (ix2 (tok b i) l) * wo (ix3 0 ⟨512 + l.val, by omega⟩ k)

/-- The residual stream of a token after the mixers. -/
def res (k : Fin 1024) : EReal := X (ix3 b i k) + ga (ix2 b k) * mix hm hs wo b i k

/-- The residual stream as an array. -/
def resArr : FVec Ideal ⟨3, ![2, 8192, 1024]⟩ .f32 := fun x =>
  res X hm hs ga wo ⟨(x 0).val, (x 0).isLt⟩ ⟨(x 1).val, (x 1).isLt⟩ ⟨(x 2).val, (x 2).isLt⟩

/-- The feed-forward's hidden activations of a token. -/
def ffn (k : Fin 1024) : EReal := Cert.Proj.hid (resArr X hm hs ga wo) sc sh g b i k

/-- They are the residual stream over its root mean square, times the gain, scaled and shifted. -/
theorem ffn_eq (k : Fin 1024) : ffn X hm hs ga sc sh g wo b i k
    = res X hm hs ga wo b i k
        * Ideal.rsqrt (Ideal.div (∑ l : Fin 1024, res X hm hs ga wo b i l * res X hm hs ga wo b i l) (Ideal.ofBits .f32 0x44800000#32) + Cert.Proj.eps)
        * g (ix2 0 k) * (Ideal.ofBits .f32 0x3F800000#32 + sc (ix2 b k)) + sh (ix2 b k) := by
  have e : ∀ l : Fin 1024, resArr X hm hs ga wo (ix3 b i l) = res X hm hs ga wo b i l := fun l => rfl
  unfold ffn Cert.Proj.hid
  simp only [e]

/-- A token's product with a column of the query weights. -/
def qry (j : Fin 2048) : EReal := ∑ k : Fin 1024, ffn X hm hs ga sc sh g wo b i k * wq (ix3 0 k j)

/-- The score of a token at a head against a key, from the first (`s = 0`) or the second half of the head's query. -/
def score (s : Fin 2) (h : Fin 8) (a : Fin 128) : EReal :=
  ∑ d : Fin 128, ka (ix3 0 a d) * qry X hm hs ga sc sh g wo wq b i ⟨256 * h.val + 128 * s.val + d.val, by omega⟩

end

/-- A function of the batch entry, the position and the lane as an array of token rows. -/
def rows (f : Fin 2 → Fin 8192 → Fin 1024 → EReal) : (⟨2, ![16384, 1024]⟩ : Shape).Idx → EReal := fun x =>
  f ⟨(x 0).val / 8192, by have : (x 0).val < 16384 := (x 0).isLt; omega⟩ ⟨(x 0).val % 8192, by omega⟩ ⟨(x 1).val, (x 1).isLt⟩

/-- A function of the batch entry, the position, the head and the key as an array with the tokens last. -/
def lanes (f : Fin 2 → Fin 8192 → Fin 8 → Fin 128 → EReal) : (⟨3, ![8, 128, 16384]⟩ : Shape).Idx → EReal := fun x =>
  f ⟨(x 2).val / 8192, by have : (x 2).val < 16384 := (x 2).isLt; omega⟩ ⟨(x 2).val % 8192, by omega⟩ ⟨(x 0).val, (x 0).isLt⟩ ⟨(x 1).val, (x 1).isLt⟩

end Cert.Out

namespace Cert.Kernel3Ideal.Hand

open Idealize.ShloMosaic Idealize.ShloMosaic.TcCoe Idealize.SL.Sem
open Idealize.ShloMosaic.Pipeline (Dat)
open Cert.Kernel3Ideal Cert.Kernel3Ideal.Gen Cert.Out

variable (m : (ℓ : Loc nD τ sig) → Buf (Elt Ideal) ℓ)

/-- The windows' block indices at a point. -/
theorem idx : ∀ t : Fin cfg0.N, win0_0.index t = ![t.val, 0] ∧ win0_1.index t = ![t.val, 0] ∧ win0_2.index t = ![t.val, 0]
    ∧ win0_3.index t = ![t.val / 16, 0, 0] ∧ win0_4.index t = ![t.val / 16, 0, 0] ∧ win0_5.index t = ![t.val / 16, 0, 0]
    ∧ win0_6.index t = ![0, 0] ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![0, 0, t.val] ∧ win0_14.index t = ![0, 0, t.val] :=
  (by decide +kernel : ∀ t : Fin grid0.N, _)

/-- The batch entry of a point. -/
def tb (t : Fin cfg0.N) : Fin 2 := ⟨t.val / 16, by have : t.val < 32 := t.isLt; omega⟩
/-- The position in it of a row of a point. -/
def ti (t : Fin cfg0.N) (r : Fin 512) : Fin 8192 := ⟨512 * (t.val % 16) + r.val, by omega⟩

/-- The token rows as the kernel takes them. -/
theorem V_x (c : Dev nD) (n : Fin 16384) (k : Fin 1024) :
    V m c main_v0 (ix2 n k) = m ((c : Thread nD τ).loc main_arg0) (ix3 ⟨n.val / 8192, by omega⟩ ⟨n.val % 8192, by omega⟩ k) := by
  simp only [V, hostOps0, List.flatten_cons, List.flatten_nil, List.append_nil, List.cons_append, List.nil_append]
  entry_read
  pointwise

/-- The first mixer's rows as the kernel takes them. -/
theorem V_hm (c : Dev nD) (n : Fin 16384) (k : Fin 512) :
    V m c main_v1 (ix2 n k) = m ((c : Thread nD τ).loc main_arg1) (ix2 n k) := by
  simp only [V, hostOps0, List.flatten_cons, List.flatten_nil, List.append_nil, List.cons_append, List.nil_append]
  entry_read
  pointwise

/-- The second mixer's rows as the kernel takes them. -/
theorem V_hs (c : Dev nD) (n : Fin 16384) (k : Fin 512) :
    V m c main_v2 (ix2 n k) = m ((c : Thread nD τ).loc main_arg2) (ix2 n k) := by
  simp only [V, hostOps0, List.flatten_cons, List.flatten_nil, List.append_nil, List.cons_append, List.nil_append]
  entry_read
  pointwise

/-- The gate as the kernel takes it. -/
theorem V_ga (c : Dev nD) (b : Fin 2) (k : Fin 1024) :
    V m c main_v3 (ix3 b 0 k) = m ((c : Thread nD τ).loc main_arg3) (ix2 b k) := by
  simp only [V, hostOps0, List.flatten_cons, List.flatten_nil, List.append_nil, List.cons_append, List.nil_append]
  entry_read
  pointwise

/-- The scale as the kernel takes it. -/
theorem V_sc (c : Dev nD) (b : Fin 2) (k : Fin 1024) :
    V m c main_v4 (ix3 b 0 k) = m ((c : Thread nD τ).loc main_arg4) (ix2 b k) := by
  simp only [V, hostOps0, List.flatten_cons, List.flatten_nil, List.append_nil, List.cons_append, List.nil_append]
  entry_read
  pointwise

/-- The shift as the kernel takes it. -/
theorem V_sh (c : Dev nD) (b : Fin 2) (k : Fin 1024) :
    V m c main_v5 (ix3 b 0 k) = m ((c : Thread nD τ).loc main_arg5) (ix2 b k) := by
  simp only [V, hostOps0, List.flatten_cons, List.flatten_nil, List.append_nil, List.cons_append, List.nil_append]
  entry_read
  pointwise

/-- The output weights as the kernel takes them. -/
theorem V_wo (c : Dev nD) (k : Fin 1024) (j : Fin 1024) :
    V m c main_v7 (ix2 k j) = m ((c : Thread nD τ).loc main_arg7) (ix3 0 k j) := by
  simp only [V, hostOps0, List.flatten_cons, List.flatten_nil, List.append_nil, List.cons_append, List.nil_append]
  entry_read
  pointwise

/-- The query weights as the kernel takes them. -/
theorem V_wq (c : Dev nD) (k : Fin 1024) (j : Fin 2048) :
    V m c main_v9 (ix2 k j) = m ((c : Thread nD τ).loc main_arg8) (ix3 0 k j) := by
  simp only [V, hostOps0, List.flatten_cons, List.flatten_nil, List.append_nil, List.cons_append, List.nil_append]
  entry_read
  pointwise

/-- The first keys as the kernel takes them. -/
theorem V_ka (c : Dev nD) (k : Fin 128) (j : Fin 128) :
    V m c main_v11 (ix2 k j) = m ((c : Thread nD τ).loc main_arg9) (ix3 0 k j) := by
  simp only [V, hostOps0, List.flatten_cons, List.flatten_nil, List.append_nil, List.cons_append, List.nil_append]
  entry_read
  pointwise

/-- The second keys as the kernel takes them. -/
theorem V_kb (c : Dev nD) (k : Fin 128) (j : Fin 128) :
    V m c main_v13 (ix2 k j) = m ((c : Thread nD τ).loc main_arg10) (ix3 0 k j) := by
  simp only [V, hostOps0, List.flatten_cons, List.flatten_nil, List.append_nil, List.cons_append, List.nil_append]
  entry_read
  pointwise

/-- A token row of a point's block. -/
theorem x_at (c : Dev nD) (t : Fin cfg0.N) (r : Fin 512) (k : Fin 1024) :
    iblk m c 0 t (ix2 r k) = m ((c : Thread nD τ).loc main_arg0) (ix3 (tb t) (ti t r) k) := by
  have ht : t.val < 32 := t.isLt
  unfold tb ti
  unfold iblk
  show V m c main_v0 ((win0_0.blk t).view.emb (ix2 r k)) = _
  rw [show (win0_0.blk t).view.emb (ix2 r k) = ix2 ⟨512 * t.val + r.val, by omega⟩ k from by blk_ext [idx t]; all_goals omega, V_x]
  congr 2
  · refine Fin.ext ?_
    show (512 * t.val + r.val) / 8192 = t.val / 16
    omega
  · refine Fin.ext ?_
    show (512 * t.val + r.val) % 8192 = 512 * (t.val % 16) + r.val
    omega

/-- The first mixer's row of a token of a point's block. -/
theorem hm_at (c : Dev nD) (t : Fin cfg0.N) (r : Fin 512) (k : Fin 512) :
    iblk m c 1 t (ix2 r k) = m ((c : Thread nD τ).loc main_arg1) (ix2 (tok (tb t) (ti t r)) k) := by
  have ht : t.val < 32 := t.isLt
  unfold tok tb ti
  unfold iblk
  show V m c main_v1 ((win0_1.blk t).view.emb (ix2 r k)) = _
  rw [show (win0_1.blk t).view.emb (ix2 r k) = ix2 ⟨512 * t.val + r.val, by omega⟩ k from by blk_ext [idx t]; all_goals omega, V_hm]
  congr 2
  refine Fin.ext ?_
  show 512 * t.val + r.val = 8192 * (t.val / 16) + (512 * (t.val % 16) + r.val)
  omega

/-- The second mixer's row of a token of a point's block. -/
theorem hs_at (c : Dev nD) (t : Fin cfg0.N) (r : Fin 512) (k : Fin 512) :
    iblk m c 2 t (ix2 r k) = m ((c : Thread nD τ).loc main_arg2) (ix2 (tok (tb t) (ti t r)) k) := by
  have ht : t.val < 32 := t.isLt
  unfold tok tb ti
  unfold iblk
  show V m c main_v2 ((win0_2.blk t).view.emb (ix2 r k)) = _
  rw [show (win0_2.blk t).view.emb (ix2 r k) = ix2 ⟨512 * t.val + r.val, by omega⟩ k from by blk_ext [idx t]; all_goals omega, V_hs]
  congr 2
  refine Fin.ext ?_
  show 512 * t.val + r.val = 8192 * (t.val / 16) + (512 * (t.val % 16) + r.val)
  omega

/-- The gate of a point's batch entry. -/
theorem ga_at (c : Dev nD) (t : Fin cfg0.N) (k : Fin 1024) :
    iblk m c 3 t (ix3 0 0 k) = m ((c : Thread nD τ).loc main_arg3) (ix2 (tb t) k) := by
  have ht : t.val < 32 := t.isLt
  show V m c main_v3 ((win0_3.blk t).view.emb (ix3 0 0 k)) = _
  rw [show (win0_3.blk t).view.emb (ix3 0 0 k) = ix3 (tb t) 0 k from by unfold tb; blk_ext [idx t], V_ga]

/-- The scale of a point's batch entry. -/
theorem sc_at (c : Dev nD) (t : Fin cfg0.N) (k : Fin 1024) :
    iblk m c 4 t (ix3 0 0 k) = m ((c : Thread nD τ).loc main_arg4) (ix2 (tb t) k) := by
  have ht : t.val < 32 := t.isLt
  show V m c main_v4 ((win0_4.blk t).view.emb (ix3 0 0 k)) = _
  rw [show (win0_4.blk t).view.emb (ix3 0 0 k) = ix3 (tb t) 0 k from by unfold tb; blk_ext [idx t], V_sc]

/-- The shift of a point's batch entry. -/
theorem sh_at (c : Dev nD) (t : Fin cfg0.N) (k : Fin 1024) :
    iblk m c 5 t (ix3 0 0 k) = m ((c : Thread nD τ).loc main_arg5) (ix2 (tb t) k) := by
  have ht : t.val < 32 := t.isLt
  show V m c main_v5 ((win0_5.blk t).view.emb (ix3 0 0 k)) = _
  rw [show (win0_5.blk t).view.emb (ix3 0 0 k) = ix3 (tb t) 0 k from by unfold tb; blk_ext [idx t], V_sh]

/-- The gain of the feed-forward's norm. -/
theorem g_at (c : Dev nD) (t : Fin cfg0.N) (k : Fin 1024) :
    iblk m c 6 t (ix2 0 k) = m ((c : Thread nD τ).loc main_arg6) (ix2 0 k) := by
  blk_point [iblk, V, idx t]

/-- The output weights of a point. -/
theorem wo_at (c : Dev nD) (t : Fin cfg0.N) (k : Fin 1024) (j : Fin 1024) :
    iblk m c 7 t (ix2 k j) = m ((c : Thread nD τ).loc main_arg7) (ix3 0 k j) := by
  show V m c main_v7 ((win0_7.blk t).view.emb (ix2 k j)) = _
  rw [show (win0_7.blk t).view.emb (ix2 k j) = ix2 k j from by blk_ext [idx t], V_wo]

/-- The query weights of a point. -/
theorem wq_at (c : Dev nD) (t : Fin cfg0.N) (k : Fin 1024) (j : Fin 2048) :
    iblk m c 8 t (ix2 k j) = m ((c : Thread nD τ).loc main_arg8) (ix3 0 k j) := by
  show V m c main_v9 ((win0_8.blk t).view.emb (ix2 k j)) = _
  rw [show (win0_8.blk t).view.emb (ix2 k j) = ix2 k j from by blk_ext [idx t], V_wq]

/-- The first keys of a point. -/
theorem ka_at (c : Dev nD) (t : Fin cfg0.N) (k : Fin 128) (j : Fin 128) :
    iblk m c 9 t (ix2 k j) = m ((c : Thread nD τ).loc main_arg9) (ix3 0 k j) := by
  show V m c main_v11 ((win0_9.blk t).view.emb (ix2 k j)) = _
  rw [show (win0_9.blk t).view.emb (ix2 k j) = ix2 k j from by blk_ext [idx t], V_ka]

/-- The second keys of a point. -/
theorem kb_at (c : Dev nD) (t : Fin cfg0.N) (k : Fin 128) (j : Fin 128) :
    iblk m c 10 t (ix2 k j) = m ((c : Thread nD τ).loc main_arg10) (ix3 0 k j) := by
  show V m c main_v13 ((win0_10.blk t).view.emb (ix2 k j)) = _
  rw [show (win0_10.blk t).view.emb (ix2 k j) = ix2 k j from by blk_ext [idx t], V_kb]

end Cert.Kernel3Ideal.Hand
-- ==== Proof.OutVal.lean ====
/- What the output projection call leaves in its results at the extended reals, element by element. -/
module

public import proofs.«01_k».proof.Proof.Out
public import proofs.«01_k».proof.Proof.Gen.Kernel3Ideal.Value

@[expose] public section

set_option maxRecDepth 16384

noncomputable section

namespace Cert.Kernel3Ideal.Hand

open Idealize.ShloMosaic Idealize.ShloMosaic.TcCoe Idealize.SL.Sem
open Idealize.ShloMosaic.Pipeline (Dat)
open Cert.Kernel3Ideal Cert.Kernel3Ideal.Gen Cert.Out

section
variable (p q : Vec Ideal S512x512 .bf16) (u v : Vec Ideal S512x1024 .bf16) (x : Vec Ideal S512x1024 .f32) (ga sc sh : Vec Ideal S1x1x1024 .f32)
  (g : Vec Ideal S1x1024 .f32) (s : FVec Ideal S512x1024 .f32) (H : FVec Ideal S512x1024 .bf16) (w : Vec Ideal S1024x128 .bf16)
  (ka : Vec Ideal S128x128 .bf16) (r : Fin 512) (k : Fin 1024) (a : Fin 128)

/-- The first stored block: the residual stream. -/
theorem pay3_at : k0_pay3 p u q v x ga (ix2 r k)
    = x (ix2 r k) + ga (ix3 0 0 k) * ((∑ l : Fin 512, p (ix2 r l) * u (ix2 l k)) + ∑ l : Fin 512, q (ix2 r l) * v (ix2 l k)) := by
  pointwise [k0_pay3]

/-- The second stored block: the residual stream over its root mean square, times the gain, scaled and shifted. -/
theorem pay5_at : k0_pay5 (k0_pay4 p u q v x ga g) sc sh (ix2 r k)
    = k0_pay3 p u q v x ga (ix2 r k) * Ideal.rsqrt (Ideal.div (∑ l : Fin 1024, k0_pay3 p u q v x ga (ix2 r l) * k0_pay3 p u q v x ga (ix2 r l))
        (Ideal.ofBits .f32 0x44800000#32) + Cert.Proj.eps) * g (ix2 0 k)
      * (Ideal.ofBits .f32 0x3F800000#32 + sc (ix3 0 0 k)) + sh (ix3 0 0 k) := by
  unfold k0_pay4
  generalize k0_pay3 p u q v x ga = s
  pointwise [k0_pay5]

/-- The same with the residual stream's values given. -/
theorem pay5_of (z : Fin 1024 → EReal) (hz : ∀ l, k0_pay3 p u q v x ga (ix2 r l) = z l) : k0_pay5 (k0_pay4 p u q v x ga g) sc sh (ix2 r k)
    = z k * Ideal.rsqrt (Ideal.div (∑ l : Fin 1024, z l * z l) (Ideal.ofBits .f32 0x44800000#32) + Cert.Proj.eps) * g (ix2 0 k)
      * (Ideal.ofBits .f32 0x3F800000#32 + sc (ix3 0 0 k)) + sh (ix3 0 0 k) := by
  rw [pay5_at]
  simp only [hz]

/-- The scores of the rows against the keys at one half of a head's query. -/
def sco : EReal := ∑ d : Fin 128, ka (ix2 a d) * ∑ k : Fin 1024, H (ix2 r k) * w (ix2 k d)

theorem pay1_at : k0_pay1 H w ka (ix3 0 a r) = sco H w ka r a := by
  unfold sco
  pointwise [k0_pay1]

theorem pay2_at : k0_pay2 H w ka (ix3 0 a r) = sco H w ka r a := by
  unfold sco
  pointwise [k0_pay2]

theorem pay8_at : k0_pay8 H w ka (ix3 0 a r) = sco H w ka r a := by
  unfold sco
  pointwise [k0_pay8]

theorem pay9_at : k0_pay9 H w ka (ix3 0 a r) = sco H w ka r a := by
  unfold sco
  pointwise [k0_pay9]

theorem pay14_at : k0_pay14 H w ka (ix3 0 a r) = sco H w ka r a := by
  unfold sco
  pointwise [k0_pay14]

theorem pay15_at : k0_pay15 H w ka (ix3 0 a r) = sco H w ka r a := by
  unfold sco
  pointwise [k0_pay15]

theorem pay16_at : k0_pay16 H w ka (ix3 0 a r) = sco H w ka r a := by
  unfold sco
  pointwise [k0_pay16]

theorem pay17_at : k0_pay17 H w ka (ix3 0 a r) = sco H w ka r a := by
  unfold sco
  pointwise [k0_pay17]

theorem pay22_at : k0_pay22 H w ka (ix3 0 a r) = sco H w ka r a := by
  unfold sco
  pointwise [k0_pay22]

theorem pay23_at : k0_pay23 H w ka (ix3 0 a r) = sco H w ka r a := by
  unfold sco
  pointwise [k0_pay23]

theorem pay6_at : k0_pay6 s sc sh w ka (ix3 0 a r) = sco (k0_pay5 s sc sh) w ka r a := by
  unfold sco k0_pay6
  generalize k0_pay5 s sc sh = H
  pointwise

theorem pay7_at : k0_pay7 s sc sh w ka (ix3 0 a r) = sco (k0_pay5 s sc sh) w ka r a := by
  unfold sco k0_pay7
  generalize k0_pay5 s sc sh = H
  pointwise

theorem pay12_at : k0_pay12 (k0_pay11 H w ka) (ix3 0 a r) = sco H w ka r a := by
  unfold sco
  pointwise [k0_pay12, k0_pay11]

theorem pay20_at : k0_pay20 (k0_pay19 H w ka) (ix3 0 a r) = sco H w ka r a := by
  unfold sco
  pointwise [k0_pay20, k0_pay19]

theorem pay13_at : k0_pay13 (k0_pay10 H w) ka (ix3 0 a r) = sco H w ka r a := by
  unfold sco
  pointwise [k0_pay13, k0_pay10]

theorem pay21_at : k0_pay21 (k0_pay18 H w) ka (ix3 0 a r) = sco H w ka r a := by
  unfold sco
  pointwise [k0_pay21, k0_pay18]

end

variable (m : (ℓ : Loc nD τ sig) → Buf (Elt Ideal) ℓ)

/-- The residual stream of a point's block. -/
theorem res_at (c : Dev nD) (t : Fin cfg0.N) (r : Fin 512) (k : Fin 1024) :
    k0_pay3 (View.ld (iblk m c 1 t) r0_0) (View.ld (iblk m c 7 t) r0_1) (View.ld (iblk m c 2 t) r0_0) (View.ld (iblk m c 7 t) r0_2)
        (View.ld (iblk m c 0 t) r0_3) (View.ld (iblk m c 3 t) r0_4) (ix2 r k)
      = res (m ((c : Thread nD τ).loc main_arg0)) (m ((c : Thread nD τ).loc main_arg1)) (m ((c : Thread nD τ).loc main_arg2))
          (m ((c : Thread nD τ).loc main_arg3)) (m ((c : Thread nD τ).loc main_arg7)) (tb t) (ti t r) k := by
  have e0 : ∀ l : Fin 512, View.ld (iblk m c 1 t) r0_0 (ix2 r l) = iblk m c 1 t (ix2 r l) := fun l => by
    show iblk m c 1 t (r0_0.emb (ix2 r l)) = _
    congr 1
    blk_ext
  have e1 : ∀ l : Fin 512, View.ld (iblk m c 2 t) r0_0 (ix2 r l) = iblk m c 2 t (ix2 r l) := fun l => by
    show iblk m c 2 t (r0_0.emb (ix2 r l)) = _
    congr 1
    blk_ext
  have e2 : ∀ l : Fin 512, View.ld (iblk m c 7 t) r0_1 (ix2 l k) = iblk m c 7 t (ix2 ⟨l.val, by omega⟩ k) := fun l => by
    show iblk m c 7 t (r0_1.emb (ix2 l k)) = _
    congr 1
    blk_ext
  have e3 : ∀ l : Fin 512, View.ld (iblk m c 7 t) r0_2 (ix2 l k) = iblk m c 7 t (ix2 ⟨512 + l.val, by omega⟩ k) := fun l => by
    show iblk m c 7 t (r0_2.emb (ix2 l k)) = _
    congr 1
    blk_ext
  have e4 : View.ld (iblk m c 0 t) r0_3 (ix2 r k) = iblk m c 0 t (ix2 r k) := by
    show iblk m c 0 t (r0_3.emb (ix2 r k)) = _
    congr 1
    blk_ext
  have e5 : View.ld (iblk m c 3 t) r0_4 (ix3 0 0 k) = iblk m c 3 t (ix3 0 0 k) := by
    show iblk m c 3 t (r0_4.emb (ix3 0 0 k)) = _
    congr 1
    blk_ext
  refine (pay3_at _ _ _ _ _ _ _ _).trans ?_
  unfold res mix
  refine congrArg₂ (· + ·) (e4.trans (x_at m c t r k)) (congrArg₂ (· * ·) (e5.trans (ga_at m c t k)) (congrArg₂ (· + ·) ?_ ?_))
  · exact Finset.sum_congr rfl fun l _ => congrArg₂ (· * ·) ((e0 l).trans (hm_at m c t r l)) ((e2 l).trans (wo_at m c t _ k))
  · exact Finset.sum_congr rfl fun l _ => congrArg₂ (· * ·) ((e1 l).trans (hs_at m c t r l)) ((e3 l).trans (wo_at m c t _ k))

/-- The feed-forward's hidden activations of a point's block, before they are scaled and shifted. -/
abbrev pre (c : Dev nD) (t : Fin cfg0.N) : FVec Ideal S512x1024 .f32 :=
  k0_pay24 (iblk m c 0 t) (iblk m c 1 t) (iblk m c 2 t) (iblk m c 3 t) (iblk m c 4 t) (iblk m c 5 t) (iblk m c 6 t) (iblk m c 7 t)
    (iblk m c 8 t) (iblk m c 9 t) (iblk m c 10 t)

/-- The feed-forward's hidden activations of a point's block. -/
theorem ffn_at (c : Dev nD) (t : Fin cfg0.N) (r : Fin 512) (k : Fin 1024) :
    k0_pay5 (pre m c t) (View.ld (iblk m c 4 t) r0_4) (View.ld (iblk m c 5 t) r0_4) (ix2 r k)
      = ffn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (tb t) (ti t r) k := by
  unfold pre k0_pay24
  refine (pay5_of _ _ _ _ _ _ _ _ _ _ _ _ (res_at m c t r)).trans ?_
  have e4 : View.ld (iblk m c 4 t) r0_4 (ix3 0 0 k) = iblk m c 4 t (ix3 0 0 k) := by
    show iblk m c 4 t (r0_4.emb (ix3 0 0 k)) = _
    congr 1
    blk_ext
  have e5 : View.ld (iblk m c 5 t) r0_4 (ix3 0 0 k) = iblk m c 5 t (ix3 0 0 k) := by
    show iblk m c 5 t (r0_4.emb (ix3 0 0 k)) = _
    congr 1
    blk_ext
  have e6 : View.ld (iblk m c 6 t) r0_5 (ix2 0 k) = iblk m c 6 t (ix2 0 k) := by
    show iblk m c 6 t (r0_5.emb (ix2 0 k)) = _
    congr 1
    blk_ext
  rw [e4, e5, e6, sc_at, sh_at, g_at, ffn_eq]

/-- An array of token rows at an element of a point's block. -/
theorem rows_at (f : Fin 2 → Fin 8192 → Fin 1024 → EReal) (t : Fin cfg0.N) (x : S16384x1024.Idx) (r : Fin 512) (j : Fin 1024)
    (h0 : (x 0).val = t.val * 512 + r.val) (h1 : (x 1).val = j.val) : rows f x = f (tb t) (ti t r) j := by
  have ht : t.val < 32 := t.isLt
  have hr : r.val < 512 := r.isLt
  exact congr (congr (congrArg f (Fin.ext (by show (x 0).val / 8192 = t.val / 16; omega)))
    (Fin.ext (by show (x 0).val % 8192 = 512 * (t.val % 16) + r.val; omega))) (Fin.ext h1)

/-- An array with the tokens last at an element of a point's block. -/
theorem lanes_at (f : Fin 2 → Fin 8192 → Fin 8 → Fin 128 → EReal) (t : Fin cfg0.N) (x : S8x128x16384.Idx) (h : Fin 8) (a : Fin 128) (r : Fin 512)
    (h0 : (x 0).val = h.val) (h1 : (x 1).val = a.val) (h2 : (x 2).val = t.val * 512 + r.val) : lanes f x = f (tb t) (ti t r) h a := by
  have ht : t.val < 32 := t.isLt
  have hr : r.val < 512 := r.isLt
  exact congr (congr (congr (congrArg f (Fin.ext (by show (x 2).val / 8192 = t.val / 16; omega)))
    (Fin.ext (by show (x 2).val % 8192 = 512 * (t.val % 16) + r.val; omega))) (Fin.ext h0)) (Fin.ext h1)

/-- The residual stream after the run. -/
theorem final11 (c : Dev nD) : (dats m 0 c).arrAt 11 cfg0.N
    = rows (res (m ((c : Thread nD τ).loc main_arg0)) (m ((c : Thread nD τ).loc main_arg1)) (m ((c : Thread nD τ).loc main_arg2))
          (m ((c : Thread nD τ).loc main_arg3)) (m ((c : Thread nD τ).loc main_arg7))) := by
  refine (dats m 0 c).arrAt_eq_of_covers 11 _ (by decide +kernel) fun t _ y => ?_
  blk_simp
  rw [after0_11]
  unfold out0_11
  have y0 : (y 0).val < 512 := (y 0).isLt
  have y1 : (y 1).val < 1024 := (y 1).isLt
  have hy : y = ix2 (⟨(y 0).val, y0⟩ : Fin 512) (⟨(y 1).val, y1⟩ : Fin 1024) := by
    funext a
    fin_cases a <;> rfl
  refine Eq.trans ?_ (rows_at _ t _ ⟨(y 0).val, y0⟩ ⟨(y 1).val, y1⟩ (by blk_simp [idx t]) (by blk_simp [idx t])).symm
  refine Eq.trans ?_ (res_at m c t _ _)
  refine Eq.trans ?_ (congrArg _ hy)
  generalize k0_pay3 (F := Ideal) _ _ _ _ _ _ = s
  frame_out

/-- The feed-forward's hidden activations after the run. -/
theorem final12 (c : Dev nD) : (dats m 0 c).arrAt 12 cfg0.N
    = rows (ffn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))) := by
  refine (dats m 0 c).arrAt_eq_of_covers 12 _ (by decide +kernel) fun t _ y => ?_
  blk_simp
  rw [after0_12]
  unfold out0_12
  have y0 : (y 0).val < 512 := (y 0).isLt
  have y1 : (y 1).val < 1024 := (y 1).isLt
  have hy : y = ix2 (⟨(y 0).val, y0⟩ : Fin 512) (⟨(y 1).val, y1⟩ : Fin 1024) := by
    funext a
    fin_cases a <;> rfl
  refine Eq.trans ?_ (rows_at _ t _ ⟨(y 0).val, y0⟩ ⟨(y 1).val, y1⟩ (by blk_simp [idx t]) (by blk_simp [idx t])).symm
  refine Eq.trans ?_ (ffn_at m c t _ _)
  refine Eq.trans ?_ (congrArg _ hy)
  unfold pre
  generalize k0_pay5 (F := Ideal) _ _ _ = s
  frame_out

/-- A point's scores against a key at a half of a head's query, from the columns the kernel loads for it. -/
theorem sco_at (c : Dev nD) (t : Fin cfg0.N) (w : Vec Ideal S1024x128 .bf16) (K : Vec Ideal S128x128 .bf16) (ka : FVec Ideal ⟨3, ![1, 128, 128]⟩ .f32)
    (s : Fin 2) (h : Fin 8) (r : Fin 512) (a : Fin 128)
    (hw : ∀ (k : Fin 1024) (d : Fin 128), w (ix2 k d) = m ((c : Thread nD τ).loc main_arg8) (ix3 0 k ⟨256 * h.val + 128 * s.val + d.val, by omega⟩))
    (hk : ∀ a d : Fin 128, K (ix2 a d) = ka (ix3 0 a d)) :
    sco (k0_pay5 (pre m c t) (View.ld (iblk m c 4 t) r0_4) (View.ld (iblk m c 5 t) r0_4)) w K r a
      = score (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) ka
          (tb t) (ti t r) s h a := by
  unfold sco score qry
  exact Finset.sum_congr rfl fun d _ => by
    rw [hk]
    exact congrArg _ (Finset.sum_congr rfl fun k _ => by rw [ffn_at, hw])

/-- The first keys as the kernel loads them. -/
theorem ldka (c : Dev nD) (t : Fin cfg0.N) (a d : Fin 128) :
    View.ld (iblk m c 9 t) r0_8 (ix2 a d) = m ((c : Thread nD τ).loc main_arg9) (ix3 0 a d) := by
  refine Eq.trans ?_ (ka_at m c t a d)
  show iblk m c 9 t (r0_8.emb (ix2 a d)) = _
  congr 1
  blk_ext

/-- The second keys as the kernel loads them. -/
theorem ldkb (c : Dev nD) (t : Fin cfg0.N) (a d : Fin 128) :
    View.ld (iblk m c 10 t) r0_8 (ix2 a d) = m ((c : Thread nD τ).loc main_arg10) (ix3 0 a d) := by
  refine Eq.trans ?_ (kb_at m c t a d)
  show iblk m c 10 t (r0_8.emb (ix2 a d)) = _
  congr 1
  blk_ext

/-- Columns of the query weights as the kernel loads them, from any of the rectangles it loads. -/
theorem ldwq (c : Dev nD) (t : Fin cfg0.N) (j : Fin 2048) (k : Fin 1024) (e : S1024x2048.Idx) (he : e = ix2 k j) :
    iblk m c 8 t e = m ((c : Thread nD τ).loc main_arg8) (ix3 0 k j) := by
  rw [he]
  exact wq_at m c t k j

/-- The scores at the first half of the queries after the run. -/
theorem final13 (c : Dev nD) : (dats m 0 c).arrAt 13 cfg0.N
    = lanes (fun b i h a => score (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) b i 0 h a) := by
  refine (dats m 0 c).arrAt_eq_of_covers 13 _ (by decide +kernel) fun t _ y => ?_
  blk_simp
  rw [after0_13]
  unfold out0_13
  have y0 : (y 0).val < 8 := (y 0).isLt
  have y1 : (y 1).val < 128 := (y 1).isLt
  have y2 : (y 2).val < 512 := (y 2).isLt
  refine Eq.trans ?_ (lanes_at _ t _ ⟨(y 0).val, y0⟩ ⟨(y 1).val, y1⟩ ⟨(y 2).val, y2⟩ (by blk_simp [idx t]) (by blk_simp [idx t]) (by blk_simp [idx t])).symm
  have key : ∀ (h : Fin 8) (r : Fin 512) (a : Fin 128) (w : Vec Ideal S1024x128 .bf16) (hw : ∀ (k : Fin 1024) (d : Fin 128), w (ix2 k d) = m ((c : Thread nD τ).loc main_arg8) (ix3 0 k ⟨256 * h.val + 128 * ((0 : Fin 2) : ℕ) + d.val, by have : ((0 : Fin 2) : ℕ) = 0 := rfl; omega⟩)),
      sco (k0_pay5 (pre m c t) (View.ld (iblk m c 4 t) r0_4) (View.ld (iblk m c 5 t) r0_4)) w (View.ld (iblk m c 9 t) r0_8) r a = _ :=
    fun h r a w hw => sco_at m c t w _ _ 0 h r a hw (ldka m c t)
  canon_tiles x h
  all_goals
    have hx : x = ix3 (0 : Fin 1) (⟨(y 1).val, y1⟩ : Fin 128) (⟨(y 2).val, y2⟩ : Fin 512) := by
      funext a
      fin_cases a
      · exact Fin.ext (by show (x 0).val = 0; omega)
      · exact Fin.ext h1.symm
      · exact Fin.ext h2.symm
  case piece0 =>
    rw [show (⟨(y 0).val, y0⟩ : Fin 8) = 7 from Fin.ext (by show (y 0).val = 7; omega)]
    refine (congrArg _ hx).trans ((pay1_at _ _ _ _ _).trans (key 7 _ _ _ fun k d => ?_))
    exact ldwq m c t _ k (r0_28.emb (ix2 k d)) (by blk_ext)
  case piece1 =>
    rw [show (⟨(y 0).val, y0⟩ : Fin 8) = 6 from Fin.ext (by show (y 0).val = 6; omega)]
    refine (congrArg _ hx).trans ((pay22_at _ _ _ _ _).trans (key 6 _ _ _ fun k d => ?_))
    exact ldwq m c t _ k (r0_25.emb (ix2 k d)) (by blk_ext)
  case piece2 =>
    rw [show (⟨(y 0).val, y0⟩ : Fin 8) = 5 from Fin.ext (by show (y 0).val = 5; omega)]
    refine (congrArg _ hx).trans ((pay20_at _ _ _ _ _).trans (key 5 _ _ _ fun k d => ?_))
    exact ldwq m c t _ k (r0_22.emb (ix2 k d)) (by blk_ext)
  case piece3 =>
    rw [show (⟨(y 0).val, y0⟩ : Fin 8) = 4 from Fin.ext (by show (y 0).val = 4; omega)]
    refine (congrArg _ hx).trans ((pay16_at _ _ _ _ _).trans (key 4 _ _ _ fun k d => ?_))
    exact ldwq m c t _ k (r0_19.emb (ix2 k d)) (by blk_ext)
  case piece4 =>
    rw [show (⟨(y 0).val, y0⟩ : Fin 8) = 3 from Fin.ext (by show (y 0).val = 3; omega)]
    refine (congrArg _ hx).trans ((pay14_at _ _ _ _ _).trans (key 3 _ _ _ fun k d => ?_))
    exact ldwq m c t _ k (r0_16.emb (ix2 k d)) (by blk_ext)
  case piece5 =>
    rw [show (⟨(y 0).val, y0⟩ : Fin 8) = 2 from Fin.ext (by show (y 0).val = 2; omega)]
    refine (congrArg _ hx).trans ((pay12_at _ _ _ _ _).trans (key 2 _ _ _ fun k d => ?_))
    exact ldwq m c t _ k (r0_13.emb (ix2 k d)) (by blk_ext)
  case piece6 =>
    rw [show (⟨(y 0).val, y0⟩ : Fin 8) = 1 from Fin.ext (by show (y 0).val = 1; omega)]
    refine (congrArg _ hx).trans ((pay8_at _ _ _ _ _).trans (key 1 _ _ _ fun k d => ?_))
    exact ldwq m c t _ k (r0_10.emb (ix2 k d)) (by blk_ext)
  case piece7 =>
    rw [show (⟨(y 0).val, y0⟩ : Fin 8) = 0 from Fin.ext (by show (y 0).val = 0; omega)]
    refine (congrArg _ hx).trans ((pay6_at _ _ _ _ _ _ _).trans (key 0 _ _ _ fun k d => ?_))
    exact ldwq m c t _ k (r0_6.emb (ix2 k d)) (by blk_ext)

/-- The scores at the second half of the queries after the run. -/
theorem final14 (c : Dev nD) : (dats m 0 c).arrAt 14 cfg0.N
    = lanes (fun b i h a => score (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg10)) b i 1 h a) := by
  refine (dats m 0 c).arrAt_eq_of_covers 14 _ (by decide +kernel) fun t _ y => ?_
  blk_simp
  rw [after0_14]
  unfold out0_14
  have y0 : (y 0).val < 8 := (y 0).isLt
  have y1 : (y 1).val < 128 := (y 1).isLt
  have y2 : (y 2).val < 512 := (y 2).isLt
  refine Eq.trans ?_ (lanes_at _ t _ ⟨(y 0).val, y0⟩ ⟨(y 1).val, y1⟩ ⟨(y 2).val, y2⟩ (by blk_simp [idx t]) (by blk_simp [idx t]) (by blk_simp [idx t])).symm
  have key : ∀ (h : Fin 8) (r : Fin 512) (a : Fin 128) (w : Vec Ideal S1024x128 .bf16) (hw : ∀ (k : Fin 1024) (d : Fin 128), w (ix2 k d) = m ((c : Thread nD τ).loc main_arg8) (ix3 0 k ⟨256 * h.val + 128 * ((1 : Fin 2) : ℕ) + d.val, by have : ((1 : Fin 2) : ℕ) = 1 := rfl; omega⟩)),
      sco (k0_pay5 (pre m c t) (View.ld (iblk m c 4 t) r0_4) (View.ld (iblk m c 5 t) r0_4)) w (View.ld (iblk m c 10 t) r0_8) r a = _ :=
    fun h r a w hw => sco_at m c t w _ _ 1 h r a hw (ldkb m c t)
  canon_tiles x h
  all_goals
    have hx : x = ix3 (0 : Fin 1) (⟨(y 1).val, y1⟩ : Fin 128) (⟨(y 2).val, y2⟩ : Fin 512) := by
      funext a
      fin_cases a
      · exact Fin.ext (by show (x 0).val = 0; omega)
      · exact Fin.ext h1.symm
      · exact Fin.ext h2.symm
  case piece0 =>
    rw [show (⟨(y 0).val, y0⟩ : Fin 8) = 7 from Fin.ext (by show (y 0).val = 7; omega)]
    refine (congrArg _ hx).trans ((pay2_at _ _ _ _ _).trans (key 7 _ _ _ fun k d => ?_))
    exact ldwq m c t _ k (r0_29.emb (ix2 k d)) (by blk_ext)
  case piece1 =>
    rw [show (⟨(y 0).val, y0⟩ : Fin 8) = 6 from Fin.ext (by show (y 0).val = 6; omega)]
    refine (congrArg _ hx).trans ((pay23_at _ _ _ _ _).trans (key 6 _ _ _ fun k d => ?_))
    exact ldwq m c t _ k (r0_26.emb (ix2 k d)) (by blk_ext)
  case piece2 =>
    rw [show (⟨(y 0).val, y0⟩ : Fin 8) = 5 from Fin.ext (by show (y 0).val = 5; omega)]
    refine (congrArg _ hx).trans ((pay21_at _ _ _ _ _).trans (key 5 _ _ _ fun k d => ?_))
    exact ldwq m c t _ k (r0_23.emb (ix2 k d)) (by blk_ext)
  case piece3 =>
    rw [show (⟨(y 0).val, y0⟩ : Fin 8) = 4 from Fin.ext (by show (y 0).val = 4; omega)]
    refine (congrArg _ hx).trans ((pay17_at _ _ _ _ _).trans (key 4 _ _ _ fun k d => ?_))
    exact ldwq m c t _ k (r0_20.emb (ix2 k d)) (by blk_ext)
  case piece4 =>
    rw [show (⟨(y 0).val, y0⟩ : Fin 8) = 3 from Fin.ext (by show (y 0).val = 3; omega)]
    refine (congrArg _ hx).trans ((pay15_at _ _ _ _ _).trans (key 3 _ _ _ fun k d => ?_))
    exact ldwq m c t _ k (r0_17.emb (ix2 k d)) (by blk_ext)
  case piece5 =>
    rw [show (⟨(y 0).val, y0⟩ : Fin 8) = 2 from Fin.ext (by show (y 0).val = 2; omega)]
    refine (congrArg _ hx).trans ((pay13_at _ _ _ _ _).trans (key 2 _ _ _ fun k d => ?_))
    exact ldwq m c t _ k (r0_14.emb (ix2 k d)) (by blk_ext)
  case piece6 =>
    rw [show (⟨(y 0).val, y0⟩ : Fin 8) = 1 from Fin.ext (by show (y 0).val = 1; omega)]
    refine (congrArg _ hx).trans ((pay9_at _ _ _ _ _).trans (key 1 _ _ _ fun k d => ?_))
    exact ldwq m c t _ k (r0_11.emb (ix2 k d)) (by blk_ext)
  case piece7 =>
    rw [show (⟨(y 0).val, y0⟩ : Fin 8) = 0 from Fin.ext (by show (y 0).val = 0; omega)]
    refine (congrArg _ hx).trans ((pay7_at _ _ _ _ _ _ _).trans (key 0 _ _ _ fun k d => ?_))
    exact ldwq m c t _ k (r0_7.emb (ix2 k d)) (by blk_ext)

/-- The kernel ends with the residual stream, the hidden activations and the scores of its arguments, which stay as
    they were. -/
theorem run_rows (ρ : Dev nD → PrngReg) :
    θ_run defs (onTc (τ := τ) (main (F := Ideal))) ⟨m, fun _ => 0, ρ⟩ fun r => ∀ c : Dev nD,
      r.2.mem ((c.tc : Thread nD τ).loc main_v14_0) = rows (res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7))) ∧
      r.2.mem ((c.tc : Thread nD τ).loc main_v14_1) = rows (ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) ∧
      r.2.mem ((c.tc : Thread nD τ).loc main_v14_2) = lanes (fun b i h a => score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b i 0 h a) ∧
      r.2.mem ((c.tc : Thread nD τ).loc main_v14_3) = lanes (fun b i h a => score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) b i 1 h a) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) :=
  (θ_run defs _ _).mono (fun r h c => ⟨(h c).1.trans (final11 m c),
    (h c).2.1.trans (final12 m c),
    (h c).2.2.1.trans (final13 m c),
    (h c).2.2.2.1.trans (final14 m c),
    (h c).2.2.2.2⟩)
    (Cert.Kernel3Ideal.Value.run_blocks (F := Ideal) m ρ)

end Cert.Kernel3Ideal.Hand
-- ==== Proof.OutRef.lean ====
/- The output projection's reference at the extended reals, element by element. -/
module

public import proofs.«01_k».proof.Proof.Out
public import proofs.«01_k».proof.Proof.Gen.Reference3Ideal
public import proofs.«01_k».proof.Proof.Gen.Reference3Ideal.Run
public import proofs.«01_k».proof.Proof.Gen.Reference3Ideal.Read

@[expose] public section

set_option maxRecDepth 16384

noncomputable section

namespace Cert.Reference3Ideal.Hand

open Idealize.ShloMosaic Idealize.ShloMosaic.TcCoe Idealize.SL.Sem
open Cert.Reference3Ideal Cert.Reference3Ideal.Gen Cert.Reference3Ideal.Read Cert.Out

variable (x0 : FVec Ideal S2x8192x1024 .f32) (x1 x2 : FVec Ideal S16384x512 .f32) (x3 x4 x5 : FVec Ideal S2x1024 .f32) (x6 : FVec Ideal S1x1024 .f32)
  (x7 : FVec Ideal S1x1024x1024 .f32) (x8 : FVec Ideal S1x1024x2048 .f32) (x9 x10 : FVec Ideal S1x128x128 .f32) (b : Fin 2) (i : Fin 8192)

/-- A sum over two mixers' lanes: the first's, then the second's. -/
theorem sum_halves (f : Fin 1024 → EReal) :
    (∑ l : Fin 1024, f l) = (∑ l : Fin 512, f ⟨l.val, by omega⟩) + ∑ l : Fin 512, f ⟨512 + l.val, by omega⟩ :=
  Fin.sum_univ_add (a := 512) (b := 512) f

/-- The mixers' results side by side, at the first mixer's lanes. -/
theorem v1_fst (l : Fin 512) : val_main_v1 (F := Ideal) x1 x2 (ix3 b i (⟨l.val, by omega⟩ : Fin 1024)) = x1 (ix2 (tok b i) l) := by
  have hl : l.val < 512 := l.isLt
  unfold tok
  pointwise [val_main_v1, val_main_v0]
  exact congrArg (fun n => x1 (ix2 n l)) (Fin.ext (by show b.val * 8192 + i.val = 8192 * b.val + i.val; omega))

/-- The mixers' results side by side, at the second mixer's lanes. -/
theorem v1_snd (l : Fin 512) : val_main_v1 (F := Ideal) x1 x2 (ix3 b i (⟨512 + l.val, by omega⟩ : Fin 1024)) = x2 (ix2 (tok b i) l) := by
  have hl : l.val < 512 := l.isLt
  unfold tok
  pointwise [val_main_v1, val_main_v0]
  exact congrArg (fun n => x2 (ix2 n l)) (Fin.ext (by show b.val * 8192 + i.val = 8192 * b.val + i.val; omega))

/-- The mixers' results through the output weights. -/
theorem v3_at (k : Fin 1024) : val_main_v3 (F := Ideal) x1 x2 x7 (ix3 b i k) = mix x1 x2 x7 b i k := by
  have h : val_main_v3 (F := Ideal) x1 x2 x7 (ix3 b i k) = ∑ l : Fin 1024, val_main_v1 (F := Ideal) x1 x2 (ix3 b i l) * x7 (ix3 0 l k) := by
    unfold val_main_v3
    generalize val_main_v1 (F := Ideal) x1 x2 = s
    pointwise [val_main_v2]
  rw [h, sum_halves]
  unfold mix
  simp only [v1_fst, v1_snd]

/-- The residual stream. -/
theorem v7_at (k : Fin 1024) : val_main_v7 (F := Ideal) x0 x1 x2 x3 x7 (ix3 b i k) = res x0 x1 x2 x3 x7 b i k := by
  unfold res
  rw [← v3_at]
  unfold val_main_v7 val_main_v6
  generalize val_main_v3 (F := Ideal) x1 x2 x7 = s
  pointwise [val_main_v5, val_main_v4]

/-- The feed-forward's hidden activations. -/
theorem v29_at (k : Fin 1024) : val_main_v29 (F := Ideal) x0 x1 x2 x3 x4 x5 x6 x7 (ix3 b i k) = ffn x0 x1 x2 x3 x4 x5 x6 x7 b i k := by
  rw [ffn_eq]
  simp only [← v7_at]
  unfold val_main_v29 val_main_v26 val_main_v21 val_main_v18 val_main_v17 val_main_v16 val_main_v15 val_main_v13 val_main_v11 val_main_v10 val_main_v9
  generalize val_main_v7 (F := Ideal) x0 x1 x2 x3 x7 = s
  pointwise [val_main_v8, val_main_v12, val_main_v14, val_main_v19, val_main_v20, val_main_v22, val_main_v23, val_main_v24, val_main_v25, val_main_v27, val_main_v28, val_main_cst, val_main_cst_0, val_main_cst_1, val_main_cst_2]

/-- The products with the query weights. -/
theorem v32_at (n : Fin 16384) (j : Fin 2048) : val_main_v32 (F := Ideal) x0 x1 x2 x3 x4 x5 x6 x7 x8 (ix2 n j)
    = qry x0 x1 x2 x3 x4 x5 x6 x7 x8 ⟨n.val / 8192, by omega⟩ ⟨n.val % 8192, by omega⟩ j := by
  unfold qry
  simp only [← v29_at]
  unfold val_main_v32 val_main_v30
  generalize val_main_v29 (F := Ideal) x0 x1 x2 x3 x4 x5 x6 x7 = s
  pointwise [val_main_v31]

/-- An array is one of token rows if it is so at every row and lane. -/
theorem eq_rows (v : S16384x1024.Idx → EReal) (f : Fin 2 → Fin 8192 → Fin 1024 → EReal)
    (h : ∀ (n : Fin 16384) (j : Fin 1024), v (ix2 n j) = f ⟨n.val / 8192, by omega⟩ ⟨n.val % 8192, by omega⟩ j) : v = rows f := by
  funext x
  have hx : x = ix2 (⟨(x 0).val, (x 0).isLt⟩ : Fin 16384) (⟨(x 1).val, (x 1).isLt⟩ : Fin 1024) := by
    funext a
    fin_cases a <;> rfl
  exact (congrArg v hx).trans (h _ _)

/-- An array is one with the tokens last if it is so at every head, key and token. -/
theorem eq_lanes (v : S8x128x16384.Idx → EReal) (f : Fin 2 → Fin 8192 → Fin 8 → Fin 128 → EReal)
    (h : ∀ (e : Fin 8) (a : Fin 128) (n : Fin 16384), v (ix3 e a n) = f ⟨n.val / 8192, by omega⟩ ⟨n.val % 8192, by omega⟩ e a) : v = lanes f := by
  funext x
  have hx : x = ix3 (⟨(x 0).val, (x 0).isLt⟩ : Fin 8) (⟨(x 1).val, (x 1).isLt⟩ : Fin 128) (⟨(x 2).val, (x 2).isLt⟩ : Fin 16384) := by
    funext a
    fin_cases a <;> rfl
  exact (congrArg v hx).trans (h _ _ _)

/-- The first result: the residual stream. -/
theorem v42_eq : val_main_v42 (F := Ideal) x0 x1 x2 x3 x7 = rows (res x0 x1 x2 x3 x7) := by
  refine eq_rows _ _ fun n k => ?_
  unfold val_main_v42
  rw [← v7_at]
  generalize val_main_v7 (F := Ideal) x0 x1 x2 x3 x7 = s
  pointwise

/-- The second result: the hidden activations. -/
theorem v43_eq : val_main_v43 (F := Ideal) x0 x1 x2 x3 x4 x5 x6 x7 = rows (ffn x0 x1 x2 x3 x4 x5 x6 x7) := by
  refine eq_rows _ _ fun n k => ?_
  unfold val_main_v43 val_main_v30
  rw [← v29_at]
  generalize val_main_v29 (F := Ideal) x0 x1 x2 x3 x4 x5 x6 x7 = s
  pointwise

/-- The third result: the scores at the first half of the queries. -/
theorem v44_eq : val_main_v44 (F := Ideal) x0 x1 x2 x3 x4 x5 x6 x7 x8 x9
    = lanes (fun b i h a => score x0 x1 x2 x3 x4 x5 x6 x7 x8 x9 b i 0 h a) := by
  refine eq_lanes _ _ fun h a n => ?_
  unfold score
  simp only [← v32_at]
  unfold val_main_v44 val_main_v37 val_main_v35 val_main_v34 val_main_v33
  generalize val_main_v32 (F := Ideal) x0 x1 x2 x3 x4 x5 x6 x7 x8 = s
  pointwise [val_main_v36]
  exact Finset.sum_congr rfl fun d _ => (mul_comm _ _).trans (congrArg (fun j => x9 (ix3 0 a d) * s (ix2 n j))
    (Fin.ext (by show h.val * 256 + d.val = 256 * h.val + d.val; omega)))

/-- The fourth result: the scores at the second half of the queries. -/
theorem v45_eq : val_main_v45 (F := Ideal) x0 x1 x2 x3 x4 x5 x6 x7 x8 x10
    = lanes (fun b i h a => score x0 x1 x2 x3 x4 x5 x6 x7 x8 x10 b i 1 h a) := by
  refine eq_lanes _ _ fun h a n => ?_
  unfold score
  simp only [← v32_at]
  unfold val_main_v45 val_main_v41 val_main_v39 val_main_v38 val_main_v33
  generalize val_main_v32 (F := Ideal) x0 x1 x2 x3 x4 x5 x6 x7 x8 = s
  pointwise [val_main_v40]
  exact Finset.sum_congr rfl fun d _ => (mul_comm _ _).trans (congrArg (fun j => x10 (ix3 0 a d) * s (ix2 n j))
    (Fin.ext (by show h.val * 256 + 128 + d.val = 256 * h.val + 128 + d.val; omega)))

/-- The reference ends with the residual stream, the hidden activations and the scores of its arguments, which stay as
    they were. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = rows (res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7))) ∧
      r.2.mem ((c.tc : Thread nD τ).loc main_v43) = rows (ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) ∧
      r.2.mem ((c.tc : Thread nD τ).loc main_v44) = lanes (fun b i h a => score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b i 0 h a) ∧
      r.2.mem ((c.tc : Thread nD τ).loc main_v45) = lanes (fun b i h a => score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) b i 1 h a) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) :=
  (θ_run defs _ _).mono (fun r h c => ⟨((h c).1.trans (val_main_v42_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)))).trans (v42_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7))),
    ((h c).2.1.trans (val_main_v43_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))).trans (v43_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))),
    ((h c).2.2.1.trans (val_main_v44_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))).trans (v44_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))),
    ((h c).2.2.2.1.trans (val_main_v45_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)))).trans (v45_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10))),
    (h c).2.2.2.2⟩)
    (Cert.Reference3Ideal.Value.run (F := Ideal) m ρ)

end Cert.Reference3Ideal.Hand
-- ==== Proof.OutValue.lean ====
/- The output projection's value claim: the kernel and the reference both end with the residual stream, the hidden
   activations and the scores of the arguments. -/
module

public import proofs.«01_k».proof.Defs
public import proofs.«01_k».proof.Proof.OutVal
public import proofs.«01_k».proof.Proof.OutRef

@[expose] public section

noncomputable section

namespace Cert.OutValue

open Idealize.ShloMosaic Idealize.ShloMosaic.TcCoe Idealize.SL.Sem

/-- The two programs end with equal results, at the extended reals. -/
theorem algebraic : Cert.algebraic_Kernel3Ideal_Reference3Ideal (hKernel3Ideal := Cert.Kernel3Ideal.Gen.facts)
    (hReference3Ideal := Cert.Reference3Ideal.Gen.facts) := by
  intro m g m' g' _ hargs
  exact ⟨fun c => Cert.Out.rows (Cert.Out.res (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg7))),
    fun c => Cert.Out.rows (Cert.Out.ffn (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))),
    fun c => Cert.Out.lanes (fun b i h a => Cert.Out.score (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) b i 0 h a),
    fun c => Cert.Out.lanes (fun b i h a => Cert.Out.score (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg10)) b i 1 h a),
    Cert.Kernel3Ideal.Hand.run_rows m g,
    (θ_run Cert.Reference3Ideal.defs _ _).mono (fun r h c => ⟨(h c).1.trans (by obtain ⟨e0, e1, e2, e3, e4, e5, e6, e7, e8, e9, e10⟩ := hargs c; rw [e0, e1, e2, e3, e7]),
      (h c).2.1.trans (by obtain ⟨e0, e1, e2, e3, e4, e5, e6, e7, e8, e9, e10⟩ := hargs c; rw [e0, e1, e2, e3, e4, e5, e6, e7]),
      (h c).2.2.1.trans (by obtain ⟨e0, e1, e2, e3, e4, e5, e6, e7, e8, e9, e10⟩ := hargs c; rw [e0, e1, e2, e3, e4, e5, e6, e7, e8, e9]),
      (h c).2.2.2.1.trans (by obtain ⟨e0, e1, e2, e3, e4, e5, e6, e7, e8, e9, e10⟩ := hargs c; rw [e0, e1, e2, e3, e4, e5, e6, e7, e8, e10]),
      (h c).2.2.2.2⟩) (Cert.Reference3Ideal.Hand.run_rows m' g')⟩

end Cert.OutValue
-- ==== Proof.Samp.lean ====
/- What the projection call takes at the sample's shapes, where one point of the grid holds every token. -/
module

public import proofs.«01_k».proof.Proof.Proj
public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Samp

/-- The batch entry of a token row. -/
def tb (r : Fin 256) : Fin 32 := ⟨r.val / 8, by omega⟩
/-- A token row's position in its batch entry. -/
def ti (r : Fin 256) : Fin 8 := ⟨r.val % 8, by omega⟩

/-- A function of the batch entry, the position and the lane as an array of token rows. -/
def rows (f : Fin 32 → Fin 8 → Fin 512 → EReal) : (⟨2, ![256, 512]⟩ : Idealize.ShloMosaic.Shape).Idx → EReal := fun x =>
  f (tb ⟨(x 0).val, (x 0).isLt⟩) (ti ⟨(x 0).val, (x 0).isLt⟩) ⟨(x 1).val, (x 1).isLt⟩

/-- An array of token rows in blocks of 256 tokens, each block transposed. -/
def blocks (a : (⟨2, ![256, 512]⟩ : Idealize.ShloMosaic.Shape).Idx → EReal) : (⟨3, ![1, 512, 256]⟩ : Idealize.ShloMosaic.Shape).Idx → EReal := fun x =>
  a (Idealize.ShloMosaic.ix2 ⟨256 * (x 0).val + (x 2).val, by have : (x 0).val < 1 := (x 0).isLt; have : (x 2).val < 256 := (x 2).isLt; omega⟩
    ⟨(x 1).val, (x 1).isLt⟩)

end Cert.Samp

namespace Cert.Kernel4Ideal.Hand

open Idealize.ShloMosaic Idealize.ShloMosaic.TcCoe Idealize.SL.Sem
open Idealize.ShloMosaic.Pipeline (Dat)
open Cert.Kernel4Ideal Cert.Kernel4Ideal.Gen Cert.Proj
open Cert.Samp

variable (m : (ℓ : Loc nD τ sig) → Buf (Elt Ideal) ℓ)

/-- The windows' block indices at the grid's point. -/
theorem idx : ∀ t : Fin cfg0.N, win0_0.index t = ![0, 0] ∧ win0_1.index t = ![0, 0, 0] ∧ win0_2.index t = ![0, 0, 0]
    ∧ win0_3.index t = ![0, 0] ∧ win0_4.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_18.index t = ![0, 0] ∧ win0_20.index t = ![0, 0] ∧ win0_21.index t = ![0, 0]
    ∧ win0_19.index t = ![0, 0] ∧ win0_22.index t = ![0, 0, 0] :=
  (by decide +kernel : ∀ t : Fin grid0.N, _)

/-- A token row as the kernel takes it. -/
theorem x_at (c : Dev nD) (t : Fin cfg0.N) (r : Fin 256) (k : Fin 1024) :
    iblk m c 0 t (ix2 r k) = m ((c : Thread nD τ).loc main_arg0) (ix3 (tb r) (ti r) k) := by
  unfold tb ti
  blk_simp [iblk]
  rw [show (win0_0.blk t).view.emb (ix2 r k) = ix2 r k from by blk_ext [idx t]]
  simp only [V, hostOps0, hostOps0_1, hostOps0_2, hostOps0_3, hostOps0_4, List.flatten_cons, List.flatten_nil, List.append_nil, List.cons_append, List.nil_append]
  entry_read
  pointwise

/-- A token's scale as the kernel takes it. -/
theorem sc_at (c : Dev nD) (t : Fin cfg0.N) (r : Fin 256) (k : Fin 1024) :
    iblk m c 1 t (ix3 0 r k) = m ((c : Thread nD τ).loc main_arg1) (ix2 (tb r) k) := by
  unfold tb
  blk_simp [iblk]
  rw [show (win0_1.blk t).view.emb (ix3 0 r k) = ix3 0 r k from by blk_ext [idx t]]
  simp only [V, hostOps0, hostOps0_1, hostOps0_2, hostOps0_3, hostOps0_4, List.flatten_cons, List.flatten_nil, List.append_nil, List.cons_append, List.nil_append]
  entry_read
  pointwise

/-- A token's shift as the kernel takes it. -/
theorem sh_at (c : Dev nD) (t : Fin cfg0.N) (r : Fin 256) (k : Fin 1024) :
    iblk m c 2 t (ix3 0 r k) = m ((c : Thread nD τ).loc main_arg2) (ix2 (tb r) k) := by
  unfold tb
  blk_simp [iblk]
  rw [show (win0_2.blk t).view.emb (ix3 0 r k) = ix3 0 r k from by blk_ext [idx t]]
  simp only [V, hostOps0, hostOps0_1, hostOps0_2, hostOps0_3, hostOps0_4, List.flatten_cons, List.flatten_nil, List.append_nil, List.cons_append, List.nil_append]
  entry_read
  pointwise

/-- The gain of the input's norm. -/
theorem g_at (c : Dev nD) (t : Fin cfg0.N) (k : Fin 1024) :
    iblk m c 3 t (ix2 0 k) = m ((c : Thread nD τ).loc main_arg3) (ix2 0 k) := by
  blk_point [iblk, V, idx t]

/-- The hidden activations of the tokens. -/
theorem hid_at (c : Dev nD) (t : Fin cfg0.N) (r : Fin 256) (k : Fin 1024) :
    k0_pay2 (iblk m c 0 t) (iblk m c 3 t) (iblk m c 1 t) (iblk m c 2 t) (ix2 r k)
      = hid (m ((c : Thread nD τ).loc main_arg0)) (m ((c : Thread nD τ).loc main_arg1)) (m ((c : Thread nD τ).loc main_arg2)) (m ((c : Thread nD τ).loc main_arg3)) (tb r) (ti r) k := by
  unfold hid
  simp only [← x_at m c t, ← sc_at m c t, ← sh_at m c t, ← g_at m c t]
  generalize iblk m c 0 t = x0
  generalize iblk m c 1 t = x1
  generalize iblk m c 2 t = x2
  generalize iblk m c 3 t = x3
  pointwise [k0_pay2]

/-- The weight matrix's columns as the kernel takes them. -/
theorem w_at (c : Dev nD) (t : Fin cfg0.N) (k : Fin 1024) (j : Fin 3584) :
    iblk m c 4 t (ix2 k j) = m ((c : Thread nD τ).loc main_arg4) (ix3 0 k ⟨if j.val < 2048 then j.val else j.val + 8, by split <;> omega⟩) := by
  blk_simp [iblk]
  rw [show (win0_4.blk t).view.emb (ix2 k j) = ix2 k j from by blk_ext [idx t]]
  simp only [V, hostOps0, hostOps0_1, hostOps0_2, hostOps0_3, hostOps0_4, List.flatten_cons, List.flatten_nil, List.append_nil, List.cons_append, List.nil_append]
  entry_read
  pointwise
  by_cases h : j.val < 2048
  · rw [dif_pos h]
    congr 2
    refine Fin.ext ?_
    show j.val = if j.val < 2048 then j.val else j.val + 8
    rw [if_pos h]
  · rw [dif_neg h]
    congr 2
    refine Fin.ext ?_
    show 2056 + (j.val - 2048) = if j.val < 2048 then j.val else j.val + 8
    rw [if_neg h]
    omega

/-- A lane's head, as the constant holds it. -/
theorem lit_at : ∀ k : Fin 512, lit0 k = BitVec.ofNat 32 (k.val / 64) := by
  decide +kernel

/-- A lane's head, read by the lane's place. -/
theorem head_at (k : Fin 512) : lit0 (S512.rowMajor (ix1 k)) = BitVec.ofNat 32 (k.val / 64) := by
  rw [show S512.rowMajor (ix1 k) = k from Fin.ext (Shape.rowMajor_val_one _)]
  exact lit_at k

/-- The matrix of the heads' own lanes. -/
theorem bd_at (c : Dev nD) (t : Fin cfg0.N) (k j : Fin 512) :
    iblk m c 11 t (ix2 k j) = if k.val / 64 = j.val / 64 then (1 : EReal) else 0 := by
  blk_simp [iblk]
  rw [show (win0_11.blk t).view.emb (ix2 k j) = ix2 k j from by blk_ext [idx t]]
  simp only [V, hostOps0, hostOps0_1, hostOps0_2, hostOps0_3, hostOps0_4, List.flatten_cons, List.flatten_nil, List.append_nil, List.cons_append, List.nil_append]
  entry_read
  pointwise
  erw [head_at, head_at]
  rw [Cert.Kernel2Ideal.Hand.same_head ⟨k.val / 64, by omega⟩ ⟨j.val / 64, by omega⟩]
  by_cases h : k.val / 64 = j.val / 64
  · rw [if_pos h, if_pos h]
    show (((1#1 : BitVec 1).toNat : ℝ) : EReal) = 1
    simp
  · rw [if_neg h, if_neg h]
    show (((0#1 : BitVec 1).toNat : ℝ) : EReal) = 0
    simp

/-- The queries' gains as the kernel takes them. -/
theorem gq_at (c : Dev nD) (t : Fin cfg0.N) (j : Fin 512) :
    iblk m c 9 t (ix2 0 j) = m ((c : Thread nD τ).loc main_arg6) (ix3 0 ⟨j.val / 64, by omega⟩ ⟨j.val % 64, by omega⟩) := by
  blk_simp [iblk]
  rw [show (win0_9.blk t).view.emb (ix2 0 j) = ix2 0 j from by blk_ext [idx t]]
  simp only [V, hostOps0, hostOps0_1, hostOps0_2, hostOps0_3, hostOps0_4, List.flatten_cons, List.flatten_nil, List.append_nil, List.cons_append, List.nil_append]
  entry_read
  pointwise

/-- The keys' gains as the kernel takes them. -/
theorem gk_at (c : Dev nD) (t : Fin cfg0.N) (j : Fin 512) :
    iblk m c 10 t (ix2 0 j) = m ((c : Thread nD τ).loc main_arg7) (ix3 0 ⟨j.val / 64, by omega⟩ ⟨j.val % 64, by omega⟩) := by
  blk_simp [iblk]
  rw [show (win0_10.blk t).view.emb (ix2 0 j) = ix2 0 j from by blk_ext [idx t]]
  simp only [V, hostOps0, hostOps0_1, hostOps0_2, hostOps0_3, hostOps0_4, List.flatten_cons, List.flatten_nil, List.append_nil, List.cons_append, List.nil_append]
  entry_read
  pointwise

end Cert.Kernel4Ideal.Hand
-- ==== Proof.SampVal.lean ====
/- What the projection call leaves in its results at the sample's shapes: every element as the projection of its token. -/
module

public import proofs.«01_k».proof.Proof.Samp

@[expose] public section

set_option maxRecDepth 16384

noncomputable section

namespace Cert.Kernel4Ideal.Hand

open Idealize.ShloMosaic Idealize.ShloMosaic.TcCoe Idealize.SL.Sem
open Idealize.ShloMosaic.Pipeline (Dat)
open Cert.Kernel4Ideal Cert.Kernel4Ideal.Gen Cert.Proj
open Cert.Samp (tb ti)

/-- What `q_scale` stands for. -/
theorem named_q_scale :
    Named.named (F := Ideal) (φ := .f32) κ "q_scale" 0x3E38AA3B#32 = ((8⁻¹ * (Real.log 2)⁻¹ : ℝ) : EReal) :=
  IdealRules.named_const.ideal_named_scalar _ _ _ _ rfl

section
variable (x : Vec Ideal S256x1024 .f32) (g : Vec Ideal S1x1024 .f32) (sc sh : Vec Ideal S1x256x1024 .f32)
  (H : FVec Ideal S256x1024 .bf16) (w : Vec Ideal S1024x512 .bf16) (v : Vec Ideal S1x512 .f32)
  (bd : Vec Ideal S512x512 .bf16) (r : Fin 256) (j : Fin 512)

/-- The first stored block: a product. -/
theorem pay3_at : k0_pay3 x g sc sh w (ix2 r j) = ∑ k : Fin 1024, k0_pay2 x g sc sh (ix2 r k) * w (ix2 k j) := by
  unfold k0_pay3
  generalize k0_pay2 x g sc sh = H
  pointwise

/-- The second stored block: a product scaled. -/
theorem pay4_at : k0_pay4 x g sc sh w (ix2 r j)
    = (∑ k : Fin 1024, k0_pay2 x g sc sh (ix2 r k) * w (ix2 k j)) * Ideal.ofBits .f32 0x3DB504F3#32 := by
  unfold k0_pay4
  generalize k0_pay2 x g sc sh = H
  pointwise

/-- The third stored block: a product. -/
theorem pay5_at : k0_pay5 H w (ix2 r j) = ∑ k : Fin 1024, H (ix2 r k) * w (ix2 k j) := by
  pointwise [k0_pay5]

/-- The fourth stored block: a logistic of a product. -/
theorem pay6_at : k0_pay6 H w (ix2 r j) = Ideal.logistic (∑ k : Fin 1024, H (ix2 r k) * w (ix2 k j)) := by
  pointwise [k0_pay6]

/-- The values' block: a product. -/
theorem pay18_at : k0_pay18 H w (ix2 r j) = ∑ k : Fin 1024, H (ix2 r k) * w (ix2 k j) := by
  pointwise [k0_pay18]

/-- The queries' block: a product normalized head by head, times the gain and the scale. -/
theorem pay15_at (s : Fin 512 → EReal) (hs : ∀ l, (∑ k : Fin 1024, H (ix2 r k) * w (ix2 k l)) = s l)
    (hb : ∀ k l : Fin 512, bd (ix2 k l) = if k.val / 64 = l.val / 64 then (1 : EReal) else 0)
    (gq : FVec Ideal ⟨3, ![1, 8, 64]⟩ .f32) (hv : ∀ l : Fin 512, v (ix2 0 l) = gq (ix3 0 ⟨l.val / 64, by omega⟩ ⟨l.val % 64, by omega⟩)) :
    k0_pay15 H (k0_pay14 w) (constant S256x512 .f32 0x00000000#32) v bd (ix2 r j)
      = headNorm s gq j * ((8⁻¹ * (Real.log 2)⁻¹ : ℝ) : EReal) := by
  pointwise [k0_pay15, k0_pay14]
  simp only [hs, hb, hv]
  rw [sum_head j (fun l => s l * s l), named_q_scale]
  rw [mul_inv_64]
  rfl

/-- The keys' block: a product normalized head by head, times the gain. -/
theorem pay16_at (s : Fin 512 → EReal) (hs : ∀ l, (∑ k : Fin 1024, H (ix2 r k) * w (ix2 k l)) = s l)
    (hb : ∀ k l : Fin 512, bd (ix2 k l) = if k.val / 64 = l.val / 64 then (1 : EReal) else 0)
    (gk : FVec Ideal ⟨3, ![1, 8, 64]⟩ .f32) (hv : ∀ l : Fin 512, v (ix2 0 l) = gk (ix3 0 ⟨l.val / 64, by omega⟩ ⟨l.val % 64, by omega⟩)) :
    k0_pay16 H w v bd (ix2 r j) = headNorm s gk j := by
  pointwise [k0_pay16]
  simp only [hs, hb, hv]
  rw [sum_head j (fun l => s l * s l)]
  rw [mul_inv_64]
  rfl

/-- The keys' block cast: the same numbers. -/
theorem pay17_at (a : FVec Ideal S256x512 .f32) (r : Fin 256) (j : Fin 512) : k0_pay17 a (ix2 r j) = a (ix2 r j) := by
  pointwise [k0_pay17]

end

variable (m : (ℓ : Loc nD τ sig) → Buf (Elt Ideal) ℓ)

/-- A weight as the kernel loads it, from whichever place of its columns. -/
theorem col_at (c : Dev nD) (t : Fin cfg0.N) (e : S1024x3584.Idx) (k : Fin 1024) (n : Fin 3584) (p : Fin 3592) (he : e = ix2 k n)
    (hp : (if n.val < 2048 then n.val else n.val + 8) = p.val) :
    iblk m c 4 t e = m ((c : Thread nD τ).loc main_arg4) (ix3 0 k p) := by
  rw [he]
  exact (w_at m c t k n).trans (congrArg (fun q => m ((c : Thread nD τ).loc main_arg4) (ix3 0 k q)) (Fin.ext hp))

/-- A product with the hidden activations. -/
theorem prod_at (c : Dev nD) (t : Fin cfg0.N) (w : Vec Ideal S1024x512 .bf16) (r : Fin 256) (j : Fin 512) (p : Fin 3592)
    (hw : ∀ k : Fin 1024, w (ix2 k j) = m ((c : Thread nD τ).loc main_arg4) (ix3 0 k p)) :
    (∑ k : Fin 1024, k0_pay2 (iblk m c 0 t) (iblk m c 3 t) (iblk m c 1 t) (iblk m c 2 t) (ix2 r k) * w (ix2 k j))
      = lin (m ((c : Thread nD τ).loc main_arg0)) (m ((c : Thread nD τ).loc main_arg1)) (m ((c : Thread nD τ).loc main_arg2)) (m ((c : Thread nD τ).loc main_arg3)) (m ((c : Thread nD τ).loc main_arg4)) (tb r) (ti r) p := by
  unfold lin
  exact Finset.sum_congr rfl fun k _ => by rw [hid_at, hw]

/-- A block is one of token rows if it is so at every row and lane. -/
theorem rows_of (P : S256x512.Idx → EReal) (f : Fin 32 → Fin 8 → Fin 512 → EReal) (h : ∀ (r : Fin 256) (j : Fin 512), P (ix2 r j) = f (tb r) (ti r) j)
    (y x : S256x512.Idx) (h0 : (x 0).val = (y 0).val) (h1 : (x 1).val = (y 1).val) : P y = Cert.Samp.rows f x := by
  have hx : x = y := by
    funext a
    fin_cases a
    · exact Fin.ext h0
    · exact Fin.ext h1
  have hy : y = ix2 (⟨(y 0).val, (y 0).isLt⟩ : Fin 256) (⟨(y 1).val, (y 1).isLt⟩ : Fin 512) := by
    funext a
    fin_cases a <;> rfl
  rw [hx]
  exact (congrArg P hy).trans (h _ _)

/-- The first mixer's queries after the run. -/
theorem final12 (c : Dev nD) : (dats m 0 c).arrAt 12 cfg0.N
    = Cert.Samp.rows (mq (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 12 _ (by decide +kernel) fun t _ y => ?_
  blk_simp
  rw [after0_12]
  unfold_out out0_12
  frame_out
  exact rows_of _ _ (fun r j => (pay3_at _ _ _ _ _ r j).trans (prod_at m c t _ r _ _ fun k => col_at m c t (r0_3.emb (ix2 k j)) k ⟨j.val, by omega⟩ _ (by blk_ext) (by dsimp only; split <;> omega))) y _ (by blk_simp [idx t]) (by blk_simp [idx t])

/-- The first mixer's keys after the run. -/
theorem final13 (c : Dev nD) : (dats m 0 c).arrAt 13 cfg0.N
    = Cert.Samp.rows (mk (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 13 _ (by decide +kernel) fun t _ y => ?_
  blk_simp
  rw [after0_13]
  unfold_out out0_13
  frame_out
  exact rows_of _ _ (fun r j => (pay4_at _ _ _ _ _ r j).trans (congrArg (· * Ideal.ofBits .f32 0x3DB504F3#32) (prod_at m c t _ r _ _ fun k => col_at m c t (r0_5.emb (ix2 k j)) k ⟨512 + j.val, by omega⟩ _ (by blk_ext) (by dsimp only; split <;> omega)))) y _ (by blk_simp [idx t]) (by blk_simp [idx t])

/-- The first mixer's values after the run. -/
theorem final14 (c : Dev nD) : (dats m 0 c).arrAt 14 cfg0.N
    = Cert.Samp.rows (mv (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 14 _ (by decide +kernel) fun t _ y => ?_
  blk_simp
  rw [after0_14]
  unfold_out out0_14
  frame_out
  exact rows_of _ _ (fun r j => (pay5_at _ _ r j).trans (prod_at m c t _ r _ _ fun k => col_at m c t (r0_6.emb (ix2 k j)) k ⟨1024 + j.val, by omega⟩ _ (by blk_ext) (by dsimp only; split <;> omega))) y _ (by blk_simp [idx t]) (by blk_simp [idx t])

/-- The first mixer's output gate after the run. -/
theorem final15 (c : Dev nD) : (dats m 0 c).arrAt 15 cfg0.N
    = Cert.Samp.rows (og (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 15 _ (by decide +kernel) fun t _ y => ?_
  blk_simp
  rw [after0_15]
  unfold_out out0_15
  frame_out
  exact rows_of _ _ (fun r j => (pay6_at _ _ r j).trans (congrArg Ideal.logistic (prod_at m c t _ r _ _ fun k => col_at m c t (r0_7.emb (ix2 k j)) k ⟨1536 + j.val, by omega⟩ _ (by blk_ext) (by dsimp only; split <;> omega)))) y _ (by blk_simp [idx t]) (by blk_simp [idx t])

/-- The second mixer's queries after the run. -/
theorem final18 (c : Dev nD) : (dats m 0 c).arrAt 18 cfg0.N
    = Cert.Samp.rows (qn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) := by
  refine (dats m 0 c).arrAt_eq_of_covers 18 _ (by decide +kernel) fun t _ y => ?_
  blk_simp
  rw [after0_18]
  unfold_out out0_18
  frame_out
  exact rows_of _ _ (fun r j => pay15_at _ _ _ _ r j _ (fun l => prod_at m c t _ r _ _ fun k => col_at m c t (r0_14.emb (ix2 k l)) k ⟨2048 + l.val, by omega⟩ _ (by blk_ext) (by dsimp only; split <;> omega)) (bd_at m c t) _ (gq_at m c t)) y _ (by blk_simp [idx t]) (by blk_simp [idx t])

/-- The second mixer's keys after the run. -/
theorem final20 (c : Dev nD) : (dats m 0 c).arrAt 20 cfg0.N
    = Cert.Samp.rows (ks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) := by
  refine (dats m 0 c).arrAt_eq_of_covers 20 _ (by decide +kernel) fun t _ y => ?_
  blk_simp
  rw [after0_20]
  unfold_out out0_20
  frame_out
  exact rows_of _ _ (fun r j => pay16_at _ _ _ _ r j _ (fun l => prod_at m c t _ r _ _ fun k => col_at m c t (r0_17.emb (ix2 k l)) k ⟨2560 + l.val, by omega⟩ _ (by blk_ext) (by dsimp only; split <;> omega)) (bd_at m c t) _ (gk_at m c t)) y _ (by blk_simp [idx t]) (by blk_simp [idx t])

/-- The second mixer's values after the run. -/
theorem final21 (c : Dev nD) : (dats m 0 c).arrAt 21 cfg0.N
    = Cert.Samp.rows (vs (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 21 _ (by decide +kernel) fun t _ y => ?_
  blk_simp
  rw [after0_21]
  unfold_out out0_21
  frame_out
  exact rows_of _ _ (fun r j => (pay18_at _ _ r j).trans (prod_at m c t _ r _ _ fun k => col_at m c t (r0_18.emb (ix2 k j)) k ⟨3072 + j.val, by omega⟩ _ (by blk_ext) (by dsimp only; split <;> omega))) y _ (by blk_simp [idx t]) (by blk_simp [idx t])

/-- The second mixer's keys after the run, in the cast form. -/
theorem final19 (c : Dev nD) : (dats m 0 c).arrAt 19 cfg0.N
    = Cert.Samp.rows (ks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) := by
  refine (dats m 0 c).arrAt_eq_of_covers 19 _ (by decide +kernel) fun t _ y => ?_
  blk_simp
  rw [after0_19]
  unfold_out out0_19
  frame_out
  exact rows_of _ _ (fun r j => (pay17_at _ r j).trans (pay16_at _ _ _ _ r j _ (fun l => prod_at m c t _ r _ _ fun k => col_at m c t (r0_17.emb (ix2 k l)) k ⟨2560 + l.val, by omega⟩ _ (by blk_ext) (by dsimp only; split <;> omega)) (bd_at m c t) _ (gk_at m c t))) y _ (by blk_simp [idx t]) (by blk_simp [idx t])

/-- The second mixer's values after the run, transposed. -/
theorem final22 (c : Dev nD) : (dats m 0 c).arrAt 22 cfg0.N
    = Cert.Samp.blocks (Cert.Samp.rows (vs (m ((c : Thread nD τ).loc main_arg0)) (m ((c : Thread nD τ).loc main_arg1)) (m ((c : Thread nD τ).loc main_arg2)) (m ((c : Thread nD τ).loc main_arg3)) (m ((c : Thread nD τ).loc main_arg4)))) := by
  refine (dats m 0 c).arrAt_eq_of_covers 22 _ (by decide +kernel) fun t _ y => ?_
  blk_simp
  rw [after0_22]
  unfold_out out0_22
  frame_out
  have y0 : (y 0).val < 1 := (y 0).isLt
  have y1 : (y 1).val < 512 := (y 1).isLt
  have y2 : (y 2).val < 256 := (y 2).isLt
  refine Eq.trans (b := k0_pay18 (F := Ideal) (k0_pay2 (iblk m c 0 t) (iblk m c 3 t) (iblk m c 1 t) (iblk m c 2 t)) (View.ld (iblk m c 4 t) r0_18)
    (ix2 (⟨(y 2).val, y2⟩ : Fin 256) (⟨(y 1).val, y1⟩ : Fin 512))) ?_ ?_
  · generalize k0_pay2 (iblk m c 0 t) (iblk m c 3 t) (iblk m c 1 t) (iblk m c 2 t) = H
    canon_tiles x h
    all_goals (open_payloads; pointwise; blk_ext)
  · refine rows_of _ _ (fun r j => (pay18_at _ _ r j).trans (prod_at m c t _ r _ _ fun k => col_at m c t (r0_18.emb (ix2 k j)) k ⟨3072 + j.val, by omega⟩ _ (by blk_ext) (by dsimp only; split <;> omega))) _ _ ?_ ?_
    all_goals (blk_simp [idx t] <;> try (dsimp only; omega))

/-- The kernel ends with the projections of its arguments, which stay as they were. -/
theorem run_rows (ρ : Dev nD → PrngReg) :
    θ_run defs (onTc (τ := τ) (main (F := Ideal))) ⟨m, fun _ => 0, ρ⟩ fun r => ∀ c : Dev nD,
      r.2.mem ((c.tc : Thread nD τ).loc main_v31_0) = Cert.Samp.rows (mq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v31_1) = Cert.Samp.rows (mk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v31_2) = Cert.Samp.rows (mv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v31_3) = Cert.Samp.rows (og (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v31_6) = Cert.Samp.rows (qn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))) ∧
      r.2.mem ((c.tc : Thread nD τ).loc main_v31_8) = Cert.Samp.rows (ks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) ∧
      r.2.mem ((c.tc : Thread nD τ).loc main_v31_9) = Cert.Samp.rows (vs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v31_7) = Cert.Samp.rows (ks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) ∧
      r.2.mem ((c.tc : Thread nD τ).loc main_v31_10) = Cert.Samp.blocks (Cert.Samp.rows (vs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) :=
  (θ_run defs _ _).mono (fun r h c => ⟨(h c).1.trans (final12 m c),
    (h c).2.1.trans (final13 m c),
    (h c).2.2.1.trans (final14 m c),
    (h c).2.2.2.1.trans (final15 m c),
    (h c).2.2.2.2.2.2.1.trans (final18 m c),
    (h c).2.2.2.2.2.2.2.2.1.trans (final20 m c),
    (h c).2.2.2.2.2.2.2.2.2.1.trans (final21 m c),
    (h c).2.2.2.2.2.2.2.1.trans (final19 m c),
    (h c).2.2.2.2.2.2.2.2.2.2.1.trans (final22 m c),
    (h c).2.2.2.2.2.2.2.2.2.2.2⟩)
    (Cert.Kernel4Ideal.Value.run_blocks (F := Ideal) m ρ)

end Cert.Kernel4Ideal.Hand
-- ==== Proof.SampRef.lean ====
/- The projection's reference at the sample's shapes and the extended reals, element by element. -/
module

public import proofs.«01_k».proof.Proof.Samp
public import proofs.«01_k».proof.Proof.ProjRef
public import proofs.«01_k».proof.Proof.Gen.Reference4Ideal
public import proofs.«01_k».proof.Proof.Gen.Reference4Ideal.Run
public import proofs.«01_k».proof.Proof.Gen.Reference4Ideal.Read

@[expose] public section

set_option maxRecDepth 16384

noncomputable section

namespace Cert.Reference4Ideal.Hand

open Idealize.ShloMosaic Idealize.ShloMosaic.TcCoe Idealize.SL.Sem
open Cert.Reference4Ideal Cert.Reference4Ideal.Gen Cert.Reference4Ideal.Read Cert.Proj

variable (x0 : FVec Ideal S32x8x1024 .f32) (x1 x2 : FVec Ideal S32x1024 .f32) (x3 : FVec Ideal S1x1024 .f32)
  (x4 : FVec Ideal S1x1024x3592 .f32) (x6 x7 : FVec Ideal S1x8x64 .f32) (b : Fin 32) (i : Fin 8)

/-- The hidden activations. -/
theorem v21_at (k : Fin 1024) : val_main_v21 (F := Ideal) x0 x1 x2 x3 (ix3 b i k) = hid x0 x1 x2 x3 b i k := by
  unfold hid
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2]

/-- A projection onto a column. -/
theorem v23_at (j : Fin 3592) : val_main_v23 (F := Ideal) x0 x1 x2 x3 x4 (ix3 b i j) = lin x0 x1 x2 x3 x4 b i j := by
  have hv (k : Fin 1024) := v21_at x0 x1 x2 x3 b i k
  unfold lin
  simp only [← hv]
  unfold val_main_v23
  generalize val_main_v21 (F := Ideal) x0 x1 x2 x3 = h
  pointwise [val_main_v22]

/-- The second mixer's queries, normalized. -/
theorem v47_at (h : Fin 8) (e : Fin 64) : val_main_v47 (F := Ideal) x0 x1 x2 x3 x4 x6 (ix4 b i h e)
    = headNorm (fun l => lin x0 x1 x2 x3 x4 b i ⟨2056 + l.val, by omega⟩) x6 ⟨h.val * 64 + e.val, by omega⟩ := by
  have hv (j : Fin 3592) := v23_at x0 x1 x2 x3 x4 b i j
  have e1 : (h.val * 64 + e.val) / 64 = h.val := by omega
  have e2 : (h.val * 64 + e.val) % 64 = e.val := by omega
  have e3 (p : h.val * 64 + e.val < 512) (d : Fin 64) : (lane ⟨h.val * 64 + e.val, p⟩ d).val = h.val * 64 + d.val := by
    show 64 * ((h.val * 64 + e.val) / 64) + d.val = h.val * 64 + d.val
    omega
  unfold headNorm
  simp only [← hv, e1, e2, e3, Fin.eta]
  unfold val_main_v47 val_main_v44 val_main_v43 val_main_v42 val_main_v41 val_main_v39 val_main_v37 val_main_v36 val_main_v35 val_main_v33 val_main_v30
  generalize val_main_v23 (F := Ideal) x0 x1 x2 x3 x4 = s
  pointwise [val_main_v34, val_main_v38, val_main_v40, val_main_v45, val_main_v46, val_main_cst_3, val_main_cst_4, val_main_cst_5]

/-- The second mixer's keys, normalized. -/
theorem v62_at (h : Fin 8) (e : Fin 64) : val_main_v62 (F := Ideal) x0 x1 x2 x3 x4 x7 (ix4 b i h e)
    = headNorm (fun l => lin x0 x1 x2 x3 x4 b i ⟨2568 + l.val, by omega⟩) x7 ⟨h.val * 64 + e.val, by omega⟩ := by
  have hv (j : Fin 3592) := v23_at x0 x1 x2 x3 x4 b i j
  have e1 : (h.val * 64 + e.val) / 64 = h.val := by omega
  have e2 : (h.val * 64 + e.val) % 64 = e.val := by omega
  have e3 (p : h.val * 64 + e.val < 512) (d : Fin 64) : (lane ⟨h.val * 64 + e.val, p⟩ d).val = h.val * 64 + d.val := by
    show 64 * ((h.val * 64 + e.val) / 64) + d.val = h.val * 64 + d.val
    omega
  unfold headNorm
  simp only [← hv, e1, e2, e3, Fin.eta]
  unfold val_main_v62 val_main_v59 val_main_v58 val_main_v57 val_main_v56 val_main_v54 val_main_v52 val_main_v51 val_main_v50 val_main_v48 val_main_v31
  generalize val_main_v23 (F := Ideal) x0 x1 x2 x3 x4 = s
  pointwise [val_main_v49, val_main_v53, val_main_v55, val_main_v60, val_main_v61, val_main_cst_6, val_main_cst_7, val_main_cst_8]

/-- An array is one of token rows if it is so at every row and lane. -/
theorem eq_rows (v : S256x512.Idx → EReal) (f : Fin 32 → Fin 8 → Fin 512 → EReal)
    (h : ∀ (n : Fin 256) (j : Fin 512), v (ix2 n j) = f ⟨n.val / 8, by omega⟩ ⟨n.val % 8, by omega⟩ j) : v = Cert.Samp.rows f := by
  funext x
  have hx : x = ix2 (⟨(x 0).val, (x 0).isLt⟩ : Fin 256) (⟨(x 1).val, (x 1).isLt⟩ : Fin 512) := by
    funext a
    fin_cases a <;> rfl
  exact (congrArg v hx).trans (h _ _)

/-- The first mixer's queries. -/
theorem v64_eq : val_main_v64 (F := Ideal) x0 x1 x2 x3 x4 = Cert.Samp.rows (mq x0 x1 x2 x3 x4) := by
  refine eq_rows _ _ fun n j => ?_
  unfold val_main_v64 val_main_v63 val_main_v24 mq
  rw [← v23_at]
  generalize val_main_v23 (F := Ideal) x0 x1 x2 x3 x4 = s
  pointwise

/-- The first mixer's keys. -/
theorem v68_eq : val_main_v68 (F := Ideal) x0 x1 x2 x3 x4 = Cert.Samp.rows (mk x0 x1 x2 x3 x4) := by
  refine eq_rows _ _ fun n j => ?_
  unfold val_main_v68 val_main_v67 val_main_v66 val_main_v25 mk
  rw [← v23_at]
  generalize val_main_v23 (F := Ideal) x0 x1 x2 x3 x4 = s
  pointwise [val_main_v65, val_main_cst_9]

/-- The first mixer's values. -/
theorem v70_eq : val_main_v70 (F := Ideal) x0 x1 x2 x3 x4 = Cert.Samp.rows (mv x0 x1 x2 x3 x4) := by
  refine eq_rows _ _ fun n j => ?_
  unfold val_main_v70 val_main_v69 val_main_v26 mv
  rw [← v23_at]
  generalize val_main_v23 (F := Ideal) x0 x1 x2 x3 x4 = s
  pointwise

/-- The first mixer's output gate. -/
theorem v78_eq : val_main_v78 (F := Ideal) x0 x1 x2 x3 x4 = Cert.Samp.rows (og x0 x1 x2 x3 x4) := by
  refine eq_rows _ _ fun n j => ?_
  unfold val_main_v78 val_main_v77 val_main_v76 val_main_v74 val_main_v72 val_main_v71 val_main_v27 og
  rw [← v23_at]
  generalize val_main_v23 (F := Ideal) x0 x1 x2 x3 x4 = s
  pointwise [val_main_v73, val_main_v75, val_main_cst_10, val_main_cst_11, Ideal.logistic]

/-- The second mixer's values. -/
theorem v86_eq : val_main_v86 (F := Ideal) x0 x1 x2 x3 x4 = Cert.Samp.rows (vs x0 x1 x2 x3 x4) := by
  refine eq_rows _ _ fun n j => ?_
  unfold val_main_v86 val_main_v32 vs
  rw [← v23_at]
  generalize val_main_v23 (F := Ideal) x0 x1 x2 x3 x4 = s
  pointwise

/-- The second mixer's queries. -/
theorem v84_eq : val_main_v84 (F := Ideal) x0 x1 x2 x3 x4 x6 = Cert.Samp.rows (qn x0 x1 x2 x3 x4 x6) := by
  refine eq_rows _ _ fun n j => ?_
  have hj : j = ⟨j.val / 64 * 64 + j.val % 64, by omega⟩ := Fin.ext (by show j.val = j.val / 64 * 64 + j.val % 64; omega)
  have hs := v47_at x0 x1 x2 x3 x4 x6 ⟨n.val / 8, by omega⟩ ⟨n.val % 8, by omega⟩ ⟨j.val / 64, by omega⟩ ⟨j.val % 64, by omega⟩
  unfold val_main_v84 val_main_v83 val_main_v82 qn
  refine Eq.trans ?_ (congrArg (fun j => headNorm _ x6 j * ((8⁻¹ * (Real.log 2)⁻¹ : ℝ) : EReal)) hj).symm
  show _ = headNorm _ x6 _ * _
  rw [← hs, ← Cert.Reference2Ideal.Hand.scale_eq]
  generalize val_main_v47 (F := Ideal) x0 x1 x2 x3 x4 x6 = s
  pointwise [val_main_v81, val_main_v80, val_main_v79, val_main_cst_12, val_main_cst_13]

/-- The second mixer's keys. -/
theorem v85_eq : val_main_v85 (F := Ideal) x0 x1 x2 x3 x4 x7 = Cert.Samp.rows (ks x0 x1 x2 x3 x4 x7) := by
  refine eq_rows _ _ fun n j => ?_
  have hj : j = ⟨j.val / 64 * 64 + j.val % 64, by omega⟩ := Fin.ext (by show j.val = j.val / 64 * 64 + j.val % 64; omega)
  have hs := v62_at x0 x1 x2 x3 x4 x7 ⟨n.val / 8, by omega⟩ ⟨n.val % 8, by omega⟩ ⟨j.val / 64, by omega⟩ ⟨j.val % 64, by omega⟩
  unfold val_main_v85 ks
  refine Eq.trans ?_ (congrArg (headNorm _ x7) hj).symm
  show _ = headNorm _ x7 _
  rw [← hs]
  generalize val_main_v62 (F := Ideal) x0 x1 x2 x3 x4 x7 = s
  pointwise

/-- The second mixer's keys, cast. -/
theorem v87_eq : val_main_v87 (F := Ideal) x0 x1 x2 x3 x4 x7 = Cert.Samp.rows (ks x0 x1 x2 x3 x4 x7) :=
  v85_eq x0 x1 x2 x3 x4 x7

/-- The second mixer's values, transposed block by block. -/
theorem v90_eq : val_main_v90 (F := Ideal) x0 x1 x2 x3 x4 = Cert.Samp.blocks (Cert.Samp.rows (vs x0 x1 x2 x3 x4)) := by
  rw [← v86_eq]
  unfold val_main_v90 val_main_v89 val_main_v88 Cert.Samp.blocks
  generalize val_main_v86 (F := Ideal) x0 x1 x2 x3 x4 = s
  funext x
  have q0 : (x 0).val < 1 := (x 0).isLt
  have q1 : (x 1).val < 512 := (x 1).isLt
  have q2 : (x 2).val < 256 := (x 2).isLt
  pointwise
  blk_ext

/-- The reference ends with the projections of its arguments, which stay as they were. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = Cert.Samp.rows (mq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v68) = Cert.Samp.rows (mk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v70) = Cert.Samp.rows (mv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v78) = Cert.Samp.rows (og (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v84) = Cert.Samp.rows (qn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))) ∧
      r.2.mem ((c.tc : Thread nD τ).loc main_v85) = Cert.Samp.rows (ks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) ∧
      r.2.mem ((c.tc : Thread nD τ).loc main_v86) = Cert.Samp.rows (vs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ∧
      r.2.mem ((c.tc : Thread nD τ).loc main_v87) = Cert.Samp.rows (ks (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) ∧
      r.2.mem ((c.tc : Thread nD τ).loc main_v90) = Cert.Samp.blocks (Cert.Samp.rows (vs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) :=
  (θ_run defs _ _).mono (fun r h c => ⟨(((h c).1).trans (val_main_v64_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v64_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (((h c).2.1).trans (val_main_v68_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v68_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (((h c).2.2.1).trans (val_main_v70_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v70_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (((h c).2.2.2.1).trans (val_main_v78_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v78_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (((h c).2.2.2.2.1).trans (val_main_v84_eq m c)).trans (v84_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))),
    (((h c).2.2.2.2.2.1).trans (val_main_v85_eq m c)).trans (v85_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))),
    (((h c).2.2.2.2.2.2.1).trans (val_main_v86_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v86_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (((h c).2.2.2.2.2.2.2.1).trans (val_main_v87_eq m c)).trans (v87_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))),
    (((h c).2.2.2.2.2.2.2.2.1).trans (val_main_v90_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (v90_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (h c).2.2.2.2.2.2.2.2.2⟩)
    (Cert.Reference4Ideal.Value.run (F := Ideal) m ρ)

end Cert.Reference4Ideal.Hand
-- ==== Proof.SampValue.lean ====
/- The projection's value claim at the sample's shapes: the kernel with its constant named and the reference both end with the projections of
   the arguments. -/
module

public import proofs.«01_k».proof.Defs
public import proofs.«01_k».proof.Proof.SampVal
public import proofs.«01_k».proof.Proof.SampRef

@[expose] public section

set_option maxHeartbeats 1600000

noncomputable section

namespace Cert.SampValue

open Idealize.ShloMosaic Idealize.ShloMosaic.TcCoe Idealize.SL.Sem

/-- The two programs end with equal results, at the extended reals. -/
theorem algebraic : Cert.algebraic_Kernel4Ideal_Reference4Ideal (hKernel4Ideal := Cert.Kernel4Ideal.Gen.facts)
    (hReference4Ideal := Cert.Reference4Ideal.Gen.facts) := by
  intro m g m' g' _ hargs
  exact ⟨fun c => Cert.Samp.rows (Cert.Proj.mq (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))),
    fun c => Cert.Samp.rows (Cert.Proj.mk (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))),
    fun c => Cert.Samp.rows (Cert.Proj.mv (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))),
    fun c => Cert.Samp.rows (Cert.Proj.og (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))),
    fun c => Cert.Samp.rows (Cert.Proj.qn (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg6))),
    fun c => Cert.Samp.rows (Cert.Proj.ks (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg7))),
    fun c => Cert.Samp.rows (Cert.Proj.vs (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))),
    fun c => Cert.Samp.rows (Cert.Proj.ks (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg7))),
    fun c => Cert.Samp.blocks (Cert.Samp.rows (Cert.Proj.vs (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)))),
    Cert.Kernel4Ideal.Hand.run_rows m g,
    (θ_run Cert.Reference4Ideal.defs _ _).mono (fun r h c => ⟨(h c).1.trans (by obtain ⟨e0, e1, e2, e3, e4, e5, e6, e7⟩ := hargs c; rw [e0, e1, e2, e3, e4]),
      (h c).2.1.trans (by obtain ⟨e0, e1, e2, e3, e4, e5, e6, e7⟩ := hargs c; rw [e0, e1, e2, e3, e4]),
      (h c).2.2.1.trans (by obtain ⟨e0, e1, e2, e3, e4, e5, e6, e7⟩ := hargs c; rw [e0, e1, e2, e3, e4]),
      (h c).2.2.2.1.trans (by obtain ⟨e0, e1, e2, e3, e4, e5, e6, e7⟩ := hargs c; rw [e0, e1, e2, e3, e4]),
      (h c).2.2.2.2.1.trans (by obtain ⟨e0, e1, e2, e3, e4, e5, e6, e7⟩ := hargs c; rw [e0, e1, e2, e3, e4, e6]),
      (h c).2.2.2.2.2.1.trans (by obtain ⟨e0, e1, e2, e3, e4, e5, e6, e7⟩ := hargs c; rw [e0, e1, e2, e3, e4, e7]),
      (h c).2.2.2.2.2.2.1.trans (by obtain ⟨e0, e1, e2, e3, e4, e5, e6, e7⟩ := hargs c; rw [e0, e1, e2, e3, e4]),
      (h c).2.2.2.2.2.2.2.1.trans (by obtain ⟨e0, e1, e2, e3, e4, e5, e6, e7⟩ := hargs c; rw [e0, e1, e2, e3, e4, e7]),
      (h c).2.2.2.2.2.2.2.2.1.trans (by obtain ⟨e0, e1, e2, e3, e4, e5, e6, e7⟩ := hargs c; rw [e0, e1, e2, e3, e4]),
      (h c).2.2.2.2.2.2.2.2.2⟩) (Cert.Reference4Ideal.Hand.run_rows m' g')⟩

end Cert.SampValue
-- ==== Proof.lean ====
/- The certificate's claims, assembled for each of the four programs (the prompt's attention, the input projection at the
   prompt's and at the sample's shapes, the output projection): the frames of the kernel as printed and with its constants named, the reference's frame, what the
   named constants stand for, and the equality of the two programs' results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel2Ideal.Value
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.KFrame
public import proofs.«01_k».proof.Proof.Value
public import proofs.«01_k».proof.Proof.ProjValue
public import proofs.«01_k».proof.Proof.OutValue
public import proofs.«01_k».proof.Proof.SampValue
public import Idealize.ShloMosaic.Adequacy
public import Idealize.ShloMosaic.Init

@[expose] public section

noncomputable section

namespace Cert.Proof

open Idealize.ShloMosaic Idealize.SL.Sem Cert.Kernel

/-- The reference ends, its arguments as they were and every counter at zero. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel with its constants named ends, its arguments as they were and every counter at zero. -/
theorem frame_ideal : Cert.quiescent_KernelIdeal (hKernelIdeal := Cert.KernelIdeal.Gen.facts) := fun m g _ =>
  Cert.KernelIdeal.Hand.frame_run (F := Ideal) m g

/-- Each named constant stands for the real number its name says. -/
theorem named : Cert.preserves_Kernel_KernelIdeal :=
  ⟨IdealRules.named_const.statement Cert.KernelIdeal.κ "q_scale" .f32 0x3E38AA3B#32 _ rfl,
    IdealRules.named_const.statement Cert.KernelIdeal.κ "neg_log2e" .f32 0xBFB8AA3B#32 _ rfl,
    IdealRules.named_const.statement Cert.KernelIdeal.κ "log2e" .f32 0x3FB8AA3B#32 _ rfl⟩

/-- The projection as printed ends, its arguments as they were and every counter at zero. -/
theorem frame_kernel2 : Cert.quiescent_Kernel2 (hKernel2 := Cert.Kernel2.Gen.facts) := fun m g _ =>
  Cert.Kernel2.Gen.frame m g

/-- The projection with its constant named ends, its arguments as they were and every counter at zero. -/
theorem frame_ideal2 : Cert.quiescent_Kernel2Ideal (hKernel2Ideal := Cert.Kernel2Ideal.Gen.facts) := fun m g _ =>
  Cert.Kernel2Ideal.Gen.frame (F := Ideal) m g

/-- The projection's reference ends, its arguments as they were and every counter at zero. -/
theorem frame_reference2 : Cert.quiescent_Reference2Ideal (hReference2Ideal := Cert.Reference2Ideal.Gen.facts) := fun m g _ =>
  (θ_run Cert.Reference2Ideal.defs _ _).mono (fun r h => ⟨fun c => (h c).2.2.2.2.2.2.2.2.2, sem_eq_zero_of_no_sems (by decide) r.2⟩)
    (Cert.Reference2Ideal.Hand.run_rows m g)

/-- The named constant of the projection stands for the real number its name says. -/
theorem named2 : Cert.preserves_Kernel2_Kernel2Ideal :=
  IdealRules.named_const.statement Cert.Kernel2Ideal.κ "q_scale" .f32 0x3E38AA3B#32 _ rfl

/-- The output projection as printed ends, its arguments as they were and every counter at zero. -/
theorem frame_kernel3 : Cert.quiescent_Kernel3 (hKernel3 := Cert.Kernel3.Gen.facts) := fun m g _ =>
  Cert.Kernel3.Gen.frame m g

/-- The output projection over the extended reals ends, its arguments as they were and every counter at zero. -/
theorem frame_ideal3 : Cert.quiescent_Kernel3Ideal (hKernel3Ideal := Cert.Kernel3Ideal.Gen.facts) := fun m g _ =>
  Cert.Kernel3Ideal.Gen.frame (F := Ideal) m g

/-- The output projection's reference ends, its arguments as they were and every counter at zero. -/
theorem frame_reference3 : Cert.quiescent_Reference3Ideal (hReference3Ideal := Cert.Reference3Ideal.Gen.facts) := fun m g _ =>
  (θ_run Cert.Reference3Ideal.defs _ _).mono (fun r h => ⟨fun c => (h c).2.2.2.2, sem_eq_zero_of_no_sems (by decide) r.2⟩)
    (Cert.Reference3Ideal.Hand.run_rows m g)

/-- The output projection has no constant to name. -/
theorem named3 : Cert.preserves_Kernel3_Kernel3Ideal := trivial

/-- The projection at the sample's shapes as printed ends, its arguments as they were and every counter at zero. -/
theorem frame_kernel4 : Cert.quiescent_Kernel4 (hKernel4 := Cert.Kernel4.Gen.facts) := fun m g _ =>
  Cert.Kernel4.Gen.frame m g

/-- The projection at the sample's shapes with its constant named ends, its arguments as they were and every counter at zero. -/
theorem frame_ideal4 : Cert.quiescent_Kernel4Ideal (hKernel4Ideal := Cert.Kernel4Ideal.Gen.facts) := fun m g _ =>
  Cert.Kernel4Ideal.Gen.frame (F := Ideal) m g

/-- The projection's reference at the sample's shapes ends, its arguments as they were and every counter at zero. -/
theorem frame_reference4 : Cert.quiescent_Reference4Ideal (hReference4Ideal := Cert.Reference4Ideal.Gen.facts) := fun m g _ =>
  (θ_run Cert.Reference4Ideal.defs _ _).mono (fun r h => ⟨fun c => (h c).2.2.2.2.2.2.2.2.2, sem_eq_zero_of_no_sems (by decide) r.2⟩)
    (Cert.Reference4Ideal.Hand.run_rows m g)

/-- The named constant of the projection at the sample's shapes stands for the real number its name says. -/
theorem named4 : Cert.preserves_Kernel4_Kernel4Ideal :=
  IdealRules.named_const.statement Cert.Kernel4Ideal.κ "q_scale" .f32 0x3E38AA3B#32 _ rfl

/-- Everything that is claimed of the four programs. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.KernelIdeal.Hand.frame_kernel, frame_ideal, fun m g _ => frame_ideal m g trivial,
  frame_reference, fun m g _ => frame_reference m g trivial,
  frame_kernel2, frame_ideal2, frame_reference2, frame_kernel3, frame_ideal3, frame_reference3,
  frame_kernel4, frame_ideal4, frame_reference4,
  named, Cert.Value.algebraic, named2, Cert.ProjValue.algebraic, named3, Cert.OutValue.algebraic,
  named4, Cert.SampValue.algebraic⟩

end Cert.Proof

end
